-- ==== Defs.lean ====
def Pre_Kernel [hPre_groups_in_range : Cert.Pre_groups_in_range.Facts] (m : (ℓ : Loc Cert.Kernel.nD Cert.Kernel.τ Cert.Kernel.sig) → Buf (Elt Bits) ℓ) : Prop :=
  ∀ c : Dev Cert.Kernel.nD,
    (Cert.Pre_groups_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_groups_in_range : Cert.Pre_groups_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_groups_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_groups_in_range : Cert.Pre_groups_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_groups_in_range : Cert.Pre_groups_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_groups_in_range : Cert.Pre_groups_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_groups_in_range : Cert.Pre_groups_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_groups_in_range : Cert.Pre_groups_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v21_0)) (v1 : (c : Dev Cert.Kernel2Ideal.nD) → Buf (Elt Ideal) ((c.tc : Thread Cert.Kernel2Ideal.nD Cert.Kernel2Ideal.τ).loc Cert.Kernel2Ideal.main_v21_1)) (v2 : (c : Dev Cert.Kernel2Ideal.nD) → Buf (Elt Ideal) ((c.tc : Thread Cert.Kernel2Ideal.nD Cert.Kernel2Ideal.τ).loc Cert.Kernel2Ideal.main_v21_2)) (v3 : (c : Dev Cert.Kernel2Ideal.nD) → Buf (Elt Ideal) ((c.tc : Thread Cert.Kernel2Ideal.nD Cert.Kernel2Ideal.τ).loc Cert.Kernel2Ideal.main_v21_3)) (v4 : (c : Dev Cert.Kernel2Ideal.nD) → Buf (Elt Ideal) ((c.tc : Thread Cert.Kernel2Ideal.nD Cert.Kernel2Ideal.τ).loc Cert.Kernel2Ideal.main_v21_4)) (v5 : (c : Dev Cert.Kernel2Ideal.nD) → Buf (Elt Ideal) ((c.tc : Thread Cert.Kernel2Ideal.nD Cert.Kernel2Ideal.τ).loc Cert.Kernel2Ideal.main_v21_5)) (v6 : (c : Dev Cert.Kernel2Ideal.nD) → Buf (Elt Ideal) ((c.tc : Thread Cert.Kernel2Ideal.nD Cert.Kernel2Ideal.τ).loc Cert.Kernel2Ideal.main_v21_6)) (v7 : (c : Dev Cert.Kernel2Ideal.nD) → Buf (Elt Ideal) ((c.tc : Thread Cert.Kernel2Ideal.nD Cert.Kernel2Ideal.τ).loc Cert.Kernel2Ideal.main_v21_7)) (v8 : (c : Dev Cert.Kernel2Ideal.nD) → Buf (Elt Ideal) ((c.tc : Thread Cert.Kernel2Ideal.nD Cert.Kernel2Ideal.τ).loc Cert.Kernel2Ideal.main_v21_8)) (v9 : (c : Dev Cert.Kernel2Ideal.nD) → Buf (Elt Ideal) ((c.tc : Thread Cert.Kernel2Ideal.nD Cert.Kernel2Ideal.τ).loc Cert.Kernel2Ideal.main_v21_9)) (v10 : (c : Dev Cert.Kernel2Ideal.nD) → Buf (Elt Ideal) ((c.tc : Thread Cert.Kernel2Ideal.nD Cert.Kernel2Ideal.τ).loc Cert.Kernel2Ideal.main_v21_10)) (v11 : (c : Dev Cert.Kernel2Ideal.nD) → Buf (Elt Ideal) ((c.tc : Thread Cert.Kernel2Ideal.nD Cert.Kernel2Ideal.τ).loc Cert.Kernel2Ideal.main_v21_11)) (v12 : (c : Dev Cert.Kernel2Ideal.nD) → Buf (Elt Ideal) ((c.tc : Thread Cert.Kernel2Ideal.nD Cert.Kernel2Ideal.τ).loc Cert.Kernel2Ideal.main_v21_12)) (v13 : (c : Dev Cert.Kernel2Ideal.nD) → Buf (Elt Ideal) ((c.tc : Thread Cert.Kernel2Ideal.nD Cert.Kernel2Ideal.τ).loc Cert.Kernel2Ideal.main_v21_13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21_0) = v0 c
          ∧ r.2.mem ((c.tc : Thread Cert.Kernel2Ideal.nD Cert.Kernel2Ideal.τ).loc Cert.Kernel2Ideal.main_v21_1) = v1 c
          ∧ r.2.mem ((c.tc : Thread Cert.Kernel2Ideal.nD Cert.Kernel2Ideal.τ).loc Cert.Kernel2Ideal.main_v21_2) = v2 c
          ∧ r.2.mem ((c.tc : Thread Cert.Kernel2Ideal.nD Cert.Kernel2Ideal.τ).loc Cert.Kernel2Ideal.main_v21_3) = v3 c
          ∧ r.2.mem ((c.tc : Thread Cert.Kernel2Ideal.nD Cert.Kernel2Ideal.τ).loc Cert.Kernel2Ideal.main_v21_4) = v4 c
          ∧ r.2.mem ((c.tc : Thread Cert.Kernel2Ideal.nD Cert.Kernel2Ideal.τ).loc Cert.Kernel2Ideal.main_v21_5) = v5 c
          ∧ r.2.mem ((c.tc : Thread Cert.Kernel2Ideal.nD Cert.Kernel2Ideal.τ).loc Cert.Kernel2Ideal.main_v21_6) = v6 c
          ∧ r.2.mem ((c.tc : Thread Cert.Kernel2Ideal.nD Cert.Kernel2Ideal.τ).loc Cert.Kernel2Ideal.main_v21_7) = v7 c
          ∧ r.2.mem ((c.tc : Thread Cert.Kernel2Ideal.nD Cert.Kernel2Ideal.τ).loc Cert.Kernel2Ideal.main_v21_8) = v8 c
          ∧ r.2.mem ((c.tc : Thread Cert.Kernel2Ideal.nD Cert.Kernel2Ideal.τ).loc Cert.Kernel2Ideal.main_v21_9) = v9 c
          ∧ r.2.mem ((c.tc : Thread Cert.Kernel2Ideal.nD Cert.Kernel2Ideal.τ).loc Cert.Kernel2Ideal.main_v21_10) = v10 c
          ∧ r.2.mem ((c.tc : Thread Cert.Kernel2Ideal.nD Cert.Kernel2Ideal.τ).loc Cert.Kernel2Ideal.main_v21_11) = v11 c
          ∧ r.2.mem ((c.tc : Thread Cert.Kernel2Ideal.nD Cert.Kernel2Ideal.τ).loc Cert.Kernel2Ideal.main_v21_12) = v12 c
          ∧ r.2.mem ((c.tc : Thread Cert.Kernel2Ideal.nD Cert.Kernel2Ideal.τ).loc Cert.Kernel2Ideal.main_v21_13) = v13 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_v24) = v2 c
          ∧ r.2.mem ((c.tc : Thread Cert.Reference2Ideal.nD Cert.Reference2Ideal.τ).loc Cert.Reference2Ideal.main_v57) = v3 c
          ∧ r.2.mem ((c.tc : Thread Cert.Reference2Ideal.nD Cert.Reference2Ideal.τ).loc Cert.Reference2Ideal.main_v65) = v4 c
          ∧ r.2.mem ((c.tc : Thread Cert.Reference2Ideal.nD Cert.Reference2Ideal.τ).loc Cert.Reference2Ideal.main_v66) = v5 c
          ∧ r.2.mem ((c.tc : Thread Cert.Reference2Ideal.nD Cert.Reference2Ideal.τ).loc Cert.Reference2Ideal.main_v74) = v6 c
          ∧ r.2.mem ((c.tc : Thread Cert.Reference2Ideal.nD Cert.Reference2Ideal.τ).loc Cert.Reference2Ideal.main_v75) = v7 c
          ∧ r.2.mem ((c.tc : Thread Cert.Reference2Ideal.nD Cert.Reference2Ideal.τ).loc Cert.Reference2Ideal.main_v91) = v8 c
          ∧ r.2.mem ((c.tc : Thread Cert.Reference2Ideal.nD Cert.Reference2Ideal.τ).loc Cert.Reference2Ideal.main_v108) = v9 c
          ∧ r.2.mem ((c.tc : Thread Cert.Reference2Ideal.nD Cert.Reference2Ideal.τ).loc Cert.Reference2Ideal.main_v109) = v10 c
          ∧ r.2.mem ((c.tc : Thread Cert.Reference2Ideal.nD Cert.Reference2Ideal.τ).loc Cert.Reference2Ideal.main_v20) = v11 c
          ∧ r.2.mem ((c.tc : Thread Cert.Reference2Ideal.nD Cert.Reference2Ideal.τ).loc Cert.Reference2Ideal.main_v115) = v12 c
          ∧ r.2.mem ((c.tc : Thread Cert.Reference2Ideal.nD Cert.Reference2Ideal.τ).loc Cert.Reference2Ideal.main_v121) = v13 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_v22) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v51)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v51) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v84) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_groups_in_range : Cert.Pre_groups_in_range.Facts),
    quiescent_Kernel (hKernel := hKernel) (hPre_groups_in_range := hPre_groups_in_range)
    ∧ quiescent_KernelIdeal (hKernelIdeal := hKernelIdeal) (hPre_groups_in_range := hPre_groups_in_range)
    ∧ quiescent_ReferenceIdeal (hReferenceIdeal := hReferenceIdeal) (hPre_groups_in_range := hPre_groups_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal) (hPre_groups_in_range := hPre_groups_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_groups_in_range.lean ====
abbrev S20 : Shape := ⟨1, ![20]⟩
abbrev S20480x512 : Shape := ⟨2, ![20480, 512]⟩
abbrev S20480x128 : Shape := ⟨2, ![20480, 128]⟩
abbrev S32x1024x256 : Shape := ⟨3, ![32, 1024, 256]⟩
abbrev S32x256x1024 : Shape := ⟨3, ![32, 256, 1024]⟩
abbrev S_ : Shape := ⟨0, ![]⟩

class Facts : Prop where
  bcast_S_S20 : S_.BroadcastsInDim S20 (![] : Fin 0 → Fin S20.rank)

variable [Facts]

def fn {F : FTy → Type} [FloatOps F] (main_arg0 : IVec S20 32) (main_arg1 : IVec S20 32) (main_arg2 : IVec S20480x512 32) (main_arg3 : FVec F S20480x128 .f32) (main_arg4 : FVec F S32x1024x256 .f32) (main_arg5 : FVec F S32x1024x256 .f32) (main_arg6 : FVec F S32x256x1024 .f32) : IVec S20 1 :=
  let main_c : IVec S_ 32 := constantI S_ 32 0#32
  let main_v0 : IVec S20 32 := broadcastInDim S20 ![] bcast_S_S20 main_c
  let main_v1 : IVec S20 1 := cmpi .sge main_arg0 main_v0
  let main_c_0 : IVec S_ 32 := constantI S_ 32 4#32
  let main_v2 : IVec S20 32 := broadcastInDim S20 ![] bcast_S_S20 main_c_0
  let main_v3 : IVec S20 1 := cmpi .slt main_arg0 main_v2
  let main_v4 : IVec S20 1 := andi main_v1 main_v3
  main_v4
-- ==== Kernel.lean ====
abbrev S20 : Shape := ⟨1, ![20]⟩
abbrev S20480x512 : Shape := ⟨2, ![20480, 512]⟩
abbrev S20480x128 : Shape := ⟨2, ![20480, 128]⟩
abbrev S32x1024x256 : Shape := ⟨3, ![32, 1024, 256]⟩
abbrev S32x256x1024 : Shape := ⟨3, ![32, 256, 1024]⟩
abbrev S20480x1024 : Shape := ⟨2, ![20480, 1024]⟩
abbrev S1024x512 : Shape := ⟨2, ![1024, 512]⟩
abbrev S1024x128 : Shape := ⟨2, ![1024, 128]⟩
abbrev S1x1024x256 : Shape := ⟨3, ![1, 1024, 256]⟩
abbrev S1 : Shape := ⟨1, ![1]⟩
abbrev S1x256x1024 : Shape := ⟨3, ![1, 256, 1024]⟩
abbrev S1024x1024 : Shape := ⟨2, ![1024, 1024]⟩
abbrev S1024x256 : Shape := ⟨2, ![1024, 256]⟩
abbrev S256x1024 : Shape := ⟨2, ![256, 1024]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S512x1024 : Shape := ⟨2, ![512, 1024]⟩

abbrev nBuf : Space → Nat
  | .hbm => 6
  | .vmem => 15
  | .smem => 2
  | _ => 0

abbrev bufTy : (tb : Table) → Fin (tcTables nBuf tb) → BufTy
  | .hbm, ⟨0, _⟩ => ⟨S20480x512, .i32⟩
  | .hbm, ⟨1, _⟩ => ⟨S20480x128, .f32⟩
  | .hbm, ⟨2, _⟩ => ⟨S32x1024x256, .f32⟩
  | .hbm, ⟨3, _⟩ => ⟨S32x1024x256, .f32⟩
  | .hbm, ⟨4, _⟩ => ⟨S32x256x1024, .f32⟩
  | .hbm, ⟨5, _⟩ => ⟨S20480x1024, .bf16⟩
  | .local _ .vmem, ⟨0, _⟩ => ⟨S1024x512, .i32⟩
  | .local _ .vmem, ⟨1, _⟩ => ⟨S1024x512, .i32⟩
  | .local _ .vmem, ⟨2, _⟩ => ⟨S1024x128, .f32⟩
  | .local _ .vmem, ⟨3, _⟩ => ⟨S1024x128, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x256x1024, .f32⟩
  | .local _ .vmem, ⟨9, _⟩ => ⟨S1x256x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x512, .bf16⟩
  | .local _ .vmem, ⟨13, _⟩ => ⟨S1024x512, .bf16⟩
  | .local _ .vmem, ⟨14, _⟩ => ⟨S1024x1024, .f32⟩
  | .local _ .smem, ⟨0, _⟩ => ⟨S20, .i32⟩
  | .local _ .smem, ⟨1, _⟩ => ⟨S20, .i32⟩
  | _, _ => ⟨S20480x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![20, 8], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v34 : Index := Scalar.indexCast arg0
  ![v34.toNat]
def k0_cond3 (i : grid0.Coords) : BitVec 1 :=
  let arg1 : BitVec 32 := BitVec.ofNat 32 (i 1).val
  let c7_i32 : BitVec 32 := 7#32
  let v8 : BitVec 1 := Scalar.cmpi .eq arg1 c7_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S20.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S20) ![v0.toNat] S1.size (k0_off1_inb i)) numel1_S1
  let c8_i32 : BitVec 32 := 8#32
  let v2 : BitVec 32 := Scalar.muli v1 c8_i32
  let v3 : BitVec 32 := Scalar.addi v2 arg1
  let c0_i32 : BitVec 32 := 0#32
  let c0_i32_0 : BitVec 32 := 0#32
  let c0_i32_1 : BitVec 32 := 0#32
  ![v3.toNat, c0_i32.toNat, c0_i32_0.toNat]

def cc0_transform_3 (k0_off1_inb : ∀ i : grid0.Coords, ∀ a, (k0_off1 i) a + S1.size a ≤ S20.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S20) ![v0.toNat] S1.size (k0_off1_inb i)) numel1_S1
  let c8_i32 : BitVec 32 := 8#32
  let v2 : BitVec 32 := Scalar.muli v1 c8_i32
  let v3 : BitVec 32 := Scalar.addi v2 arg1
  let c0_i32 : BitVec 32 := 0#32
  let c0_i32_0 : BitVec 32 := 0#32
  let c0_i32_1 : BitVec 32 := 0#32
  ![v3.toNat, c0_i32.toNat, c0_i32_0.toNat]

def cc0_transform_4 (k0_off1_inb : ∀ i : grid0.Coords, ∀ a, (k0_off1 i) a + S1.size a ≤ S20.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S20) ![v0.toNat] S1.size (k0_off1_inb i)) numel1_S1
  let c8_i32 : BitVec 32 := 8#32
  let v2 : BitVec 32 := Scalar.muli v1 c8_i32
  let v3 : BitVec 32 := Scalar.addi v2 arg1
  let c0_i32 : BitVec 32 := 0#32
  let c0_i32_0 : BitVec 32 := 0#32
  let c0_i32_1 : BitVec 32 := 0#32
  ![v3.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S20 : Shape := ⟨1, ![20]⟩
abbrev S20480x512 : Shape := ⟨2, ![20480, 512]⟩
abbrev S20480x128 : Shape := ⟨2, ![20480, 128]⟩
abbrev S32x1024x256 : Shape := ⟨3, ![32, 1024, 256]⟩
abbrev S32x256x1024 : Shape := ⟨3, ![32, 256, 1024]⟩
abbrev S_ : Shape := ⟨0, ![]⟩
abbrev S20480x1024 : Shape := ⟨2, ![20480, 1024]⟩
abbrev S20x1024 : Shape := ⟨2, ![20, 1024]⟩
abbrev S20480 : Shape := ⟨1, ![20480]⟩
abbrev S20480x1 : Shape := ⟨2, ![20480, 1]⟩
abbrev S32 : Shape := ⟨1, ![32]⟩
abbrev S1x32 : Shape := ⟨2, ![1, 32]⟩
abbrev S20480x32 : Shape := ⟨2, ![20480, 32]⟩
abbrev S32x20480 : Shape := ⟨2, ![32, 20480]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S1x20480 : Shape := ⟨2, ![1, 20480]⟩
abbrev S20480x256 : Shape := ⟨2, ![20480, 256]⟩

abbrev nBuf : Space → Nat
  | .hbm => 103
  | .vmem => 0
  | .smem => 0
  | _ => 0

abbrev bufTy : (tb : Table) → Fin (tcTables nBuf tb) → BufTy
  | .hbm, ⟨0, _⟩ => ⟨S20, .i32⟩
  | .hbm, ⟨1, _⟩ => ⟨S20, .i32⟩
  | .hbm, ⟨2, _⟩ => ⟨S20480x512, .i32⟩
  | .hbm, ⟨3, _⟩ => ⟨S20480x128, .f32⟩
  | .hbm, ⟨4, _⟩ => ⟨S32x1024x256, .f32⟩
  | .hbm, ⟨5, _⟩ => ⟨S32x1024x256, .f32⟩
  | .hbm, ⟨6, _⟩ => ⟨S32x256x1024, .f32⟩
  | .hbm, ⟨7, _⟩ => ⟨S_, .i32⟩
  | .hbm, ⟨8, _⟩ => ⟨S20480x512, .i32⟩
  | .hbm, ⟨9, _⟩ => ⟨S20480x512, .i32⟩
  | .hbm, ⟨10, _⟩ => ⟨S20480x512, .f32⟩
  | .hbm, ⟨11, _⟩ => ⟨S_, .i32⟩
  | .hbm, ⟨12, _⟩ => ⟨S20480x512, .i32⟩
  | .hbm, ⟨13, _⟩ => ⟨S20480x512, .i32⟩
  | .hbm, ⟨14, _⟩ => ⟨S20480x512, .f32⟩
  | .hbm, ⟨15, _⟩ => ⟨S20480x1024, .f32⟩
  | .hbm, ⟨16, _⟩ => ⟨S20x1024, .i32⟩
  | .hbm, ⟨17, _⟩ => ⟨S20480, .i32⟩
  | .hbm, ⟨18, _⟩ => ⟨S20480x1, .i32⟩
  | .hbm, ⟨19, _⟩ => ⟨S20x1024, .i32⟩
  | .hbm, ⟨20, _⟩ => ⟨S20480, .i32⟩
  | .hbm, ⟨21, _⟩ => ⟨S20480x1, .i32⟩
  | .hbm, ⟨22, _⟩ => ⟨S_, .i32⟩
  | .hbm, ⟨23, _⟩ => ⟨S20480x1, .i32⟩
  | .hbm, ⟨24, _⟩ => ⟨S20480x1, .i1⟩
  | .hbm, ⟨25, _⟩ => ⟨S32, .i32⟩
  | .hbm, ⟨26, _⟩ => ⟨S1x32, .i32⟩
  | .hbm, ⟨27, _⟩ => ⟨S_, .i32⟩
  | .hbm, ⟨28, _⟩ => ⟨S_, .i32⟩
  | .hbm, ⟨29, _⟩ => ⟨S1x32, .i32⟩
  | .hbm, ⟨30, _⟩ => ⟨S1x32, .i32⟩
  | .hbm, ⟨31, _⟩ => ⟨S1x32, .i32⟩
  | .hbm, ⟨32, _⟩ => ⟨S_, .i32⟩
  | .hbm, ⟨33, _⟩ => ⟨S1x32, .i32⟩
  | .hbm, ⟨34, _⟩ => ⟨S1x32, .i1⟩
  | .hbm, ⟨35, _⟩ => ⟨S1x32, .i32⟩
  | .hbm, ⟨36, _⟩ => ⟨S1x32, .i32⟩
  | .hbm, ⟨37, _⟩ => ⟨S_, .i32⟩
  | .hbm, ⟨38, _⟩ => ⟨S1x32, .i32⟩
  | .hbm, ⟨39, _⟩ => ⟨S1x32, .i1⟩
  | .hbm, ⟨40, _⟩ => ⟨S1x32, .i1⟩
  | .hbm, ⟨41, _⟩ => ⟨S_, .i32⟩
  | .hbm, ⟨42, _⟩ => ⟨S1x32, .i32⟩
  | .hbm, ⟨43, _⟩ => ⟨S1x32, .i32⟩
  | .hbm, ⟨44, _⟩ => ⟨S1x32, .i32⟩
  | .hbm, ⟨45, _⟩ => ⟨S20480x32, .i32⟩
  | .hbm, ⟨46, _⟩ => ⟨S20480x32, .i32⟩
  | .hbm, ⟨47, _⟩ => ⟨S20480x32, .i1⟩
  | .hbm, ⟨48, _⟩ => ⟨S20480x32, .i1⟩
  | .hbm, ⟨49, _⟩ => ⟨S20480x32, .i1⟩
  | .hbm, ⟨50, _⟩ => ⟨S20480x32, .f32⟩
  | .hbm, ⟨51, _⟩ => ⟨S_, .f32⟩
  | .hbm, ⟨52, _⟩ => ⟨S_, .f32⟩
  | .hbm, ⟨53, _⟩ => ⟨S20480x32, .f32⟩
  | .hbm, ⟨54, _⟩ => ⟨S20480x32, .f32⟩
  | .hbm, ⟨55, _⟩ => ⟨S_, .f32⟩
  | .hbm, ⟨56, _⟩ => ⟨S20480x1024, .f32⟩
  | .hbm, ⟨57, _⟩ => ⟨S32x20480, .f32⟩
  | .hbm, ⟨58, _⟩ => ⟨S_, .i32⟩
  | .hbm, ⟨59, _⟩ => ⟨S32x1024x256, .f32⟩
  | .hbm, ⟨60, _⟩ => ⟨S32x1024x256, .f32⟩
  | .hbm, ⟨61, _⟩ => ⟨S32x256x1024, .f32⟩
  | .hbm, ⟨62, _⟩ => ⟨S32x20480, .f32⟩
  | .hbm, ⟨63, _⟩ => ⟨S20480x1024, .f32⟩
  | .hbm, ⟨64, _⟩ => ⟨S_, .i32⟩
  | .hbm, ⟨65, _⟩ => ⟨S20480x1024, .f32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S1x1024x256, .f32⟩
  | .hbm, ⟨71, _⟩ => ⟨S1024x256, .f32⟩
  | .hbm, ⟨72, _⟩ => ⟨S_, .i32⟩
  | .hbm, ⟨73, _⟩ => ⟨S_, .i32⟩
  | .hbm, ⟨74, _⟩ => ⟨S1x1024x256, .f32⟩
  | .hbm, ⟨75, _⟩ => ⟨S1024x256, .f32⟩
  | .hbm, ⟨76, _⟩ => ⟨S_, .i32⟩
  | .hbm, ⟨77, _⟩ => ⟨S_, .i32⟩
  | .hbm, ⟨78, _⟩ => ⟨S1x256x1024, .f32⟩
  | .hbm, ⟨79, _⟩ => ⟨S256x1024, .f32⟩
  | .hbm, ⟨80, _⟩ => ⟨S_, .i32⟩
  | .hbm, ⟨81, _⟩ => ⟨S1x20480, .f32⟩
  | .hbm, ⟨82, _⟩ => ⟨S20480, .f32⟩
  | .hbm, ⟨83, _⟩ => ⟨S20480x256, .f32⟩
  | .hbm, ⟨84, _⟩ => ⟨S20480x256, .f32⟩
  | .hbm, ⟨85, _⟩ => ⟨S20480x256, .f32⟩
  | .hbm, ⟨86, _⟩ => ⟨S_, .f32⟩
  | .hbm, ⟨87, _⟩ => ⟨S20480x256, .f32⟩
  | .hbm, ⟨88, _⟩ => ⟨S20480x256, .f32⟩
  | .hbm, ⟨89, _⟩ => ⟨S_, .f32⟩
  | .hbm, ⟨90, _⟩ => ⟨S20480x256, .f32⟩
  | .hbm, ⟨91, _⟩ => ⟨S20480x256, .f32⟩
  | .hbm, ⟨92, _⟩ => ⟨S20480x256, .f32⟩
  | .hbm, ⟨93, _⟩ => ⟨S20480x256, .f32⟩
  | .hbm, ⟨94, _⟩ => ⟨S20480x256, .f32⟩
  | .hbm, ⟨95, _⟩ => ⟨S20480x1024, .f32⟩
  | .hbm, ⟨96, _⟩ => ⟨S20480x1, .f32⟩
  | .hbm, ⟨97, _⟩ => ⟨S20480x1024, .f32⟩
  | .hbm, ⟨98, _⟩ => ⟨S20480x1024, .f32⟩
  | .hbm, ⟨99, _⟩ => ⟨S20480x1024, .f32⟩
  | .hbm, ⟨100, _⟩ => ⟨S_, .i32⟩
  | .hbm, ⟨101, _⟩ => ⟨S_, .i32⟩
  | .hbm, ⟨102, _⟩ => ⟨S20480x1024, .bf16⟩
  | _, _ => ⟨S20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst : Ref sig .tc := ⟨.hbm, 51, rfl⟩
abbrev main_call1_v0 : Ref sig .tc := ⟨.hbm, 52, rfl⟩
abbrev main_call1_v1 : Ref sig .tc := ⟨.hbm, 53, rfl⟩
abbrev main_v24 : Ref sig .tc := ⟨.hbm, 54, rfl⟩
abbrev main_cst_3 : Ref sig .tc := ⟨.hbm, 55, rfl⟩
abbrev main_v25 : Ref sig .tc := ⟨.hbm, 56, rfl⟩
abbrev main_v26 : Ref sig .tc := ⟨.hbm, 57, rfl⟩
abbrev main_c_4 : Ref sig .tc := ⟨.hbm, 58, rfl⟩
abbrev main_v27_0 : Ref sig .tc := ⟨.hbm, 59, rfl⟩
abbrev main_v27_1 : Ref sig .tc := ⟨.hbm, 60, rfl⟩
abbrev main_v27_2 : Ref sig .tc := ⟨.hbm, 61, rfl⟩
abbrev main_v27_3 : Ref sig .tc := ⟨.hbm, 62, rfl⟩
abbrev main_v27_4 : Ref sig .tc := ⟨.hbm, 63, rfl⟩
abbrev main_v27_5 : Ref sig .tc := ⟨.hbm, 64, rfl⟩
abbrev main_v27_6 : Ref sig .tc := ⟨.hbm, 65, rfl⟩
abbrev main_while0c_c_11 : Ref sig .tc := ⟨.hbm, 66, rfl⟩
abbrev main_while0c_v29 : Ref sig .tc := ⟨.hbm, 67, rfl⟩
abbrev main_while0b_call2_c : Ref sig .tc := ⟨.hbm, 68, rfl⟩
abbrev main_while0b_call2_c_0 : Ref sig .tc := ⟨.hbm, 69, rfl⟩
abbrev main_while0b_call2_v0 : Ref sig .tc := ⟨.hbm, 70, rfl⟩
abbrev main_while0b_v29 : Ref sig .tc := ⟨.hbm, 71, rfl⟩
abbrev main_while0b_call3_c : Ref sig .tc := ⟨.hbm, 72, rfl⟩
abbrev main_while0b_call3_c_0 : Ref sig .tc := ⟨.hbm, 73, rfl⟩
abbrev main_while0b_call3_v0 : Ref sig .tc := ⟨.hbm, 74, rfl⟩
abbrev main_while0b_v30 : Ref sig .tc := ⟨.hbm, 75, rfl⟩
abbrev main_while0b_call4_c : Ref sig .tc := ⟨.hbm, 76, rfl⟩
abbrev main_while0b_call4_c_0 : Ref sig .tc := ⟨.hbm, 77, rfl⟩
abbrev main_while0b_call4_v0 : Ref sig .tc := ⟨.hbm, 78, rfl⟩
abbrev main_while0b_v31 : Ref sig .tc := ⟨.hbm, 79, rfl⟩
abbrev main_while0b_call5_c : Ref sig .tc := ⟨.hbm, 80, rfl⟩
abbrev main_while0b_call5_v0 : Ref sig .tc := ⟨.hbm, 81, rfl⟩
abbrev main_while0b_v32 : Ref sig .tc := ⟨.hbm, 82, rfl⟩
abbrev main_while0b_v33 : Ref sig .tc := ⟨.hbm, 83, rfl⟩
abbrev main_while0b_call6_v0 : Ref sig .tc := ⟨.hbm, 84, rfl⟩
abbrev main_while0b_call6_v1 : Ref sig .tc := ⟨.hbm, 85, rfl⟩
abbrev main_while0b_call6_cst : Ref sig .tc := ⟨.hbm, 86, rfl⟩
abbrev main_while0b_call6_v2 : Ref sig .tc := ⟨.hbm, 87, rfl⟩
abbrev main_while0b_call6_v3 : Ref sig .tc := ⟨.hbm, 88, rfl⟩
abbrev main_while0b_call6_cst_0 : Ref sig .tc := ⟨.hbm, 89, rfl⟩
abbrev main_while0b_call6_v4 : Ref sig .tc := ⟨.hbm, 90, rfl⟩
abbrev main_while0b_call6_v5 : Ref sig .tc := ⟨.hbm, 91, rfl⟩
abbrev main_while0b_v34 : Ref sig .tc := ⟨.hbm, 92, rfl⟩
abbrev main_while0b_v35 : Ref sig .tc := ⟨.hbm, 93, rfl⟩
abbrev main_while0b_v36 : Ref sig .tc := ⟨.hbm, 94, rfl⟩
abbrev main_while0b_v37 : Ref sig .tc := ⟨.hbm, 95, rfl⟩
abbrev main_while0b_v38 : Ref sig .tc := ⟨.hbm, 96, rfl⟩
abbrev main_while0b_v39 : Ref sig .tc := ⟨.hbm, 97, rfl⟩
abbrev main_while0b_v40 : Ref sig .tc := ⟨.hbm, 98, rfl⟩
abbrev main_while0b_v41 : Ref sig .tc := ⟨.hbm, 99, rfl⟩
abbrev main_while0b_c_11 : Ref sig .tc := ⟨.hbm, 100, rfl⟩
abbrev main_while0b_v42 : Ref sig .tc := ⟨.hbm, 101, rfl⟩
abbrev main_v28 : Ref sig .tc := ⟨.hbm, 102, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S16384x1024 : Shape := ⟨2, ![16384, 1024]⟩
abbrev S1024 : Shape := ⟨1, ![1024]⟩
abbrev S1024x6424 : Shape := ⟨2, ![1024, 6424]⟩
abbrev S1024x512 : Shape := ⟨2, ![1024, 512]⟩
abbrev S1024x768 : Shape := ⟨2, ![1024, 768]⟩
abbrev S1024x1024 : Shape := ⟨2, ![1024, 1024]⟩
abbrev S1024x24 : Shape := ⟨2, ![1024, 24]⟩
abbrev S_ : Shape := ⟨0, ![]⟩
abbrev S1024x104 : Shape := ⟨2, ![1024, 104]⟩
abbrev S1024x6528 : Shape := ⟨2, ![1024, 6528]⟩
abbrev S64 : Shape := ⟨1, ![64]⟩
abbrev S128 : Shape := ⟨1, ![128]⟩
abbrev S1x128 : Shape := ⟨2, ![1, 128]⟩
abbrev S1x1024 : Shape := ⟨2, ![1, 1024]⟩
abbrev S512x16384 : Shape := ⟨2, ![512, 16384]⟩
abbrev S16384x128 : Shape := ⟨2, ![16384, 128]⟩
abbrev S160x16384 : Shape := ⟨2, ![160, 16384]⟩
abbrev S128x16384 : Shape := ⟨2, ![128, 16384]⟩
abbrev S16384x512 : Shape := ⟨2, ![16384, 512]⟩
abbrev S512x1024 : Shape := ⟨2, ![512, 1024]⟩
abbrev S512x512 : Shape := ⟨2, ![512, 512]⟩
abbrev S512x128 : Shape := ⟨2, ![512, 128]⟩
abbrev S160x512 : Shape := ⟨2, ![160, 512]⟩
abbrev S128x512 : Shape := ⟨2, ![128, 512]⟩
abbrev S512 : Shape := ⟨1, ![512]⟩
abbrev S512x1 : Shape := ⟨2, ![512, 1]⟩
abbrev S512x768 : Shape := ⟨2, ![512, 768]⟩
abbrev S16x512 : Shape := ⟨2, ![16, 512]⟩
abbrev S64x512 : Shape := ⟨2, ![64, 512]⟩
abbrev S1024x128 : Shape := ⟨2, ![1024, 128]⟩
abbrev S256x128 : Shape := ⟨2, ![256, 128]⟩

abbrev nBuf : Space → Nat
  | .hbm => 41
  | .vmem => 33
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6424, .f32⟩
  | .hbm, ⟨3, _⟩ => ⟨S1024x512, .f32⟩
  | .hbm, ⟨4, _⟩ => ⟨S1024x768, .f32⟩
  | .hbm, ⟨5, _⟩ => ⟨S1024x512, .f32⟩
  | .hbm, ⟨6, _⟩ => ⟨S1024x512, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x24, .f32⟩
  | .hbm, ⟨12, _⟩ => ⟨S_, .f32⟩
  | .hbm, ⟨13, _⟩ => ⟨S1024x104, .f32⟩
  | .hbm, ⟨14, _⟩ => ⟨S1024x6528, .f32⟩
  | .hbm, ⟨15, _⟩ => ⟨S1024x6528, .bf16⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S128, .f32⟩
  | .hbm, ⟨25, _⟩ => ⟨S1x128, .f32⟩
  | .hbm, ⟨26, _⟩ => ⟨S1x1024, .f32⟩
  | .hbm, ⟨27, _⟩ => ⟨S512x16384, .bf16⟩
  | .hbm, ⟨28, _⟩ => ⟨S16384x128, .f32⟩
  | .hbm, ⟨29, _⟩ => ⟨S16384x128, .f32⟩
  | .hbm, ⟨30, _⟩ => ⟨S16384x128, .bf16⟩
  | .hbm, ⟨31, _⟩ => ⟨S160x16384, .bf16⟩
  | .hbm, ⟨32, _⟩ => ⟨S16384x128, .bf16⟩
  | .hbm, ⟨33, _⟩ => ⟨S160x16384, .bf16⟩
  | .hbm, ⟨34, _⟩ => ⟨S128x16384, .f32⟩
  | .hbm, ⟨35, _⟩ => ⟨S16384x512, .bf16⟩
  | .hbm, ⟨36, _⟩ => ⟨S16384x512, .f32⟩
  | .hbm, ⟨37, _⟩ => ⟨S16384x1024, .bf16⟩
  | .hbm, ⟨38, _⟩ => ⟨S16384x1024, .f32⟩
  | .hbm, ⟨39, _⟩ => ⟨S16384x1024, .f32⟩
  | .hbm, ⟨40, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6528, .bf16⟩
  | .local _ .vmem, ⟨4, _⟩ => ⟨S1x128, .f32⟩
  | .local _ .vmem, ⟨5, _⟩ => ⟨S512x512, .bf16⟩
  | .local _ .vmem, ⟨6, _⟩ => ⟨S512x512, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .bf16⟩
  | .local _ .vmem, ⟨12, _⟩ => ⟨S512x128, .bf16⟩
  | .local _ .vmem, ⟨13, _⟩ => ⟨S160x512, .bf16⟩
  | .local _ .vmem, ⟨14, _⟩ => ⟨S160x512, .bf16⟩
  | .local _ .vmem, ⟨15, _⟩ => ⟨S512x128, .bf16⟩
  | .local _ .vmem, ⟨16, _⟩ => ⟨S512x128, .bf16⟩
  | .local _ .vmem, ⟨17, _⟩ => ⟨S160x512, .bf16⟩
  | .local _ .vmem, ⟨18, _⟩ => ⟨S160x512, .bf16⟩
  | .local _ .vmem, ⟨19, _⟩ => ⟨S128x512, .f32⟩
  | .local _ .vmem, ⟨20, _⟩ => ⟨S128x512, .f32⟩
  | .local _ .vmem, ⟨21, _⟩ => ⟨S512x512, .bf16⟩
  | .local _ .vmem, ⟨22, _⟩ => ⟨S512x512, .bf16⟩
  | .local _ .vmem, ⟨23, _⟩ => ⟨S512x512, .f32⟩
  | .local _ .vmem, ⟨24, _⟩ => ⟨S512x512, .f32⟩
  | .local _ .vmem, ⟨25, _⟩ => ⟨S512x1024, .bf16⟩
  | .local _ .vmem, ⟨26, _⟩ => ⟨S512x1024, .bf16⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21_0 : Ref sig .tc := ⟨.hbm, 27, rfl⟩
abbrev main_v21_1 : Ref sig .tc := ⟨.hbm, 28, rfl⟩
abbrev main_v21_2 : Ref sig .tc := ⟨.hbm, 29, rfl⟩
abbrev main_v21_3 : Ref sig .tc := ⟨.hbm, 30, rfl⟩
abbrev main_v21_4 : Ref sig .tc := ⟨.hbm, 31, rfl⟩
abbrev main_v21_5 : Ref sig .tc := ⟨.hbm, 32, rfl⟩
abbrev main_v21_6 : Ref sig .tc := ⟨.hbm, 33, rfl⟩
abbrev main_v21_7 : Ref sig .tc := ⟨.hbm, 34, rfl⟩
abbrev main_v21_8 : Ref sig .tc := ⟨.hbm, 35, rfl⟩
abbrev main_v21_9 : Ref sig .tc := ⟨.hbm, 36, rfl⟩
abbrev main_v21_10 : Ref sig .tc := ⟨.hbm, 37, rfl⟩
abbrev main_v21_11 : Ref sig .tc := ⟨.hbm, 38, rfl⟩
abbrev main_v21_12 : Ref sig .tc := ⟨.hbm, 39, rfl⟩
abbrev main_v21_13 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6528 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S160x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S160x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference2Ideal.lean ====
abbrev S16384x1024 : Shape := ⟨2, ![16384, 1024]⟩
abbrev S1024 : Shape := ⟨1, ![1024]⟩
abbrev S1024x6424 : Shape := ⟨2, ![1024, 6424]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x6424 : Shape := ⟨2, ![16384, 6424]⟩
abbrev S16384x512 : Shape := ⟨2, ![16384, 512]⟩
abbrev S16384x768 : Shape := ⟨2, ![16384, 768]⟩
abbrev S16384x24 : Shape := ⟨2, ![16384, 24]⟩
abbrev S16384x128 : Shape := ⟨2, ![16384, 128]⟩
abbrev S64 : Shape := ⟨1, ![64]⟩
abbrev S1x64 : Shape := ⟨2, ![1, 64]⟩
abbrev S16384x64 : Shape := ⟨2, ![16384, 64]⟩
abbrev S16384x1x64 : Shape := ⟨3, ![16384, 1, 64]⟩
abbrev S512x16384 : Shape := ⟨2, ![512, 16384]⟩
abbrev S1x16384 : Shape := ⟨2, ![1, 16384]⟩
abbrev S15x16384 : Shape := ⟨2, ![15, 16384]⟩
abbrev S64x16384 : Shape := ⟨2, ![64, 16384]⟩
abbrev S160x16384 : Shape := ⟨2, ![160, 16384]⟩
abbrev S128x16384 : Shape := ⟨2, ![128, 16384]⟩
abbrev S16384x4x128 : Shape := ⟨3, ![16384, 4, 128]⟩
abbrev S16384x4x64 : Shape := ⟨3, ![16384, 4, 64]⟩

abbrev nBuf : Space → Nat
  | .hbm => 144
  | .vmem => 0
  | .smem => 0
  | _ => 0

abbrev hbmTy0_0 (i : Nat) : BufTy := match i % 128 with
  | 0 => ⟨S16384x1024, .f32⟩
  | 1 => ⟨S1024, .f32⟩
  | 2 => ⟨S1024x6424, .f32⟩
  | 3 => ⟨S16384x1024, .f32⟩
  | 4 => ⟨S_, .f32⟩
  | 5 => ⟨S16384, .f32⟩
  | 6 => ⟨S16384x1, .f32⟩
  | 7 => ⟨S_, .f32⟩
  | 8 => ⟨S16384x1, .f32⟩
  | 9 => ⟨S16384x1, .f32⟩
  | 10 => ⟨S_, .f32⟩
  | 11 => ⟨S16384x1, .f32⟩
  | 12 => ⟨S16384x1, .f32⟩
  | 13 => ⟨S16384x1, .f32⟩
  | 14 => ⟨S16384x1024, .f32⟩
  | 15 => ⟨S16384x1024, .f32⟩
  | 16 => ⟨S1x1024, .f32⟩
  | 17 => ⟨S16384x1024, .f32⟩
  | 18 => ⟨S16384x1024, .f32⟩
  | 19 => ⟨S16384x6424, .f32⟩
  | 20 => ⟨S16384x512, .f32⟩
  | 21 => ⟨S16384x768, .f32⟩
  | 22 => ⟨S16384x24, .f32⟩
  | 23 => ⟨S16384x512, .f32⟩
  | 24 => ⟨S16384x512, .f32⟩
  | 25 => ⟨S16384x1024, .f32⟩
  | 26 => ⟨S16384x1024, .f32⟩
  | 27 => ⟨S16384x1024, .f32⟩
  | 28 => ⟨S16384x1024, .f32⟩
  | 29 => ⟨S16384x128, .f32⟩
  | 30 => ⟨S16384x128, .f32⟩
  | 31 => ⟨S16384x128, .f32⟩
  | 32 => ⟨S16384x128, .f32⟩
  | 33 => ⟨S16384x128, .f32⟩
  | 34 => ⟨S16384x128, .f32⟩
  | 35 => ⟨S64, .f32⟩
  | 36 => ⟨S64, .f32⟩
  | 37 => ⟨S_, .f32⟩
  | 38 => ⟨S64, .f32⟩
  | 39 => ⟨S64, .f32⟩
  | 40 => ⟨S_, .f32⟩
  | 41 => ⟨S64, .f32⟩
  | 42 => ⟨S64, .f32⟩
  | 43 => ⟨S16384, .i32⟩
  | 44 => ⟨S16384x1, .i32⟩
  | 45 => ⟨S16384x1, .f32⟩
  | 46 => ⟨S1x64, .f32⟩
  | 47 => ⟨S16384x64, .f32⟩
  | 48 => ⟨S16384x64, .f32⟩
  | 49 => ⟨S16384x64, .f32⟩
  | 50 => ⟨S16384x64, .f32⟩
  | 51 => ⟨S16384x1x64, .f32⟩
  | 52 => ⟨S16384x64, .f32⟩
  | 53 => ⟨S16384x1x64, .f32⟩
  | 54 => ⟨S_, .i32⟩
  | 55 => ⟨S_, .f32⟩
  | 56 => ⟨S16384x128, .f32⟩
  | 57 => ⟨S16384x128, .f32⟩
  | 58 => ⟨S16384x128, .f32⟩
  | 59 => ⟨S_, .f32⟩
  | 60 => ⟨S16384x128, .f32⟩
  | 61 => ⟨S16384x128, .f32⟩
  | 62 => ⟨S_, .f32⟩
  | 63 => ⟨S16384x128, .f32⟩
  | 64 => ⟨S16384x128, .f32⟩
  | 65 => ⟨S_, .f32⟩
  | 66 => ⟨S16384x512, .f32⟩
  | 67 => ⟨S16384x512, .f32⟩
  | 68 => ⟨S512x16384, .f32⟩
  | 69 => ⟨S512x16384, .bf16⟩
  | 70 => ⟨S16384x128, .bf16⟩
  | 71 => ⟨S_, .f32⟩
  | 72 => ⟨S1x16384, .f32⟩
  | 73 => ⟨S_, .f32⟩
  | 74 => ⟨S15x16384, .f32⟩
  | 75 => ⟨S16384x64, .f32⟩
  | 76 => ⟨S64x16384, .f32⟩
  | 77 => ⟨S16384x64, .f32⟩
  | 78 => ⟨S64x16384, .f32⟩
  | 79 => ⟨S160x16384, .f32⟩
  | 80 => ⟨S160x16384, .bf16⟩
  | 81 => ⟨S16384x128, .bf16⟩
  | 82 => ⟨S_, .f32⟩
  | 83 => ⟨S1x16384, .f32⟩
  | 84 => ⟨S_, .f32⟩
  | 85 => ⟨S15x16384, .f32⟩
  | 86 => ⟨S16384x64, .f32⟩
  | 87 => ⟨S64x16384, .f32⟩
  | 88 => ⟨S16384x64, .f32⟩
  | 89 => ⟨S64x16384, .f32⟩
  | 90 => ⟨S160x16384, .f32⟩
  | 91 => ⟨S160x16384, .bf16⟩
  | 92 => ⟨S128x16384, .f32⟩
  | 93 => ⟨S16384x4x128, .f32⟩
  | 94 => ⟨S16384x4x64, .f32⟩
  | 95 => ⟨S16384x4x64, .f32⟩
  | 96 => ⟨S16384x4x64, .f32⟩
  | 97 => ⟨S16384x4x64, .f32⟩
  | 98 => ⟨S16384x4x64, .f32⟩
  | 99 => ⟨S16384x4x64, .f32⟩
  | 100 => ⟨S16384x4x64, .f32⟩
  | 101 => ⟨S16384x4x64, .f32⟩
  | 102 => ⟨S16384x4x64, .f32⟩
  | 103 => ⟨S16384x4x64, .f32⟩
  | 104 => ⟨S16384x4x64, .f32⟩
  | 105 => ⟨S16384x4x64, .f32⟩
  | 106 => ⟨S16384x4x128, .f32⟩
  | 107 => ⟨S16384x512, .f32⟩
  | 108 => ⟨S16384x512, .bf16⟩
  | 109 => ⟨S16384x4x128, .f32⟩
  | 110 => ⟨S16384x4x64, .f32⟩
  | 111 => ⟨S16384x4x64, .f32⟩
  | 112 => ⟨S16384x4x64, .f32⟩
  | 113 => ⟨S16384x4x64, .f32⟩
  | 114 => ⟨S16384x4x64, .f32⟩
  | 115 => ⟨S16384x4x64, .f32⟩
  | 116 => ⟨S16384x4x64, .f32⟩
  | 117 => ⟨S16384x4x64, .f32⟩
  | 118 => ⟨S16384x4x64, .f32⟩
  | 119 => ⟨S16384x4x64, .f32⟩
  | 120 => ⟨S16384x4x64, .f32⟩
  | 121 => ⟨S16384x4x64, .f32⟩
  | 122 => ⟨S16384x4x128, .f32⟩
  | 123 => ⟨S16384x512, .f32⟩
  | 124 => ⟨S_, .f32⟩
  | 125 => ⟨S16384x512, .f32⟩
  | 126 => ⟨S16384x512, .f32⟩
  | 127 => ⟨S16384x1024, .bf16⟩
  | _ => ⟨S16384x1024, .f32⟩

abbrev hbmTy0_1 (i : Nat) : BufTy := match i % 128 with
  | 0 => ⟨S16384x1024, .f32⟩
  | 1 => ⟨S16384x1024, .f32⟩
  | 2 => ⟨S_, .f32⟩
  | 3 => ⟨S16384x1024, .f32⟩
  | 4 => ⟨S16384x1024, .f32⟩
  | 5 => ⟨S_, .f32⟩
  | 6 => ⟨S16384x1024, .f32⟩
  | 7 => ⟨S16384x1024, .f32⟩
  | 8 => ⟨S16384x1024, .f32⟩
  | 9 => ⟨S16384x1024, .f32⟩
  | 10 => ⟨S_, .f32⟩
  | 11 => ⟨S16384x1024, .f32⟩
  | 12 => ⟨S16384x1024, .f32⟩
  | 13 => ⟨S_, .f32⟩
  | 14 => ⟨S16384x1024, .f32⟩
  | 15 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_c : Ref sig .tc := ⟨.hbm, 54, rfl⟩
abbrev main_call0_v0 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_4 : Ref sig .tc := ⟨.hbm, 59, rfl⟩
abbrev main_v49 : Ref sig .tc := ⟨.hbm, 60, rfl⟩
abbrev main_v50 : Ref sig .tc := ⟨.hbm, 61, rfl⟩
abbrev main_cst_5 : Ref sig .tc := ⟨.hbm, 62, rfl⟩
abbrev main_v51 : Ref sig .tc := ⟨.hbm, 63, rfl⟩
abbrev main_v52 : Ref sig .tc := ⟨.hbm, 64, rfl⟩
abbrev main_cst_6 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_7 : Ref sig .tc := ⟨.hbm, 71, rfl⟩
abbrev main_v58 : Ref sig .tc := ⟨.hbm, 72, rfl⟩
abbrev main_cst_8 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_9 : Ref sig .tc := ⟨.hbm, 82, rfl⟩
abbrev main_v67 : Ref sig .tc := ⟨.hbm, 83, rfl⟩
abbrev main_cst_10 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_cst_11 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_cst_12 : Ref sig .tc := ⟨.hbm, 130, rfl⟩
abbrev main_v112 : Ref sig .tc := ⟨.hbm, 131, rfl⟩
abbrev main_v113 : Ref sig .tc := ⟨.hbm, 132, rfl⟩
abbrev main_cst_13 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_cst_14 : Ref sig .tc := ⟨.hbm, 138, rfl⟩
abbrev main_v118 : Ref sig .tc := ⟨.hbm, 139, rfl⟩
abbrev main_v119 : Ref sig .tc := ⟨.hbm, 140, rfl⟩
abbrev main_cst_15 : Ref sig .tc := ⟨.hbm, 141, rfl⟩
abbrev main_v120 : Ref sig .tc := ⟨.hbm, 142, rfl⟩
abbrev main_v121 : Ref sig .tc := ⟨.hbm, 143, rfl⟩

abbrev nD : Nat := 1
abbrev τ : Topo := Topo.v7x

variable {F : FTy → Type} [FloatOps F]
-- ==== Kernel3.lean ====
abbrev S16384x128 : Shape := ⟨2, ![16384, 128]⟩
abbrev S32x64 : Shape := ⟨2, ![32, 64]⟩
abbrev S2048x256 : Shape := ⟨2, ![2048, 256]⟩
abbrev S256x64 : Shape := ⟨2, ![256, 64]⟩
abbrev S32x64x256 : Shape := ⟨3, ![32, 64, 256]⟩
abbrev S_ : Shape := ⟨0, ![]⟩
abbrev S32x64x512 : Shape := ⟨3, ![32, 64, 512]⟩
abbrev S32x128x512 : Shape := ⟨3, ![32, 128, 512]⟩
abbrev S256x128 : Shape := ⟨2, ![256, 128]⟩
abbrev S512x128 : Shape := ⟨2, ![512, 128]⟩
abbrev S16400x128 : Shape := ⟨2, ![16400, 128]⟩
abbrev S32x128 : Shape := ⟨2, ![32, 128]⟩
abbrev S1024x128 : Shape := ⟨2, ![1024, 128]⟩
abbrev S1024x512 : Shape := ⟨2, ![1024, 512]⟩
abbrev S1x128 : Shape := ⟨2, ![1, 128]⟩
abbrev S1x128x512 : Shape := ⟨3, ![1, 128, 512]⟩
abbrev S128x512 : Shape := ⟨2, ![128, 512]⟩

abbrev nBuf : Space → Nat
  | .hbm => 22
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S32x64, .f32⟩
  | .hbm, ⟨2, _⟩ => ⟨S2048x256, .f32⟩
  | .hbm, ⟨3, _⟩ => ⟨S256x64, .f32⟩
  | .hbm, ⟨4, _⟩ => ⟨S32x64x256, .f32⟩
  | .hbm, ⟨5, _⟩ => ⟨S32x64x256, .bf16⟩
  | .hbm, ⟨6, _⟩ => ⟨S_, .bf16⟩
  | .hbm, ⟨7, _⟩ => ⟨S32x64x256, .bf16⟩
  | .hbm, ⟨8, _⟩ => ⟨S32x64x512, .bf16⟩
  | .hbm, ⟨9, _⟩ => ⟨S32x64x512, .bf16⟩
  | .hbm, ⟨10, _⟩ => ⟨S32x128x512, .bf16⟩
  | .hbm, ⟨11, _⟩ => ⟨S256x64, .bf16⟩
  | .hbm, ⟨12, _⟩ => ⟨S_, .bf16⟩
  | .hbm, ⟨13, _⟩ => ⟨S256x64, .bf16⟩
  | .hbm, ⟨14, _⟩ => ⟨S256x128, .bf16⟩
  | .hbm, ⟨15, _⟩ => ⟨S256x128, .bf16⟩
  | .hbm, ⟨16, _⟩ => ⟨S512x128, .bf16⟩
  | .hbm, ⟨17, _⟩ => ⟨S_, .i32⟩
  | .hbm, ⟨18, _⟩ => ⟨S_, .f32⟩
  | .hbm, ⟨19, _⟩ => ⟨S16400x128, .f32⟩
  | .hbm, ⟨20, _⟩ => ⟨S32x128, .f32⟩
  | .hbm, ⟨21, _⟩ => ⟨S1024x128, .f32⟩
  | .local _ .vmem, ⟨0, _⟩ => ⟨S16400x128, .f32⟩
  | .local _ .vmem, ⟨1, _⟩ => ⟨S32x128, .f32⟩
  | .local _ .vmem, ⟨2, _⟩ => ⟨S32x128x512, .bf16⟩
  | .local _ .vmem, ⟨3, _⟩ => ⟨S512x128, .bf16⟩
  | .local _ .vmem, ⟨4, _⟩ => ⟨S1024x128, .f32⟩
  | .local _ .vmem, ⟨5, _⟩ => ⟨S1024x512, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c32_i32 : BitVec 32 := 32#32
  let v4 : BitVec 32 := Scalar.addi c0_i32 c32_i32
  let c1_i32 : BitVec 32 := 1#32
  ⟨c0_i32, v4, c1_i32⟩
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let v24 : Index := Scalar.indexCast arg7
  let c0_13 : Index := 0#32
  ![v24.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let v27 : Index := Scalar.indexCast arg7
  let c0_14 : Index := 0#32
  ![v27.toNat, 0]
def k0_off3 (k0_t1 : Fin k0_t1_loop.trips) : Fin 3 → Nat :=
  let c0_i32 : BitVec 32 := 0#32
  let c1_i32 : BitVec 32 := 1#32
  let arg7 : BitVec 32 := Scf.iv c0_i32 c1_i32 k0_t1
  let v34 : Index := Scalar.indexCast arg7
  let c0_17 : Index := 0#32
  let c0_18 : Index := 0#32
  ![v34.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16400x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference3Ideal.lean ====
abbrev S16384x128 : Shape := ⟨2, ![16384, 128]⟩
abbrev S32x64 : Shape := ⟨2, ![32, 64]⟩
abbrev S2048x256 : Shape := ⟨2, ![2048, 256]⟩
abbrev S256x64 : Shape := ⟨2, ![256, 64]⟩
abbrev S_ : Shape := ⟨0, ![]⟩
abbrev S16400x128 : Shape := ⟨2, ![16400, 128]⟩
abbrev S16400x2x64 : Shape := ⟨3, ![16400, 2, 64]⟩
abbrev S1024 : Shape := ⟨1, ![1024]⟩
abbrev S1024x1 : Shape := ⟨2, ![1024, 1]⟩
abbrev S32 : Shape := ⟨1, ![32]⟩
abbrev S1x32 : Shape := ⟨2, ![1, 32]⟩
abbrev S1024x32 : Shape := ⟨2, ![1024, 32]⟩
abbrev S1024x32x1 : Shape := ⟨3, ![1024, 32, 1]⟩
abbrev S1024x32x2x64 : Shape := ⟨4, ![1024, 32, 2, 64]⟩
abbrev S1x32x1x64 : Shape := ⟨4, ![1, 32, 1, 64]⟩
abbrev S1024x2x32x64 : Shape := ⟨4, ![1024, 2, 32, 64]⟩
abbrev S1024x2x2048 : Shape := ⟨3, ![1024, 2, 2048]⟩
abbrev S1024x2x256 : Shape := ⟨3, ![1024, 2, 256]⟩
abbrev S1024x2x64 : Shape := ⟨3, ![1024, 2, 64]⟩
abbrev S1024x128 : Shape := ⟨2, ![1024, 128]⟩

abbrev nBuf : Space → Nat
  | .hbm => 52
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S32x64, .f32⟩
  | .hbm, ⟨2, _⟩ => ⟨S2048x256, .f32⟩
  | .hbm, ⟨3, _⟩ => ⟨S256x64, .f32⟩
  | .hbm, ⟨4, _⟩ => ⟨S_, .i32⟩
  | .hbm, ⟨5, _⟩ => ⟨S_, .f32⟩
  | .hbm, ⟨6, _⟩ => ⟨S16400x128, .f32⟩
  | .hbm, ⟨7, _⟩ => ⟨S16400x2x64, .f32⟩
  | .hbm, ⟨8, _⟩ => ⟨S1024, .i32⟩
  | .hbm, ⟨9, _⟩ => ⟨S1024x1, .i32⟩
  | .hbm, ⟨10, _⟩ => ⟨S_, .i32⟩
  | .hbm, ⟨11, _⟩ => ⟨S1024x1, .i32⟩
  | .hbm, ⟨12, _⟩ => ⟨S1024x1, .i32⟩
  | .hbm, ⟨13, _⟩ => ⟨S32, .i32⟩
  | .hbm, ⟨14, _⟩ => ⟨S1x32, .i32⟩
  | .hbm, ⟨15, _⟩ => ⟨S1024x32, .i32⟩
  | .hbm, ⟨16, _⟩ => ⟨S1024x32, .i32⟩
  | .hbm, ⟨17, _⟩ => ⟨S1024x32, .i32⟩
  | .hbm, ⟨18, _⟩ => ⟨S_, .i32⟩
  | .hbm, ⟨19, _⟩ => ⟨S1024x32, .i32⟩
  | .hbm, ⟨20, _⟩ => ⟨S1024x32, .i1⟩
  | .hbm, ⟨21, _⟩ => ⟨S_, .i32⟩
  | .hbm, ⟨22, _⟩ => ⟨S1024x32, .i32⟩
  | .hbm, ⟨23, _⟩ => ⟨S1024x32, .i32⟩
  | .hbm, ⟨24, _⟩ => ⟨S1024x32, .i32⟩
  | .hbm, ⟨25, _⟩ => ⟨S1024x32x1, .i32⟩
  | .hbm, ⟨26, _⟩ => ⟨S1024x32x2x64, .f32⟩
  | .hbm, ⟨27, _⟩ => ⟨S1x32x1x64, .f32⟩
  | .hbm, ⟨28, _⟩ => ⟨S1024x32x2x64, .f32⟩
  | .hbm, ⟨29, _⟩ => ⟨S1024x32x2x64, .f32⟩
  | .hbm, ⟨30, _⟩ => ⟨S1024x2x32x64, .f32⟩
  | .hbm, ⟨31, _⟩ => ⟨S1024x2x2048, .f32⟩
  | .hbm, ⟨32, _⟩ => ⟨S1024x2x256, .f32⟩
  | .hbm, ⟨33, _⟩ => ⟨S1024x2x256, .f32⟩
  | .hbm, ⟨34, _⟩ => ⟨S1024x2x256, .f32⟩
  | .hbm, ⟨35, _⟩ => ⟨S_, .f32⟩
  | .hbm, ⟨36, _⟩ => ⟨S1024x2x256, .f32⟩
  | .hbm, ⟨37, _⟩ => ⟨S1024x2x256, .f32⟩
  | .hbm, ⟨38, _⟩ => ⟨S1024x2x256, .f32⟩
  | .hbm, ⟨39, _⟩ => ⟨S_, .f32⟩
  | .hbm, ⟨40, _⟩ => ⟨S1024x2x256, .f32⟩
  | .hbm, ⟨41, _⟩ => ⟨S1024x2x256, .f32⟩
  | .hbm, ⟨42, _⟩ => ⟨S1024x2x256, .f32⟩
  | .hbm, ⟨43, _⟩ => ⟨S_, .f32⟩
  | .hbm, ⟨44, _⟩ => ⟨S1024x2x256, .f32⟩
  | .hbm, ⟨45, _⟩ => ⟨S1024x2x256, .f32⟩
  | .hbm, ⟨46, _⟩ => ⟨S_, .f32⟩
  | .hbm, ⟨47, _⟩ => ⟨S1024x2x256, .f32⟩
  | .hbm, ⟨48, _⟩ => ⟨S1024x2x256, .f32⟩
  | .hbm, ⟨49, _⟩ => ⟨S1024x2x256, .f32⟩
  | .hbm, ⟨50, _⟩ => ⟨S1024x2x64, .f32⟩
  | .hbm, ⟨51, _⟩ => ⟨S1024x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel4.lean ====
abbrev S16384x1024 : Shape := ⟨2, ![16384, 1024]⟩
abbrev S16384x512 : Shape := ⟨2, ![16384, 512]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S256x256 : Shape := ⟨2, ![256, 256]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S1x1024 : Shape := ⟨2, ![1, 1024]⟩
abbrev S16384x128 : Shape := ⟨2, ![16384, 128]⟩
abbrev S8x128 : Shape := ⟨2, ![8, 128]⟩
abbrev S512x512 : Shape := ⟨2, ![512, 512]⟩
abbrev S512x128 : Shape := ⟨2, ![512, 128]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x128 : Shape := ⟨2, ![256, 128]⟩

abbrev nBuf : Space → Nat
  | .hbm => 30
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x1024, .bf16⟩
  | .hbm, ⟨3, _⟩ => ⟨S16384x1024, .f32⟩
  | .hbm, ⟨4, _⟩ => ⟨S16384x1024, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x4, .f32⟩
  | .hbm, ⟨10, _⟩ => ⟨S4, .f32⟩
  | .hbm, ⟨11, _⟩ => ⟨S1024x32, .f32⟩
  | .hbm, ⟨12, _⟩ => ⟨S32, .f32⟩
  | .hbm, ⟨13, _⟩ => ⟨S256x256, .bf16⟩
  | .hbm, ⟨14, _⟩ => ⟨S_, .f32⟩
  | .hbm, ⟨15, _⟩ => ⟨S1024x92, .f32⟩
  | .hbm, ⟨16, _⟩ => ⟨S1024x128, .f32⟩
  | .hbm, ⟨17, _⟩ => ⟨S1024x128, .bf16⟩
  | .hbm, ⟨18, _⟩ => ⟨S_, .f32⟩
  | .hbm, ⟨19, _⟩ => ⟨S92, .f32⟩
  | .hbm, ⟨20, _⟩ => ⟨S128, .f32⟩
  | .hbm, ⟨21, _⟩ => ⟨S1x128, .f32⟩
  | .hbm, ⟨22, _⟩ => ⟨S512x1024, .bf16⟩
  | .hbm, ⟨23, _⟩ => ⟨S1024x1024, .bf16⟩
  | .hbm, ⟨24, _⟩ => ⟨S1024x1024, .bf16⟩
  | .hbm, ⟨25, _⟩ => ⟨S1x1024, .f32⟩
  | .hbm, ⟨26, _⟩ => ⟨S16384x1024, .f32⟩
  | .hbm, ⟨27, _⟩ => ⟨S16384x1024, .bf16⟩
  | .hbm, ⟨28, _⟩ => ⟨S16384x128, .f32⟩
  | .hbm, ⟨29, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x128, .bf16⟩
  | .local _ .vmem, ⟨15, _⟩ => ⟨S1x128, .f32⟩
  | .local _ .vmem, ⟨16, _⟩ => ⟨S256x256, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x128, .f32⟩
  | .local _ .vmem, ⟨22, _⟩ => ⟨S512x128, .f32⟩
  | .local _ .vmem, ⟨23, _⟩ => ⟨S8x128, .f32⟩
  | .local _ .vmem, ⟨24, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_cst_0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst_1 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10_0 : Ref sig .tc := ⟨.hbm, 26, rfl⟩
abbrev main_v10_1 : Ref sig .tc := ⟨.hbm, 27, rfl⟩
abbrev main_v10_2 : Ref sig .tc := ⟨.hbm, 28, rfl⟩
abbrev main_v10_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference4Ideal.lean ====
abbrev S16384x1024 : Shape := ⟨2, ![16384, 1024]⟩
abbrev S16384x512 : Shape := ⟨2, ![16384, 512]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x1024, .bf16⟩
  | .hbm, ⟨3, _⟩ => ⟨S16384x1024, .f32⟩
  | .hbm, ⟨4, _⟩ => ⟨S16384x1024, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x4, .f32⟩
  | .hbm, ⟨10, _⟩ => ⟨S4, .f32⟩
  | .hbm, ⟨11, _⟩ => ⟨S1024x32, .f32⟩
  | .hbm, ⟨12, _⟩ => ⟨S32, .f32⟩
  | .hbm, ⟨13, _⟩ => ⟨S16384x512, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Kernel5.lean ====
abbrev S16384x512 : Shape := ⟨2, ![16384, 512]⟩
abbrev S16384x1024 : Shape := ⟨2, ![16384, 1024]⟩
abbrev S1024 : Shape := ⟨1, ![1024]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x128x256 : Shape := ⟨3, ![4, 128, 256]⟩
abbrev S4x1x256 : Shape := ⟨3, ![4, 1, 256]⟩
abbrev S1x1024 : Shape := ⟨2, ![1, 1024]⟩
abbrev S1024x512 : Shape := ⟨2, ![1024, 512]⟩
abbrev S1024x1024 : Shape := ⟨2, ![1024, 1024]⟩
abbrev S1x128x256 : Shape := ⟨3, ![1, 128, 256]⟩
abbrev S128x256 : Shape := ⟨2, ![128, 256]⟩
abbrev S1x1x256 : Shape := ⟨3, ![1, 1, 256]⟩
abbrev S1x256 : Shape := ⟨2, ![1, 256]⟩

abbrev nBuf : Space → Nat
  | .hbm => 69
  | .vmem => 16
  | .smem => 0
  | _ => 0

abbrev bufTy : (tb : Table) → Fin (tcTables nBuf tb) → BufTy
  | .hbm, ⟨0, _⟩ => ⟨S16384x512, .bf16⟩
  | .hbm, ⟨1, _⟩ => ⟨S16384x512, .f32⟩
  | .hbm, ⟨2, _⟩ => ⟨S16384x1024, .bf16⟩
  | .hbm, ⟨3, _⟩ => ⟨S16384x1024, .f32⟩
  | .hbm, ⟨4, _⟩ => ⟨S1024, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S4, .f32⟩
  | .hbm, ⟨16, _⟩ => ⟨S128, .f32⟩
  | .hbm, ⟨17, _⟩ => ⟨S128x1, .f32⟩
  | .hbm, ⟨18, _⟩ => ⟨S1x128, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S_, .f32⟩
  | .hbm, ⟨23, _⟩ => ⟨S128x128, .f32⟩
  | .hbm, ⟨24, _⟩ => ⟨S128x128, .i1⟩
  | .hbm, ⟨25, _⟩ => ⟨S_, .f32⟩
  | .hbm, ⟨26, _⟩ => ⟨S128x128, .f32⟩
  | .hbm, ⟨27, _⟩ => ⟨S128x128, .f32⟩
  | .hbm, ⟨28, _⟩ => ⟨S1x128x128, .f32⟩
  | .hbm, ⟨29, _⟩ => ⟨S4x1x1, .f32⟩
  | .hbm, ⟨30, _⟩ => ⟨S4x128x128, .f32⟩
  | .hbm, ⟨31, _⟩ => ⟨S4x128x128, .f32⟩
  | .hbm, ⟨32, _⟩ => ⟨S4x128x128, .f32⟩
  | .hbm, ⟨33, _⟩ => ⟨S4x128x128, .f32⟩
  | .hbm, ⟨34, _⟩ => ⟨S_, .f32⟩
  | .hbm, ⟨35, _⟩ => ⟨S_, .f32⟩
  | .hbm, ⟨36, _⟩ => ⟨S4x128x128, .i1⟩
  | .hbm, ⟨37, _⟩ => ⟨S4x128x128, .f32⟩
  | .hbm, ⟨38, _⟩ => ⟨S4x128x128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S1x128, .f32⟩
  | .hbm, ⟨43, _⟩ => ⟨S4x1, .f32⟩
  | .hbm, ⟨44, _⟩ => ⟨S4x128, .f32⟩
  | .hbm, ⟨45, _⟩ => ⟨S4x128, .f32⟩
  | .hbm, ⟨46, _⟩ => ⟨S4x128, .f32⟩
  | .hbm, ⟨47, _⟩ => ⟨S4x128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S1x128, .f32⟩
  | .hbm, ⟨52, _⟩ => ⟨S4x1, .f32⟩
  | .hbm, ⟨53, _⟩ => ⟨S4x128, .f32⟩
  | .hbm, ⟨54, _⟩ => ⟨S4x128, .f32⟩
  | .hbm, ⟨55, _⟩ => ⟨S4x128, .f32⟩
  | .hbm, ⟨56, _⟩ => ⟨S4x128, .f32⟩
  | .hbm, ⟨57, _⟩ => ⟨S_, .f32⟩
  | .hbm, ⟨58, _⟩ => ⟨S4, .f32⟩
  | .hbm, ⟨59, _⟩ => ⟨S4, .f32⟩
  | .hbm, ⟨60, _⟩ => ⟨S4, .f32⟩
  | .hbm, ⟨61, _⟩ => ⟨S4x128x1, .f32⟩
  | .hbm, ⟨62, _⟩ => ⟨S4x128x256, .f32⟩
  | .hbm, ⟨63, _⟩ => ⟨S4x128x1, .f32⟩
  | .hbm, ⟨64, _⟩ => ⟨S4x128x128, .f32⟩
  | .hbm, ⟨65, _⟩ => ⟨S4x1x1, .f32⟩
  | .hbm, ⟨66, _⟩ => ⟨S4x1x256, .f32⟩
  | .hbm, ⟨67, _⟩ => ⟨S1x1024, .f32⟩
  | .hbm, ⟨68, _⟩ => ⟨S16384x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S4x128x128, .f32⟩
  | .local _ .vmem, ⟨10, _⟩ => ⟨S4x128x256, .f32⟩
  | .local _ .vmem, ⟨11, _⟩ => ⟨S4x128x128, .f32⟩
  | .local _ .vmem, ⟨12, _⟩ => ⟨S4x1x256, .f32⟩
  | .local _ .vmem, ⟨13, _⟩ => ⟨S1024x1024, .bf16⟩
  | .local _ .vmem, ⟨14, _⟩ => ⟨S1024x1024, .bf16⟩
  | .local _ .vmem, ⟨15, _⟩ => ⟨S4x128x256, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S16384x512 : Shape := ⟨2, ![16384, 512]⟩
abbrev S16384x1024 : Shape := ⟨2, ![16384, 1024]⟩
abbrev S1024 : Shape := ⟨1, ![1024]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x128x256 : Shape := ⟨3, ![4, 128, 256]⟩
abbrev S128x128x4x128 : Shape := ⟨4, ![128, 128, 4, 128]⟩
abbrev S128x4x128x128 : Shape := ⟨4, ![128, 4, 128, 128]⟩
abbrev S128x128x4x256 : Shape := ⟨4, ![128, 128, 4, 256]⟩
abbrev S128x4x128x256 : Shape := ⟨4, ![128, 4, 128, 256]⟩
abbrev S1x4x128x128 : Shape := ⟨4, ![1, 4, 128, 128]⟩
abbrev S1x4x128x256 : Shape := ⟨4, ![1, 4, 128, 256]⟩
abbrev S16384x4x256 : Shape := ⟨3, ![16384, 4, 256]⟩
abbrev S16384x4 : Shape := ⟨2, ![16384, 4]⟩
abbrev S16384x4x1 : Shape := ⟨3, ![16384, 4, 1]⟩
abbrev S1x1024 : Shape := ⟨2, ![1, 1024]⟩

abbrev nBuf : Space → Nat
  | .hbm => 164
  | .vmem => 0
  | .smem => 0
  | _ => 0

abbrev hbmTy0_0 (i : Nat) : BufTy := match i % 128 with
  | 0 => ⟨S16384x512, .bf16⟩
  | 1 => ⟨S16384x512, .f32⟩
  | 2 => ⟨S16384x1024, .bf16⟩
  | 3 => ⟨S16384x1024, .f32⟩
  | 4 => ⟨S1024, .f32⟩
  | 5 => ⟨S4, .f32⟩
  | 6 => ⟨S_, .f32⟩
  | 7 => ⟨S4, .f32⟩
  | 8 => ⟨S4, .f32⟩
  | 9 => ⟨S_, .f32⟩
  | 10 => ⟨S4, .f32⟩
  | 11 => ⟨S4, .f32⟩
  | 12 => ⟨S_, .f32⟩
  | 13 => ⟨S4, .f32⟩
  | 14 => ⟨S4, .f32⟩
  | 15 => ⟨S4, .f32⟩
  | 16 => ⟨S128, .f32⟩
  | 17 => ⟨S128x1, .f32⟩
  | 18 => ⟨S1x128, .f32⟩
  | 19 => ⟨S128x128, .f32⟩
  | 20 => ⟨S128x128, .f32⟩
  | 21 => ⟨S128x128, .f32⟩
  | 22 => ⟨S_, .f32⟩
  | 23 => ⟨S128x128, .f32⟩
  | 24 => ⟨S128x128, .i1⟩
  | 25 => ⟨S_, .f32⟩
  | 26 => ⟨S128x128, .f32⟩
  | 27 => ⟨S128x128, .f32⟩
  | 28 => ⟨S1x128x128, .f32⟩
  | 29 => ⟨S4x1x1, .f32⟩
  | 30 => ⟨S4x128x128, .f32⟩
  | 31 => ⟨S4x128x128, .f32⟩
  | 32 => ⟨S4x128x128, .f32⟩
  | 33 => ⟨S4x128x128, .f32⟩
  | 34 => ⟨S_, .f32⟩
  | 35 => ⟨S_, .f32⟩
  | 36 => ⟨S4x128x128, .i1⟩
  | 37 => ⟨S4x128x128, .f32⟩
  | 38 => ⟨S4x128x128, .f32⟩
  | 39 => ⟨S_, .f32⟩
  | 40 => ⟨S128, .f32⟩
  | 41 => ⟨S128, .f32⟩
  | 42 => ⟨S1x128, .f32⟩
  | 43 => ⟨S4x1, .f32⟩
  | 44 => ⟨S4x128, .f32⟩
  | 45 => ⟨S4x128, .f32⟩
  | 46 => ⟨S4x128, .f32⟩
  | 47 => ⟨S4x128, .f32⟩
  | 48 => ⟨S4x128x1, .f32⟩
  | 49 => ⟨S_, .f32⟩
  | 50 => ⟨S128, .f32⟩
  | 51 => ⟨S128, .f32⟩
  | 52 => ⟨S1x128, .f32⟩
  | 53 => ⟨S4x1, .f32⟩
  | 54 => ⟨S4x128, .f32⟩
  | 55 => ⟨S4x128, .f32⟩
  | 56 => ⟨S4x128, .f32⟩
  | 57 => ⟨S4x128, .f32⟩
  | 58 => ⟨S4x128x1, .f32⟩
  | 59 => ⟨S_, .f32⟩
  | 60 => ⟨S4, .f32⟩
  | 61 => ⟨S4, .f32⟩
  | 62 => ⟨S4, .f32⟩
  | 63 => ⟨S4x1x1, .f32⟩
  | 64 => ⟨S_, .f32⟩
  | 65 => ⟨S4x128x256, .f32⟩
  | 66 => ⟨S128x128x4x128, .bf16⟩
  | 67 => ⟨S128x4x128x128, .bf16⟩
  | 68 => ⟨S128x4x128x128, .f32⟩
  | 69 => ⟨S128x128x4x128, .f32⟩
  | 70 => ⟨S128x4x128x128, .f32⟩
  | 71 => ⟨S128x128x4x256, .bf16⟩
  | 72 => ⟨S128x4x128x256, .bf16⟩
  | 73 => ⟨S128x4x128x256, .f32⟩
  | 74 => ⟨S_, .f32⟩
  | 75 => ⟨S128x4x128x256, .f32⟩
  | 76 => ⟨S_, .i32⟩
  | 77 => ⟨S128x4x128x128, .f32⟩
  | 78 => ⟨S128x4x128x128, .f32⟩
  | 79 => ⟨S128x4x128x256, .f32⟩
  | 80 => ⟨S4x128x128, .f32⟩
  | 81 => ⟨S4x128x1, .f32⟩
  | 82 => ⟨S4x1x1, .f32⟩
  | 83 => ⟨S4x128x1, .f32⟩
  | 84 => ⟨S_, .i32⟩
  | 85 => ⟨S4x128x256, .f32⟩
  | 86 => ⟨S128x4x128x256, .f32⟩
  | 87 => ⟨S_, .i32⟩
  | 88 => ⟨S_, .i1⟩
  | 89 => ⟨S_, .i32⟩
  | 90 => ⟨S_, .i32⟩
  | 91 => ⟨S_, .i32⟩
  | 92 => ⟨S1x4x128x128, .f32⟩
  | 93 => ⟨S4x128x128, .f32⟩
  | 94 => ⟨S_, .i32⟩
  | 95 => ⟨S_, .i32⟩
  | 96 => ⟨S_, .i32⟩
  | 97 => ⟨S1x4x128x128, .f32⟩
  | 98 => ⟨S4x128x128, .f32⟩
  | 99 => ⟨S_, .i32⟩
  | 100 => ⟨S_, .i32⟩
  | 101 => ⟨S_, .i32⟩
  | 102 => ⟨S1x4x128x256, .f32⟩
  | 103 => ⟨S4x128x256, .f32⟩
  | 104 => ⟨S4x128x128, .f32⟩
  | 105 => ⟨S4x128x128, .f32⟩
  | 106 => ⟨S4x128x256, .f32⟩
  | 107 => ⟨S4x128x256, .f32⟩
  | 108 => ⟨S4x128x256, .f32⟩
  | 109 => ⟨S4x128x256, .f32⟩
  | 110 => ⟨S4x128x256, .f32⟩
  | 111 => ⟨S4x128x256, .f32⟩
  | 112 => ⟨S4x128x256, .f32⟩
  | 113 => ⟨S4x128x128, .f32⟩
  | 114 => ⟨S4x128x128, .f32⟩
  | 115 => ⟨S4x128x256, .f32⟩
  | 116 => ⟨S4x128x256, .f32⟩
  | 117 => ⟨S1x4x128x256, .f32⟩
  | 118 => ⟨S_, .i32⟩
  | 119 => ⟨S_, .i32⟩
  | 120 => ⟨S_, .i32⟩
  | 121 => ⟨S128x4x128x256, .f32⟩
  | 122 => ⟨S_, .i32⟩
  | 123 => ⟨S_, .i32⟩
  | 124 => ⟨S128x128x4x256, .f32⟩
  | 125 => ⟨S16384x4x256, .f32⟩
  | 126 => ⟨S_, .f32⟩
  | 127 => ⟨S16384x4, .f32⟩
  | _ => ⟨S16384x512, .bf16⟩

abbrev hbmTy0_1 (i : Nat) : BufTy := match i % 128 with
  | 0 => ⟨S16384x4x1, .f32⟩
  | 1 => ⟨S_, .f32⟩
  | 2 => ⟨S16384x4x1, .f32⟩
  | 3 => ⟨S16384x4x1, .f32⟩
  | 4 => ⟨S16384x4x256, .f32⟩
  | 5 => ⟨S16384x4x256, .f32⟩
  | 6 => ⟨S16384x4x256, .f32⟩
  | 7 => ⟨S_, .f32⟩
  | 8 => ⟨S16384x4, .f32⟩
  | 9 => ⟨S16384x4x1, .f32⟩
  | 10 => ⟨S_, .f32⟩
  | 11 => ⟨S16384x4x1, .f32⟩
  | 12 => ⟨S16384x4x1, .f32⟩
  | 13 => ⟨S16384x4x256, .f32⟩
  | 14 => ⟨S16384x4x256, .f32⟩
  | 15 => ⟨S_, .f32⟩
  | 16 => ⟨S16384x4x1, .f32⟩
  | 17 => ⟨S16384x4x1, .f32⟩
  | 18 => ⟨S16384x4x1, .f32⟩
  | 19 => ⟨S16384x4x256, .f32⟩
  | 20 => ⟨S16384x4x256, .f32⟩
  | 21 => ⟨S16384x1024, .f32⟩
  | 22 => ⟨S1x1024, .f32⟩
  | 23 => ⟨S16384x1024, .f32⟩
  | 24 => ⟨S16384x1024, .f32⟩
  | 25 => ⟨S16384x1024, .f32⟩
  | 26 => ⟨S16384x1024, .f32⟩
  | 27 => ⟨S_, .f32⟩
  | 28 => ⟨S16384x1024, .f32⟩
  | 29 => ⟨S16384x1024, .f32⟩
  | 30 => ⟨S_, .f32⟩
  | 31 => ⟨S16384x1024, .f32⟩
  | 32 => ⟨S16384x1024, .f32⟩
  | 33 => ⟨S16384x1024, .f32⟩
  | 34 => ⟨S16384x1024, .f32⟩
  | 35 => ⟨S16384x1024, .bf16⟩
  | _ => ⟨S16384x512, .bf16⟩

abbrev hbmTy (i : Nat) : BufTy := match i / 128 with
  | 0 => hbmTy0_0 i
  | 1 => hbmTy0_1 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_c : Ref sig .tc := ⟨.hbm, 76, rfl⟩
abbrev main_v57_0 : Ref sig .tc := ⟨.hbm, 77, rfl⟩
abbrev main_v57_1 : Ref sig .tc := ⟨.hbm, 78, rfl⟩
abbrev main_v57_2 : Ref sig .tc := ⟨.hbm, 79, rfl⟩
abbrev main_v57_3 : Ref sig .tc := ⟨.hbm, 80, rfl⟩
abbrev main_v57_4 : Ref sig .tc := ⟨.hbm, 81, rfl⟩
abbrev main_v57_5 : Ref sig .tc := ⟨.hbm, 82, rfl⟩
abbrev main_v57_6 : Ref sig .tc := ⟨.hbm, 83, rfl⟩
abbrev main_v57_7 : Ref sig .tc := ⟨.hbm, 84, rfl⟩
abbrev main_v57_8 : Ref sig .tc := ⟨.hbm, 85, rfl⟩
abbrev main_v57_9 : Ref sig .tc := ⟨.hbm, 86, rfl⟩
abbrev main_while0c_c_24 : Ref sig .tc := ⟨.hbm, 87, rfl⟩
abbrev main_while0c_v85 : Ref sig .tc := ⟨.hbm, 88, rfl⟩
abbrev main_while0b_call1_c : Ref sig .tc := ⟨.hbm, 89, rfl⟩
abbrev main_while0b_call1_c_0 : Ref sig .tc := ⟨.hbm, 90, rfl⟩
abbrev main_while0b_call1_c_1 : Ref sig .tc := ⟨.hbm, 91, rfl⟩
abbrev main_while0b_call1_v0 : Ref sig .tc := ⟨.hbm, 92, rfl⟩
abbrev main_while0b_v85 : Ref sig .tc := ⟨.hbm, 93, rfl⟩
abbrev main_while0b_call2_c : Ref sig .tc := ⟨.hbm, 94, rfl⟩
abbrev main_while0b_call2_c_0 : Ref sig .tc := ⟨.hbm, 95, rfl⟩
abbrev main_while0b_call2_c_1 : Ref sig .tc := ⟨.hbm, 96, rfl⟩
abbrev main_while0b_call2_v0 : Ref sig .tc := ⟨.hbm, 97, rfl⟩
abbrev main_while0b_v86 : Ref sig .tc := ⟨.hbm, 98, rfl⟩
abbrev main_while0b_call3_c : Ref sig .tc := ⟨.hbm, 99, rfl⟩
abbrev main_while0b_call3_c_0 : Ref sig .tc := ⟨.hbm, 100, rfl⟩
abbrev main_while0b_call3_c_1 : Ref sig .tc := ⟨.hbm, 101, rfl⟩
abbrev main_while0b_call3_v0 : Ref sig .tc := ⟨.hbm, 102, rfl⟩
abbrev main_while0b_v87 : Ref sig .tc := ⟨.hbm, 103, rfl⟩
abbrev main_while0b_v88 : Ref sig .tc := ⟨.hbm, 104, rfl⟩
abbrev main_while0b_v89 : Ref sig .tc := ⟨.hbm, 105, rfl⟩
abbrev main_while0b_v90 : Ref sig .tc := ⟨.hbm, 106, rfl⟩
abbrev main_while0b_v91 : Ref sig .tc := ⟨.hbm, 107, rfl⟩
abbrev main_while0b_v92 : Ref sig .tc := ⟨.hbm, 108, rfl⟩
abbrev main_while0b_v93 : Ref sig .tc := ⟨.hbm, 109, rfl⟩
abbrev main_while0b_v94 : Ref sig .tc := ⟨.hbm, 110, rfl⟩
abbrev main_while0b_v95 : Ref sig .tc := ⟨.hbm, 111, rfl⟩
abbrev main_while0b_v96 : Ref sig .tc := ⟨.hbm, 112, rfl⟩
abbrev main_while0b_v97 : Ref sig .tc := ⟨.hbm, 113, rfl⟩
abbrev main_while0b_v98 : Ref sig .tc := ⟨.hbm, 114, rfl⟩
abbrev main_while0b_v99 : Ref sig .tc := ⟨.hbm, 115, rfl⟩
abbrev main_while0b_v100 : Ref sig .tc := ⟨.hbm, 116, rfl⟩
abbrev main_while0b_call4_v0 : Ref sig .tc := ⟨.hbm, 117, rfl⟩
abbrev main_while0b_call4_c : Ref sig .tc := ⟨.hbm, 118, rfl⟩
abbrev main_while0b_call4_c_0 : Ref sig .tc := ⟨.hbm, 119, rfl⟩
abbrev main_while0b_call4_c_1 : Ref sig .tc := ⟨.hbm, 120, rfl⟩
abbrev main_while0b_v101 : Ref sig .tc := ⟨.hbm, 121, rfl⟩
abbrev main_while0b_c_24 : Ref sig .tc := ⟨.hbm, 122, rfl⟩
abbrev main_while0b_v102 : Ref sig .tc := ⟨.hbm, 123, rfl⟩
abbrev main_v58 : Ref sig .tc := ⟨.hbm, 124, rfl⟩
abbrev main_v59 : Ref sig .tc := ⟨.hbm, 125, rfl⟩
abbrev main_cst_10 : Ref sig .tc := ⟨.hbm, 126, rfl⟩
abbrev main_v60 : Ref sig .tc := ⟨.hbm, 127, rfl⟩
abbrev main_v61 : Ref sig .tc := ⟨.hbm, 128, rfl⟩
abbrev main_cst_11 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_cst_12 : Ref sig .tc := ⟨.hbm, 135, rfl⟩
abbrev main_v67 : Ref sig .tc := ⟨.hbm, 136, rfl⟩
abbrev main_v68 : Ref sig .tc := ⟨.hbm, 137, rfl⟩
abbrev main_cst_13 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_cst_14 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_call5_v0 : Ref sig .tc := ⟨.hbm, 153, rfl⟩
abbrev main_call5_v1 : Ref sig .tc := ⟨.hbm, 154, rfl⟩
abbrev main_call5_cst : Ref sig .tc := ⟨.hbm, 155, rfl⟩
abbrev main_call5_v2 : Ref sig .tc := ⟨.hbm, 156, rfl⟩
abbrev main_call5_v3 : Ref sig .tc := ⟨.hbm, 157, rfl⟩
abbrev main_call5_cst_0 : Ref sig .tc := ⟨.hbm, 158, rfl⟩
abbrev main_call5_v4 : Ref sig .tc := ⟨.hbm, 159, rfl⟩
abbrev main_call5_v5 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩

abbrev nD : Nat := 1
abbrev τ : Topo := Topo.v7x

variable {F : FTy → Type} [FloatOps F]

abbrev main_while0_count : Scf.Loop 32 := ⟨0#32, 128#32, 1#32⟩
-- ==== Proof.MoeCase.lean ====
module

public import proofs.«01_k».proof.Proof.Gen.KernelIdeal.Frame
public import Idealize.ShloMosaic.Lib.Pipeline.Value
public import Idealize.ShloMosaic.Lib.Pipeline.ValueKit
public import Idealize.ShloMosaic.Lib.Pipeline.ReadBack
public import Idealize.ShloMosaic.Lib.Tactic

@[expose] public section
set_option maxRecDepth 16384
noncomputable section
namespace Cert.Moe
open Idealize.ShloMosaic Idealize.ShloMosaic.TcCoe Idealize.SL.Sem
open Cert.KernelIdeal Cert.KernelIdeal.Gen
variable {F : FTy → Type} [FloatOps F]

/-- One expert's contribution to a tile's accumulator, both halves of the rows. -/
def stepAcc (e : BitVec 32) (g : Elt F .i32) (cs : Vec F S1024x128 .f32) (wg wu : Vec F S1x1024x256 .f32) (wd : Vec F S1x256x1024 .f32)
    (lo hi : Vec F S1024x512 .bf16) (acc : Vec F S1024x1024 .f32)
    (L : List (View.Piece (Elt F) S1024x1024 .f32)) : Vec F S1024x1024 .f32 :=
  View.canon
    (⟨Rect.unit ![512, 0] ![512, 1024] inb_S1024x1024_S512x1024_512_0,
      k0_pay4 (View.ld acc (Rect.unit ![512, 0] ![512, 1024] inb_S1024x1024_S512x1024_512_0))
        (k0_pay13 (k0_pay6 wg) (k0_pay7 wu) (k0_pay8 wd)
          (View.ld lo (Rect.unit ![512, 0] ![512, 512] inb_S1024x512_S512x512_512_0))
          (View.ld hi (Rect.unit ![512, 0] ![512, 512] inb_S1024x512_S512x512_512_0)))
        (k0_pay14 e (View.ld cs (Rect.unit ![512, 0] ![512, 128] inb_S1024x128_S512x128_512_0)) g)⟩ ::
     ⟨Rect.unit ![0, 0] ![512, 1024] inb_S1024x1024_S512x1024_0_0,
      k0_pay12 (k0_pay8 wd)
        (k0_pay9 wu
          (View.ld lo (Rect.unit ![0, 0] ![512, 512] inb_S1024x512_S512x512_0_0))
          (View.ld hi (Rect.unit ![0, 0] ![512, 512] inb_S1024x512_S512x512_0_0)))
        (k0_pay10 e (View.ld cs (Rect.unit ![0, 0] ![512, 128] inb_S1024x128_S512x128_0_0)) g)
        (View.ld acc (Rect.unit ![0, 0] ![512, 1024] inb_S1024x1024_S512x1024_0_0))
        (k0_pay11 wg
          (View.ld lo (Rect.unit ![0, 0] ![512, 512] inb_S1024x512_S512x512_0_0))
          (View.ld hi (Rect.unit ![0, 0] ![512, 512] inb_S1024x512_S512x512_0_0)))⟩ :: L)

/-- A load of the whole buffer reads what the stores left. -/
theorem readCov_all {S : Shape} {e : EltTy} {κ : Kind} {sp : Space} (v : View sig κ sp S e) (L : List (View.Piece (Elt F) S e)) {off : Fin S.rank → ℕ}
    (inb : ∀ a, off a + S.size a ≤ S.size a) (h : ∀ a, off a = 0) :
    v.readCov L (Rect.unit off S.size inb).toLoadRect = View.canon L := by
  rw [View.readCov_eq_canon']
  exact View.ld_unit_lit inb _ h

/-- The word a table holds at a grid point's tile. -/
abbrev groupWord (c : Dev nD) (i : grid0.Coords) (xt0 : TbBuf0 (F := F) c tbM0_0) : Elt F .i32 :=
  View.readAt (Elt F) (View.whole main_arg0) (Rect.unit (s := S20) (k0_off2 i) S1.size (k0_off2_inb i)).toLoadRect xt0
    (Shape.Idx.first (numel1_S1.symm ▸ Nat.one_pos))

/-- The point's tile holds tokens. -/
abbrev Used (c : Dev nD) (i : grid0.Coords) (xt1 : TbBuf0 (F := F) c tbM0_1) : Prop :=
  cond0_1 i (tbM0_1.view.readAt (Elt F) (Rect.unit (s := S20) (k0_off1 i) S1.size (k0_off1_inb i)).toLoadRect xt1
    (Shape.Idx.first (numel1_S1.symm ▸ Nat.one_pos)))
variable (c : Dev nD) (i : grid0.Coords)
  (a4 : Memref sig .tc .vmem S1024x512 .i32) (h4 : a4.IsWhole)
  (a5 : Memref sig .tc .vmem S1024x128 .f32) (h5 : a5.IsWhole)
  (a6 : Memref sig .tc .vmem S1x1024x256 .f32) (h6 : a6.IsWhole)
  (a7 : Memref sig .tc .vmem S1x1024x256 .f32) (h7 : a7.IsWhole)
  (a8 : Memref sig .tc .vmem S1x256x1024 .f32) (h8 : a8.IsWhole)
  (a9 : Memref sig .tc .vmem S1024x1024 .bf16) (h9 : a9.IsWhole)
  (a10 : Memref sig .tc .vmem S1024x512 .bf16) (h10 : a10.IsWhole)
  (a11 : Memref sig .tc .vmem S1024x512 .bf16) (h11 : a11.IsWhole)
  (a12 : Memref sig .tc .vmem S1024x1024 .f32) (h12 : a12.IsWhole)
  (x0 : Vec F S1024x512 .i32) (x1 : Vec F S1024x128 .f32) (x2 x3 : Vec F S1x1024x256 .f32) (x4 : Vec F S1x256x1024 .f32)
  (xt0 : TbBuf0 (F := F) c tbM0_0) (xt1 : TbBuf0 (F := F) c tbM0_1)
  (xs0 xs1 : Vec F S1024x512 .bf16) (xs2 : Vec F S1024x1024 .f32)

/-- A used tile's first step unpacks the low halves. -/
theorem lo_A (hc0 : cond0_0 i) (hc2 : ¬cond0_2 i) (hc1 : Used c i xt1) :
    sout0_A_0 c i a4 h4 a5 h5 a6 h6 a7 h7 a8 h8 a9 h9 a10 h10 a11 h11 a12 h12 hc0 hc2 x0 x1 x2 x3 x4 xt0 xt1 hc1 = k0_pay1 x0 := by
  frame_open
  frame_out
  try simp only [read_unread_whole, Memref.IsWhole.read_unread]

/-- And the high halves. -/
theorem hi_A (hc0 : cond0_0 i) (hc2 : ¬cond0_2 i) (hc1 : Used c i xt1) :
    sout0_A_1 c i a4 h4 a5 h5 a6 h6 a7 h7 a8 h8 a9 h9 a10 h10 a11 h11 a12 h12 hc0 hc2 x0 x1 x2 x3 x4 xt0 xt1 hc1 = k0_pay2 x0 := by
  frame_open
  frame_out
  try simp only [read_unread_whole, Memref.IsWhole.read_unread]

/-- And adds the first expert's contribution to a zeroed accumulator. -/
theorem acc_A (hc0 : cond0_0 i) (hc2 : ¬cond0_2 i) (hc1 : Used c i xt1) :
    sout0_A_2 c i a4 h4 a5 h5 a6 h6 a7 h7 a8 h8 a9 h9 a10 h10 a11 h11 a12 h12 hc0 hc2 x0 x1 x2 x3 x4 xt0 xt1 hc1 = stepAcc (BitVec.ofNat 32 (i 1).val) (groupWord c i xt0) x1 x2 x3 x4 (k0_pay1 x0) (k0_pay2 x0) k0_pay3 [⟨Rect.unit ![0, 0] ![1024, 1024] inb_S1024x1024_S1024x1024_0_0, k0_pay3⟩] := by
  frame_open
  simp (disch := decide) only [↓ View.readCov_skip, ↓ View.readCov_cons_toLoadRect, ↓ View.readCov_fill]
  frame_out
  try simp only [read_unread_whole, Memref.IsWhole.read_unread]
  rfl

/-- An empty tile's first step unpacks the low halves. -/
theorem lo_B (hc0 : cond0_0 i) (hc2 : ¬cond0_2 i) (hc1 : ¬Used c i xt1) :
    sout0_B_0 c i a4 h4 a5 h5 a6 h6 a7 h7 a8 h8 a9 h9 a10 h10 a11 h11 a12 h12 hc0 hc2 x0 x1 x2 x3 x4 xt0 xt1 hc1 = k0_pay1 x0 := by
  frame_open
  frame_out
  try simp only [read_unread_whole, Memref.IsWhole.read_unread]

/-- And the high halves. -/
theorem hi_B (hc0 : cond0_0 i) (hc2 : ¬cond0_2 i) (hc1 : ¬Used c i xt1) :
    sout0_B_1 c i a4 h4 a5 h5 a6 h6 a7 h7 a8 h8 a9 h9 a10 h10 a11 h11 a12 h12 hc0 hc2 x0 x1 x2 x3 x4 xt0 xt1 hc1 = k0_pay2 x0 := by
  frame_open
  frame_out
  try simp only [read_unread_whole, Memref.IsWhole.read_unread]

/-- And zeroes the accumulator. -/
theorem acc_B (hc0 : cond0_0 i) (hc2 : ¬cond0_2 i) (hc1 : ¬Used c i xt1) :
    sout0_B_2 c i a4 h4 a5 h5 a6 h6 a7 h7 a8 h8 a9 h9 a10 h10 a11 h11 a12 h12 hc0 hc2 x0 x1 x2 x3 x4 xt0 xt1 hc1 = k0_pay3 := by
  frame_open
  frame_out

/-- A used tile's middle step adds its expert's contribution. -/
theorem acc_C (hc0 : ¬cond0_0 i) (hc2 : ¬cond0_2 i) (hc1 : Used c i xt1) :
    sout0_C_2 c i a4 h4 a5 h5 a6 h6 a7 h7 a8 h8 a9 h9 a10 h10 a11 h11 a12 h12 hc0 hc2 x0 x1 x2 x3 x4 xt0 xt1 xs0 xs1 xs2 hc1 = stepAcc (BitVec.ofNat 32 (i 1).val) (groupWord c i xt0) x1 x2 x3 x4 xs0 xs1 xs2 [] := by
  frame_open
  frame_out
  try simp only [read_unread_whole, Memref.IsWhole.read_unread]
  rfl

/-- So does its last step, -/
theorem acc_E (hc0 : ¬cond0_0 i) (hc2 : cond0_2 i) (hc1 : Used c i xt1) :
    sout0_E_2 c i a4 h4 a5 h5 a6 h6 a7 h7 a8 h8 a9 h9 a10 h10 a11 h11 a12 h12 hc0 hc2 x0 x1 x2 x3 x4 xt0 xt1 xs0 xs1 xs2 hc1 = stepAcc (BitVec.ofNat 32 (i 1).val) (groupWord c i xt0) x1 x2 x3 x4 xs0 xs1 xs2 [] := by
  frame_open
  frame_out
  try simp only [read_unread_whole, Memref.IsWhole.read_unread]
  rfl

/-- which also writes the sum out. -/
theorem out_E (hc0 : ¬cond0_0 i) (hc2 : cond0_2 i) (hc1 : Used c i xt1) :
    out0_E_5 c i a4 h4 a5 h5 a6 h6 a7 h7 a8 h8 a9 h9 a10 h10 a11 h11 a12 h12 hc0 hc2 x0 x1 x2 x3 x4 xt0 xt1 xs0 xs1 xs2 hc1 = k0_pay5 (stepAcc (BitVec.ofNat 32 (i 1).val) (groupWord c i xt0) x1 x2 x3 x4 xs0 xs1 xs2 []) := by
  frame_open
  simp (disch := decide) only [↓ View.readCov_skip, ↓ View.readCov_cons_toLoadRect, ↓ View.readCov_fill]
  frame_out
  try simp only [read_unread_whole, Memref.IsWhole.read_unread]
  exact congrArg k0_pay5 (readCov_all _ _ _ (by decide))

/-- An empty tile's last step writes the accumulator out. -/
theorem out_F (hc0 : ¬cond0_0 i) (hc2 : cond0_2 i) (hc1 : ¬Used c i xt1) :
    out0_F_5 c i a4 h4 a5 h5 a6 h6 a7 h7 a8 h8 a9 h9 a10 h10 a11 h11 a12 h12 hc0 hc2 x0 x1 x2 x3 x4 xt0 xt1 xs0 xs1 xs2 hc1 = k0_pay5 xs2 := by
  frame_open
  frame_out
  try simp only [read_unread_whole, Memref.IsWhole.read_unread]

end Cert.Moe
end
-- ==== Proof.MoeBody.lean ====
module

public import proofs.«01_k».proof.Proof.MoeCase
public import Idealize.ShloMosaic.Lib.Pointwise

@[expose] public section
set_option maxRecDepth 16384
noncomputable section
namespace Cert.Moe
open Idealize.ShloMosaic Idealize.ShloMosaic.TcCoe Idealize.SL.Sem
open Cert.KernelIdeal Cert.KernelIdeal.Gen

/-- Row `r` of a tile against column `k` of an expert's matrix, the features in two halves. -/
def dotAt (lo hi : FVec Ideal S1024x512 .bf16) (w : FVec Ideal S1x1024x256 .f32) (r : Fin 1024) (k : Fin 256) : EReal :=
  ∑ p : Fin 512, lo (ix2 r p) * w (ix3 0 ⟨p.val, by omega⟩ k) + ∑ p : Fin 512, hi (ix2 r p) * w (ix3 0 ⟨512 + p.val, by omega⟩ k)

/-- The expert's hidden value: the gate through SiLU, times the up projection. -/
def hidAt (lo hi : FVec Ideal S1024x512 .bf16) (wg wu : FVec Ideal S1x1024x256 .f32) (r : Fin 1024) (k : Fin 256) : EReal :=
  dotAt lo hi wg r k * Ideal.logistic (dotAt lo hi wg r k) * dotAt lo hi wu r k

/-- The row's weight of the expert: the lane of the weights that the expert's number names. -/
def weightAt (e : BitVec 32) (g : BitVec 32) (cs : FVec Ideal S1024x128 .f32) (r : Fin 1024) : EReal :=
  ∑ l : Fin 128, Scalar.select (Scalar.cmpi .eq (BitVec.ofNat 32 l.val) (g * 8#32 + e)) (cs (ix2 r l)) (0 : EReal)

/-- What one expert adds at row `r`, column `j`. -/
def partAt (e : BitVec 32) (g : BitVec 32) (cs : FVec Ideal S1024x128 .f32) (wg wu : FVec Ideal S1x1024x256 .f32) (wd : FVec Ideal S1x256x1024 .f32)
    (lo hi : FVec Ideal S1024x512 .bf16) (r : Fin 1024) (j : Fin 1024) : EReal :=
  (∑ k : Fin 256, hidAt lo hi wg wu r k * wd (ix3 0 k j)) * weightAt e g cs r

/-- The upper rows are outside the lower half. -/
theorem low_not_mem (r j : Fin 1024) (h : r.val < 512) :
    (ix2 r j : S1024x1024.Idx) ∉ (Rect.unit (s := S1024x1024) ![512, 0] ![512, 1024] inb_S1024x1024_S512x1024_512_0).set := by
  rw [Rect.mem_set_unit]
  intro hm
  have h1 : (512 : Nat) ≤ r.val := (hm 0).1
  omega

/-- The expert's step at an index: what was there, plus the expert's part. -/
theorem stepAcc_apply (e : BitVec 32) (g : Elt Ideal .i32) (cs : FVec Ideal S1024x128 .f32) (wg wu : FVec Ideal S1x1024x256 .f32) (wd : FVec Ideal S1x256x1024 .f32)
    (lo hi : FVec Ideal S1024x512 .bf16) (acc : FVec Ideal S1024x1024 .f32) (L : List (View.Piece (Elt Ideal) S1024x1024 .f32)) (r : Fin 1024) (j : Fin 1024) :
    stepAcc (F := Ideal) e g cs wg wu wd lo hi acc L (ix2 r j : S1024x1024.Idx) = acc (ix2 r j) + partAt e g cs wg wu wd lo hi r j := by
  unfold stepAcc
  by_cases h : r.val < 512
  · rw [View.canon_cons_of_not_mem]
    swap
    · exact low_not_mem r j h
    have hx : (ix2 r j : S1024x1024.Idx) = (Rect.unit ![0, 0] ![512, 1024] inb_S1024x1024_S512x1024_0_0).emb (ix2 (⟨r.val, h⟩ : Fin 512) j) := by
      blk_ext
    rw [hx, View.canon_cons_emb, ← hx]
    pointwise [k0_pay12, k0_pay8, k0_pay9, k0_pay10, k0_pay11, k0_pay7, k0_pay6, partAt, weightAt, hidAt, dotAt]
    rfl
  · obtain ⟨s, rfl⟩ : ∃ s : Fin 512, r = ⟨512 + s.val, Nat.add_lt_add_left s.isLt 512⟩ := ⟨⟨r.val - 512, by omega⟩, Fin.ext (by simp; omega)⟩
    have hx : (ix2 (⟨512 + s.val, by omega⟩ : Fin 1024) j : S1024x1024.Idx) = (Rect.unit ![512, 0] ![512, 1024] inb_S1024x1024_S512x1024_512_0).emb (ix2 s j) := by
      blk_ext
    rw [hx, View.canon_cons_emb, ← hx]
    pointwise [k0_pay4, k0_pay13, k0_pay14, k0_pay8, k0_pay7, k0_pay6, partAt, weightAt, hidAt, dotAt]
    rfl

/-- A bf16 pattern denotes what its bits denote as the high half of an f32 pattern. -/
theorem bf16_bits (b : BitVec 32) (h : b.extractLsb' 0 16 = 0#16) :
    Ideal.ofBits .bf16 (b.extractLsb' 16 16) = (Ideal.ofBits .f32 b : EReal) := by
  have h1 : (b.extractLsb' 16 16).extractLsb' (8 + 7) 1 = b.extractLsb' (8 + 23) 1 := by
    apply BitVec.eq_of_toNat_eq
    simp only [BitVec.extractLsb'_toNat, Nat.shiftRight_eq_div_pow]
    omega
  have h2 : (b.extractLsb' 16 16).extractLsb' 7 8 = b.extractLsb' 23 8 := by
    apply BitVec.eq_of_toNat_eq
    simp only [BitVec.extractLsb'_toNat, Nat.shiftRight_eq_div_pow]
    omega
  have h3 : (b.extractLsb' 0 23).toNat = 2 ^ 16 * ((b.extractLsb' 16 16).extractLsb' 0 7).toNat := by
    have := congrArg BitVec.toNat h
    simp only [BitVec.extractLsb'_toNat, BitVec.toNat_ofNat] at this ⊢
    omega
  show Ideal.ieee 8 7 _ = Ideal.ieee 8 23 _
  unfold Ideal.ieee
  rw [h1, h2, h3]
  generalize ((b.extractLsb' 16 16).extractLsb' 0 7).toNat = f
  generalize (b.extractLsb' 23 8).toNat = ex
  have e1 : (2 : ℝ) ^ (-133 : ℤ) = 65536 * (2 : ℝ) ^ (-149 : ℤ) := by
    rw [show (65536 : ℝ) = 2 ^ (16 : ℤ) by norm_num, ← zpow_add₀ (by norm_num)]; norm_num
  have e2 : (2 : ℝ) ^ ((ex : ℤ) - 127 - 7) = 65536 * (2 : ℝ) ^ ((ex : ℤ) - 127 - 23) := by
    rw [show (65536 : ℝ) = 2 ^ (16 : ℤ) by norm_num, ← zpow_add₀ (by norm_num)]; congr 1; ring
  have e3 : (2 ^ 16 * f = 0) = (f = 0) := by simp
  simp only [e3]
  split
  · rfl
  split
  · congr 1
    push_cast
    rw [e1]; ring
  · congr 1
    push_cast
    rw [e2]; ring

/-- The expert number's lane is the only one of the weights taken. -/
theorem weightAt_eq (e : Nat) (he : e < 8) (g : BitVec 32) (hg : g.toNat < 4) (cs : FVec Ideal S1024x128 .f32) (r : Fin 1024) :
    weightAt (BitVec.ofNat 32 e) g cs r = cs (ix2 r (⟨g.toNat * 8 + e, by omega⟩ : Fin 128)) := by
  unfold weightAt
  rw [Finset.sum_eq_single (⟨g.toNat * 8 + e, by omega⟩ : Fin 128)]
  · have : (BitVec.ofNat 32 (g.toNat * 8 + e)) = g * 8#32 + BitVec.ofNat 32 e := by
      apply BitVec.eq_of_toNat_eq
      simp only [BitVec.toNat_add, BitVec.toNat_mul, BitVec.toNat_ofNat]
      omega
    simp [this, Scalar.cmpi, IntOp.cmpi, Scalar.select]
  · intro l _ hl
    have : ¬ (BitVec.ofNat 32 l.val) = g * 8#32 + BitVec.ofNat 32 e := by
      intro h
      apply hl
      have := congrArg BitVec.toNat h
      simp only [BitVec.toNat_add, BitVec.toNat_mul, BitVec.toNat_ofNat] at this
      have := l.isLt
      apply Fin.ext
      simp only
      omega
    simp [beq_eq_false_iff_ne.2 this, Scalar.cmpi, IntOp.cmpi, Scalar.select]
  · simp
end Cert.Moe
end
-- ==== Proof.MoeOk.lean ====
module

public import proofs.«01_k».proof.Defs
public import proofs.«01_k».proof.Proof.Gen.Kernel.Frame
public import proofs.«01_k».proof.Proof.Gen.KernelIdeal.Frame
public import proofs.«01_k».proof.Proof.Gen.Pre_groups_in_range
public import Idealize.ShloMosaic.Lib.Pointwise

@[expose] public section
set_option maxRecDepth 16384
noncomputable section
namespace Cert.Moe
open Idealize.ShloMosaic Idealize.ShloMosaic.TcCoe Idealize.SL.Sem

/-- A word that is at least zero and less than four, both signed, is less than four as a natural number. -/
theorem word_lt (w : BitVec 32) (h : IntOp.andi (IntOp.cmpi .sge w 0#32) (IntOp.cmpi .slt w 4#32) = 1#1) : w.toNat < 4 := by
  have andi_one (a b : BitVec 1) : IntOp.andi a b = 1#1 ↔ a = 1#1 ∧ b = 1#1 := by revert a b; decide
  have ofBool_one (p : Bool) : (BitVec.ofBool p = 1#1) ↔ p = true := by cases p <;> decide
  simp only [andi_one, ofBool_one, IntOp.cmpi, BitVec.sle, BitVec.slt, decide_eq_true_eq, BitVec.toInt, BitVec.toNat_ofNat] at h
  have := w.isLt
  split at h <;> simp at h <;> omega

/-- The block index of an expert's weights, as a word, is the natural number. -/
theorem word_index (w : BitVec 32) (e : Nat) (hw : w.toNat < 4) (he : e < 8) :
    (Scalar.addi (Scalar.muli w 8#32) (BitVec.ofNat 32 e)).toNat = w.toNat * 8 + e := by
  simp only [Scalar.addi, Scalar.muli, IntOp.addi, IntOp.muli, BitVec.toNat_add, BitVec.toNat_mul, BitVec.toNat_ofNat]
  omega

section
open Cert.Kernel Cert.Kernel.Gen

/-- Under `groups_in_range` every word of the group table is less than four. -/
theorem Kernel_group_lt (m : (ℓ : Loc nD τ sig) → Buf (Elt Bits) ℓ) (h : Cert.Pre_Kernel m) (c : Dev nD) (x : S20.Idx) :
    (V m c main_arg0 x : BitVec 32).toNat < 4 :=
  word_lt _ (congrFun (h c) x)

/-- Each weight window's block index is the tile's group times eight plus the expert's number. -/
theorem Kernel_index (pf : pre0.Contents (Elt Bits)) (hg : ∀ x : S20.Idx, (pf 0 x : BitVec 32).toNat < 4) (i : grid0.Coords) :
    cc0_transform_2 k0_off1_inb numel1_S1 pf i = ![(pf 0 (ix1 (i 0) : S20.Idx) : BitVec 32).toNat * 8 + (i 1).val, 0, 0] := by
  have hx : pf.at 0 (Rect.unit (s := S20) (k0_off1 i) S1.size (k0_off1_inb i)) numel1_S1 = (pf 0 (ix1 (i 0) : S20.Idx) : BitVec 32) := by
    refine congrArg (pf 0) ?_
    refine funext fun (a : Fin 1) => ?_
    obtain rfl : a = 0 := Subsingleton.elim _ _
    apply Fin.ext
    have h0 : (i 0).val < 20 := (i 0).isLt
    show (BitVec.ofNat 32 (i 0).val).toNat + 1 * 0 = (i 0).val
    rw [BitVec.toNat_ofNat]
    omega
  have hw := hg (ix1 (i 0))
  have h1 : (i 1).val < 8 := (i 1).isLt
  unfold cc0_transform_2
  simp only
  have hv : (Scalar.addi (Scalar.muli (pf.at 0 (Rect.unit (s := S20) (k0_off1 i) S1.size (k0_off1_inb i)) numel1_S1) 8#32) (BitVec.ofNat 32 (i 1).val)).toNat
      = (pf 0 (ix1 (i 0) : S20.Idx) : BitVec 32).toNat * 8 + (i 1).val := by
    rw [hx]
    exact word_index _ _ hw h1
  exact congrArg (fun n => ![n, 0, 0]) hv

/-- The precondition puts every weight block inside its array. -/
theorem Kernel_ok (m : (ℓ : Loc nD τ sig) → Buf (Elt Bits) ℓ) (h : Cert.Pre_Kernel m) : Ok m := by
  have hg : ∀ x : S20.Idx, (tbl m 0 x : BitVec 32).toNat < 4 := fun x => Kernel_group_lt m h 0 x
  refine ⟨fun i => ⟨fun a => ?_, .inl rfl⟩, fun i => ⟨fun a => ?_, .inl rfl⟩, fun i => ⟨fun a => ?_, .inl rfl⟩⟩
  all_goals
    have hi := Kernel_index (tbl m) hg i
    have hw := hg (ix1 (i 0))
    have h1 : (i 1).val < 8 := (i 1).isLt
  · rw [hi]; fin_cases a <;> simp <;> omega
  · rw [show cc0_transform_3 k0_off1_inb numel1_S1 (tbl m) i = _ from hi]; fin_cases a <;> simp <;> omega
  · rw [show cc0_transform_4 k0_off1_inb numel1_S1 (tbl m) i = _ from hi]; fin_cases a <;> simp <;> omega

end

section
open Cert.KernelIdeal Cert.KernelIdeal.Gen

/-- Under `groups_in_range` every word of the group table is less than four. -/
theorem KernelIdeal_group_lt (m : (ℓ : Loc nD τ sig) → Buf (Elt Ideal) ℓ) (h : Cert.Pre_KernelIdeal m) (c : Dev nD) (x : S20.Idx) :
    (V m c main_arg0 x : BitVec 32).toNat < 4 :=
  word_lt _ (congrFun (h c) x)

/-- Each weight window's block index is the tile's group times eight plus the expert's number. -/
theorem KernelIdeal_index (pf : pre0.Contents (Elt Ideal)) (hg : ∀ x : S20.Idx, (pf 0 x : BitVec 32).toNat < 4) (i : grid0.Coords) :
    cc0_transform_2 k0_off1_inb numel1_S1 pf i = ![(pf 0 (ix1 (i 0) : S20.Idx) : BitVec 32).toNat * 8 + (i 1).val, 0, 0] := by
  have hx : pf.at 0 (Rect.unit (s := S20) (k0_off1 i) S1.size (k0_off1_inb i)) numel1_S1 = (pf 0 (ix1 (i 0) : S20.Idx) : BitVec 32) := by
    refine congrArg (pf 0) ?_
    refine funext fun (a : Fin 1) => ?_
    obtain rfl : a = 0 := Subsingleton.elim _ _
    apply Fin.ext
    have h0 : (i 0).val < 20 := (i 0).isLt
    show (BitVec.ofNat 32 (i 0).val).toNat + 1 * 0 = (i 0).val
    rw [BitVec.toNat_ofNat]
    omega
  have hw := hg (ix1 (i 0))
  have h1 : (i 1).val < 8 := (i 1).isLt
  unfold cc0_transform_2
  simp only
  have hv : (Scalar.addi (Scalar.muli (pf.at 0 (Rect.unit (s := S20) (k0_off1 i) S1.size (k0_off1_inb i)) numel1_S1) 8#32) (BitVec.ofNat 32 (i 1).val)).toNat
      = (pf 0 (ix1 (i 0) : S20.Idx) : BitVec 32).toNat * 8 + (i 1).val := by
    rw [hx]
    exact word_index _ _ hw h1
  exact congrArg (fun n => ![n, 0, 0]) hv

/-- The precondition puts every weight block inside its array. -/
theorem KernelIdeal_ok (m : (ℓ : Loc nD τ sig) → Buf (Elt Ideal) ℓ) (h : Cert.Pre_KernelIdeal m) : Ok m := by
  have hg : ∀ x : S20.Idx, (tbl m 0 x : BitVec 32).toNat < 4 := fun x => KernelIdeal_group_lt m h 0 x
  refine ⟨fun i => ⟨fun a => ?_, .inl rfl⟩, fun i => ⟨fun a => ?_, .inl rfl⟩, fun i => ⟨fun a => ?_, .inl rfl⟩⟩
  all_goals
    have hi := KernelIdeal_index (tbl m) hg i
    have hw := hg (ix1 (i 0))
    have h1 : (i 1).val < 8 := (i 1).isLt
  · rw [hi]; fin_cases a <;> simp <;> omega
  · rw [show cc0_transform_3 k0_off1_inb numel1_S1 (tbl m) i = _ from hi]; fin_cases a <;> simp <;> omega
  · rw [show cc0_transform_4 k0_off1_inb numel1_S1 (tbl m) i = _ from hi]; fin_cases a <;> simp <;> omega

end

end Cert.Moe
end
-- ==== Proof.MoeValue.lean ====
module

public import proofs.«01_k».proof.Proof.MoeBody
public import proofs.«01_k».proof.Proof.MoeOk

@[expose] public section
set_option maxRecDepth 16384
noncomputable section
namespace Cert.Moe
open Idealize.ShloMosaic Idealize.ShloMosaic.TcCoe Idealize.SL.Sem
open Cert.KernelIdeal Cert.KernelIdeal.Gen

/-! ## The layer's own expression, over the argument arrays -/

/-- Feature `p` of token `R`, of the lower (`b = 0`) or the upper (`b = 1`) half. -/
def feat (hs : IVec S20480x512 32) (b : Nat) (R : Fin 20480) (p : Fin 512) : EReal :=
  Ideal.ofBits .bf16 ((hs (ix2 R p)).extractLsb' (b * 16) 16)

/-- Token `R` against column `k` of expert `x`'s matrix. -/
def proj (hs : IVec S20480x512 32) (w : FVec Ideal S32x1024x256 .f32) (R : Fin 20480) (x : Fin 32) (k : Fin 256) : EReal :=
  ∑ p : Fin 512, feat hs 0 R p * w (ix3 x (⟨p.val, by omega⟩ : Fin 1024) k)
    + ∑ p : Fin 512, feat hs 1 R p * w (ix3 x (⟨512 + p.val, by omega⟩ : Fin 1024) k)

/-- Expert `x`'s output for token `R`, at feature `j`. -/
def expert (hs : IVec S20480x512 32) (wg wu : FVec Ideal S32x1024x256 .f32) (wd : FVec Ideal S32x256x1024 .f32)
    (R : Fin 20480) (x : Fin 32) (j : Fin 1024) : EReal :=
  ∑ k : Fin 256, proj hs wg R x k * Ideal.logistic (proj hs wg R x k) * proj hs wu R x k * wd (ix3 x k j)

/-- Expert `e` of group `g`. -/
def member (g : BitVec 32) (e : Fin 8) : Fin 32 := ⟨g.toNat % 4 * 8 + e.val, by omega⟩

/-- What expert `e` of its tile's group gives token `R`: nothing in a tile that holds no token. -/
def share (tg tv : IVec S20 32) (hs : IVec S20480x512 32) (cs : FVec Ideal S20480x128 .f32) (wg wu : FVec Ideal S32x1024x256 .f32)
    (wd : FVec Ideal S32x256x1024 .f32) (R : Fin 20480) (j : Fin 1024) (e : Fin 8) : EReal :=
  if 0 < (tv (ix1 (⟨R.val / 1024, by omega⟩ : Fin 20))).toInt then
    expert hs wg wu wd R (member (tg (ix1 (⟨R.val / 1024, by omega⟩ : Fin 20))) e) j
      * cs (ix2 R (⟨(member (tg (ix1 (⟨R.val / 1024, by omega⟩ : Fin 20))) e).val, by omega⟩ : Fin 128))
  else 0

/-- Token `R`'s output: its group's experts' shares, summed. -/
def mixed (tg tv : IVec S20 32) (hs : IVec S20480x512 32) (cs : FVec Ideal S20480x128 .f32) (wg wu : FVec Ideal S32x1024x256 .f32)
    (wd : FVec Ideal S32x256x1024 .f32) (R : Fin 20480) (j : Fin 1024) : EReal :=
  ∑ e : Fin 8, share tg tv hs cs wg wu wd R j e

/-! ## The grid -/

theorem coords_val : ∀ t : Fin grid0.N, (grid0.coords t 0).val = t.val / 8 ∧ (grid0.coords t 1).val = t.val % 8 := by decide +kernel

theorem idx_fixed : ∀ t : Fin grid0.N, cc0_transform_0 (grid0.coords t) = ![t.val / 8, 0] ∧ cc0_transform_1 (grid0.coords t) = ![t.val / 8, 0]
    ∧ cc0_transform_5 (grid0.coords t) = ![t.val / 8, 0] := by decide +kernel

variable (m : (ℓ : Loc nD τ sig) → Buf (Elt Ideal) ℓ) (hO : Ok m) (c : Dev nD)

/-- A tile's group, and whether it holds tokens. -/
abbrev tgOf : IVec S20 32 := m ((c : Thread nD τ).loc main_arg0)
abbrev tvOf : IVec S20 32 := m ((c : Thread nD τ).loc main_arg1)

/-- The grid's first coordinate, as a tile. -/
def tile (t : Fin grid0.N) : Fin 20 := ⟨t.val / 8, by have := t.isLt; have : grid0.N = 160 := rfl; omega⟩

theorem win_fixed (t : Fin grid0.N) : (pcfg0.win (adm m hO) 0).index t = ![t.val / 8, 0] ∧ (pcfg0.win (adm m hO) 1).index t = ![t.val / 8, 0]
    ∧ (pcfg0.win (adm m hO) 5).index t = ![t.val / 8, 0] := idx_fixed t

/-- The table of groups, at a tile. -/
theorem tbl0 (x : S20.Idx) : (tbl m 0 x : BitVec 32) = tgOf m c x := by
  obtain rfl : c = 0 := Subsingleton.elim _ _
  rfl

/-- The table of live tiles, at a tile. -/
theorem tbl1 (x : S20.Idx) : (tbl m 1 x : BitVec 32) = tvOf m c x := by
  obtain rfl : c = 0 := Subsingleton.elim _ _
  rfl

theorem tile_eq (t : Fin grid0.N) : (grid0.coords t 0) = tile t := Fin.ext (coords_val t).1

/-- The weights' windows stand at the expert of the point. -/
theorem win_expert (hg : ∀ x : S20.Idx, (tbl m 0 x : BitVec 32).toNat < 4) (t : Fin grid0.N) :
    (pcfg0.win (adm m hO) 2).index t = ![(member (tgOf m c (ix1 (tile t))) ⟨t.val % 8, by omega⟩).val, 0, 0]
    ∧ (pcfg0.win (adm m hO) 3).index t = ![(member (tgOf m c (ix1 (tile t))) ⟨t.val % 8, by omega⟩).val, 0, 0]
    ∧ (pcfg0.win (adm m hO) 4).index t = ![(member (tgOf m c (ix1 (tile t))) ⟨t.val % 8, by omega⟩).val, 0, 0] := by
  have h := KernelIdeal_index (tbl m) hg (grid0.coords t)
  have hl := hg (ix1 (tile t))
  have e : (tbl m 0 (ix1 (grid0.coords t 0)) : BitVec 32).toNat * 8 + (grid0.coords t 1).val = (member (tgOf m c (ix1 (tile t))) ⟨t.val % 8, by omega⟩).val := by
    rw [tile_eq, (coords_val t).2]
    rw [tbl0 m c] at hl ⊢
    simp only [member]; omega
  rw [e] at h
  exact ⟨h, h, h⟩

/-- Token `r` of the tile of a point. -/
def tok (t : Fin grid0.N) (r : Fin 1024) : Fin 20480 := ⟨t.val / 8 * 1024 + r.val, by have := t.isLt; have : grid0.N = 160 := rfl; omega⟩

theorem iblk0 (t : Fin (cfgM m hO).N) (r : Fin 1024) (p : Fin 512) :
    iblk m hO c 0 t (ix2 r p : S1024x512.Idx) = m ((c : Thread nD τ).loc main_arg2) (ix2 (tok t r) p : S20480x512.Idx) := by
  have h := (win_fixed m hO t).1
  blk_ext [iblk, V, h]
  · exact congrArg (· * 1024 + r.val) (congrFun h 0)
  · exact (congrArg (· * 512 + p.val) (congrFun h 1)).trans (by simp)

theorem iblk1 (t : Fin (cfgM m hO).N) (r : Fin 1024) (p : Fin 128) :
    iblk m hO c 1 t (ix2 r p : S1024x128.Idx) = m ((c : Thread nD τ).loc main_arg3) (ix2 (tok t r) p : S20480x128.Idx) := by
  have h := (win_fixed m hO t).2.1
  blk_ext [iblk, V, h]
  · exact congrArg (· * 1024 + r.val) (congrFun h 0)
  · exact (congrArg (· * 128 + p.val) (congrFun h 1)).trans (by simp)

variable (hg : ∀ x : S20.Idx, (tbl m 0 x : BitVec 32).toNat < 4)
include hg

theorem iblk2 (t : Fin (cfgM m hO).N) (p : Fin 1024) (k : Fin 256) :
    iblk m hO c 2 t (ix3 0 p k : S1x1024x256.Idx) = m ((c : Thread nD τ).loc main_arg4) (ix3 (member (tgOf m c (ix1 (tile t))) ⟨t.val % 8, by omega⟩) p k : S32x1024x256.Idx) := by
  have h := (win_expert m hO c hg t).1
  blk_ext [iblk, V, h]
  · exact (Nat.add_zero _).trans (congrFun h 0)
  · exact (congrArg (· * 1024 + p.val) (congrFun h 1)).trans (by simp)
  · exact (congrArg (· * 256 + k.val) (congrFun h 2)).trans (by simp)

theorem iblk3 (t : Fin (cfgM m hO).N) (p : Fin 1024) (k : Fin 256) :
    iblk m hO c 3 t (ix3 0 p k : S1x1024x256.Idx) = m ((c : Thread nD τ).loc main_arg5) (ix3 (member (tgOf m c (ix1 (tile t))) ⟨t.val % 8, by omega⟩) p k : S32x1024x256.Idx) := by
  have h := (win_expert m hO c hg t).2.1
  blk_ext [iblk, V, h]
  · exact (Nat.add_zero _).trans (congrFun h 0)
  · exact (congrArg (· * 1024 + p.val) (congrFun h 1)).trans (by simp)
  · exact (congrArg (· * 256 + k.val) (congrFun h 2)).trans (by simp)

theorem iblk4 (t : Fin (cfgM m hO).N) (k : Fin 256) (j : Fin 1024) :
    iblk m hO c 4 t (ix3 0 k j : S1x256x1024.Idx) = m ((c : Thread nD τ).loc main_arg6) (ix3 (member (tgOf m c (ix1 (tile t))) ⟨t.val % 8, by omega⟩) k j : S32x256x1024.Idx) := by
  have h := (win_expert m hO c hg t).2.2
  blk_ext [iblk, V, h]
  · exact (Nat.add_zero _).trans (congrFun h 0)
  · exact (congrArg (· * 256 + k.val) (congrFun h 1)).trans (by simp)
  · exact (congrArg (· * 1024 + j.val) (congrFun h 2)).trans (by simp)

omit hg

/-- The group's word the body reads. -/
theorem groupWord_eq (t : Fin grid0.N) : groupWord c (grid0.coords t) (tbl m 0) = (tgOf m c (ix1 (tile t)) : BitVec 32) := by
  rw [← tbl0, ← tile_eq]
  refine congrArg (tbl m 0) (funext fun (a : Fin 1) => ?_)
  obtain rfl : a = 0 := Subsingleton.elim _ _
  apply Fin.ext
  have h0 : (grid0.coords t 0).val < 20 := (grid0.coords t 0).isLt
  show (BitVec.ofNat 32 (grid0.coords t 0).val).toNat + 1 * 0 = (grid0.coords t 0).val
  rw [BitVec.toNat_ofNat]
  omega

/-- The body holds a tile used when its word is positive. -/
theorem used_word (i : grid0.Coords) (w : BitVec 32) : cond0_1 i w ↔ 0 < w.toInt := by
  have ne_one (p : Bool) : Scalar.cmpi .ne (Scalar.extui (BitVec.ofBool p) : BitVec 32) 0#32 = 1#1 ↔ p = true := by cases p <;> decide
  have h := ne_one ((0#32).slt w)
  simp only [BitVec.slt, decide_eq_true_eq, BitVec.toInt_zero] at h
  exact h

theorem used_iff (t : Fin grid0.N) : Used c (grid0.coords t) (tbl m 1) ↔ 0 < (tvOf m c (ix1 (tile t)) : BitVec 32).toInt := by
  rw [← tbl1, ← tile_eq]
  refine Iff.trans ?_ (used_word (grid0.coords t) _)
  refine iff_of_eq (congrArg (cond0_1 (grid0.coords t)) (congrArg (tbl m 1) (funext fun (a : Fin 1) => ?_)))
  obtain rfl : a = 0 := Subsingleton.elim _ _
  apply Fin.ext
  have h0 : (grid0.coords t 0).val < 20 := (grid0.coords t 0).isLt
  show (BitVec.ofNat 32 (grid0.coords t 0).val).toNat + 1 * 0 = (grid0.coords t 0).val
  rw [BitVec.toNat_ofNat]
  omega

end Cert.Moe
end
-- ==== Proof.MoeSteps.lean ====
module

public import proofs.«01_k».proof.Proof.MoeValue

@[expose] public section
set_option maxRecDepth 16384
noncomputable section
namespace Cert.Moe
open Idealize.ShloMosaic Idealize.ShloMosaic.TcCoe Idealize.SL.Sem
open Cert.KernelIdeal Cert.KernelIdeal.Gen

variable (m : (ℓ : Loc nD τ sig) → Buf (Elt Ideal) ℓ) (hO : Ok m) (c : Dev nD)

/-! ## What a point leaves in the carried buffers -/

/-- A used tile starts: the low halves. -/
theorem at_lo_A (t : Fin (cfgM m hO).N) (h0 : t.val % 8 = 0) (h1 : Used c (grid0.coords t) (tbl m 1)) (h2 : ¬t.val % 8 = 7) :
    (outsAt0 m hO c t.val t.isLt).2.1 = (k0_pay1 (iblk m hO c 0 t)) := by
  rw [outsAt0_A m hO c t h0 h1 h2]
  dsimp only
  exact lo_A (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) ((hcond0_0 t).mpr h0) (fun h => h2 ((hcond0_2 t).mp h)) h1

/-- A used tile starts: the high halves. -/
theorem at_hi_A (t : Fin (cfgM m hO).N) (h0 : t.val % 8 = 0) (h1 : Used c (grid0.coords t) (tbl m 1)) (h2 : ¬t.val % 8 = 7) :
    (outsAt0 m hO c t.val t.isLt).2.2.1 = (k0_pay2 (iblk m hO c 0 t)) := by
  rw [outsAt0_A m hO c t h0 h1 h2]
  dsimp only
  exact hi_A (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) ((hcond0_0 t).mpr h0) (fun h => h2 ((hcond0_2 t).mp h)) h1

/-- A used tile starts: its first expert. -/
theorem at_acc_A (t : Fin (cfgM m hO).N) (h0 : t.val % 8 = 0) (h1 : Used c (grid0.coords t) (tbl m 1)) (h2 : ¬t.val % 8 = 7) :
    (outsAt0 m hO c t.val t.isLt).2.2.2 = stepAcc (F := Ideal) (BitVec.ofNat 32 (grid0.coords t 1).val) (groupWord c (grid0.coords t) (tbl m 0)) (iblk m hO c 1 t) (iblk m hO c 2 t) (iblk m hO c 3 t) (iblk m hO c 4 t) (k0_pay1 (iblk m hO c 0 t)) (k0_pay2 (iblk m hO c 0 t)) (k0_pay3 (F := Ideal)) [⟨Rect.unit ![0, 0] ![1024, 1024] inb_S1024x1024_S1024x1024_0_0, k0_pay3 (F := Ideal)⟩] := by
  rw [outsAt0_A m hO c t h0 h1 h2]
  dsimp only
  exact acc_A (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) ((hcond0_0 t).mpr h0) (fun h => h2 ((hcond0_2 t).mp h)) h1

/-- An empty tile starts: the low halves. -/
theorem at_lo_B (t : Fin (cfgM m hO).N) (h0 : t.val % 8 = 0) (h1 : ¬Used c (grid0.coords t) (tbl m 1)) (h2 : ¬t.val % 8 = 7) :
    (outsAt0 m hO c t.val t.isLt).2.1 = (k0_pay1 (iblk m hO c 0 t)) := by
  rw [outsAt0_B m hO c t h0 h1 h2]
  dsimp only
  exact lo_B (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) ((hcond0_0 t).mpr h0) (fun h => h2 ((hcond0_2 t).mp h)) h1

/-- An empty tile starts: the high halves. -/
theorem at_hi_B (t : Fin (cfgM m hO).N) (h0 : t.val % 8 = 0) (h1 : ¬Used c (grid0.coords t) (tbl m 1)) (h2 : ¬t.val % 8 = 7) :
    (outsAt0 m hO c t.val t.isLt).2.2.1 = (k0_pay2 (iblk m hO c 0 t)) := by
  rw [outsAt0_B m hO c t h0 h1 h2]
  dsimp only
  exact hi_B (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) ((hcond0_0 t).mpr h0) (fun h => h2 ((hcond0_2 t).mp h)) h1

/-- An empty tile starts: zeros. -/
theorem at_acc_B (t : Fin (cfgM m hO).N) (h0 : t.val % 8 = 0) (h1 : ¬Used c (grid0.coords t) (tbl m 1)) (h2 : ¬t.val % 8 = 7) :
    (outsAt0 m hO c t.val t.isLt).2.2.2 = (k0_pay3 (F := Ideal)) := by
  rw [outsAt0_B m hO c t h0 h1 h2]
  dsimp only
  exact acc_B (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) ((hcond0_0 t).mpr h0) (fun h => h2 ((hcond0_2 t).mp h)) h1

/-- A used tile goes on. -/
theorem at_acc_C (t : Fin (cfgM m hO).N) (h0 : ¬t.val % 8 = 0) (h1 : Used c (grid0.coords t) (tbl m 1)) (h2 : ¬t.val % 8 = 7) :
    (outsAt0 m hO c t.val t.isLt).2.2.2 = stepAcc (F := Ideal) (BitVec.ofNat 32 (grid0.coords t 1).val) (groupWord c (grid0.coords t) (tbl m 0)) (iblk m hO c 1 t) (iblk m hO c 2 t) (iblk m hO c 3 t) (iblk m hO c 4 t) (outsAt0 m hO c (t.val - 1) (by have := t.isLt; omega)).2.1 (outsAt0 m hO c (t.val - 1) (by have := t.isLt; omega)).2.2.1 (outsAt0 m hO c (t.val - 1) (by have := t.isLt; omega)).2.2.2 [] := by
  rw [outsAt0_C m hO c t h0 h1 h2]
  dsimp only
  exact acc_C (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) (outsAt0 m hO c ((t : Fin (cfgM m hO).N).val - 1) (by have := (t : Fin (cfgM m hO).N).isLt; omega)).2.1 (outsAt0 m hO c ((t : Fin (cfgM m hO).N).val - 1) (by have := (t : Fin (cfgM m hO).N).isLt; omega)).2.2.1 (outsAt0 m hO c ((t : Fin (cfgM m hO).N).val - 1) (by have := (t : Fin (cfgM m hO).N).isLt; omega)).2.2.2 (fun h => h0 ((hcond0_0 t).mp h)) (fun h => h2 ((hcond0_2 t).mp h)) h1

/-- A used tile ends. -/
theorem at_acc_E (t : Fin (cfgM m hO).N) (h0 : ¬t.val % 8 = 0) (h1 : Used c (grid0.coords t) (tbl m 1)) (h2 : t.val % 8 = 7) :
    (outsAt0 m hO c t.val t.isLt).2.2.2 = stepAcc (F := Ideal) (BitVec.ofNat 32 (grid0.coords t 1).val) (groupWord c (grid0.coords t) (tbl m 0)) (iblk m hO c 1 t) (iblk m hO c 2 t) (iblk m hO c 3 t) (iblk m hO c 4 t) (outsAt0 m hO c (t.val - 1) (by have := t.isLt; omega)).2.1 (outsAt0 m hO c (t.val - 1) (by have := t.isLt; omega)).2.2.1 (outsAt0 m hO c (t.val - 1) (by have := t.isLt; omega)).2.2.2 [] := by
  rw [outsAt0_E m hO c t h0 h1 h2]
  dsimp only
  exact acc_E (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) (outsAt0 m hO c ((t : Fin (cfgM m hO).N).val - 1) (by have := (t : Fin (cfgM m hO).N).isLt; omega)).2.1 (outsAt0 m hO c ((t : Fin (cfgM m hO).N).val - 1) (by have := (t : Fin (cfgM m hO).N).isLt; omega)).2.2.1 (outsAt0 m hO c ((t : Fin (cfgM m hO).N).val - 1) (by have := (t : Fin (cfgM m hO).N).isLt; omega)).2.2.2 (fun h => h0 ((hcond0_0 t).mp h)) ((hcond0_2 t).mpr h2) h1

/-- A used tile is written out. -/
theorem at_out_E (t : Fin (cfgM m hO).N) (h0 : ¬t.val % 8 = 0) (h1 : Used c (grid0.coords t) (tbl m 1)) (h2 : t.val % 8 = 7) :
    (outsAt0 m hO c t.val t.isLt).1 = k0_pay5 (stepAcc (F := Ideal) (BitVec.ofNat 32 (grid0.coords t 1).val) (groupWord c (grid0.coords t) (tbl m 0)) (iblk m hO c 1 t) (iblk m hO c 2 t) (iblk m hO c 3 t) (iblk m hO c 4 t) (outsAt0 m hO c (t.val - 1) (by have := t.isLt; omega)).2.1 (outsAt0 m hO c (t.val - 1) (by have := t.isLt; omega)).2.2.1 (outsAt0 m hO c (t.val - 1) (by have := t.isLt; omega)).2.2.2 []) := by
  rw [outsAt0_E m hO c t h0 h1 h2]
  dsimp only
  exact out_E (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) (outsAt0 m hO c ((t : Fin (cfgM m hO).N).val - 1) (by have := (t : Fin (cfgM m hO).N).isLt; omega)).2.1 (outsAt0 m hO c ((t : Fin (cfgM m hO).N).val - 1) (by have := (t : Fin (cfgM m hO).N).isLt; omega)).2.2.1 (outsAt0 m hO c ((t : Fin (cfgM m hO).N).val - 1) (by have := (t : Fin (cfgM m hO).N).isLt; omega)).2.2.2 (fun h => h0 ((hcond0_0 t).mp h)) ((hcond0_2 t).mpr h2) h1

/-- An empty tile is written out. -/
theorem at_out_F (t : Fin (cfgM m hO).N) (h0 : ¬t.val % 8 = 0) (h1 : ¬Used c (grid0.coords t) (tbl m 1)) (h2 : t.val % 8 = 7) :
    (outsAt0 m hO c t.val t.isLt).1 = k0_pay5 (outsAt0 m hO c (t.val - 1) (by have := t.isLt; omega)).2.2.2 := by
  rw [outsAt0_F m hO c t h0 h1 h2]
  dsimp only
  exact out_F (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) (outsAt0 m hO c ((t : Fin (cfgM m hO).N).val - 1) (by have := (t : Fin (cfgM m hO).N).isLt; omega)).2.1 (outsAt0 m hO c ((t : Fin (cfgM m hO).N).val - 1) (by have := (t : Fin (cfgM m hO).N).isLt; omega)).2.2.1 (outsAt0 m hO c ((t : Fin (cfgM m hO).N).val - 1) (by have := (t : Fin (cfgM m hO).N).isLt; omega)).2.2.2 (fun h => h0 ((hcond0_0 t).mp h)) ((hcond0_2 t).mpr h2) h1

/-- A tile's first point unpacks the low halves of its tokens, -/
theorem lo_reset (t : Fin (cfgM m hO).N) (h0 : t.val % 8 = 0) : (outsAt0 m hO c t.val t.isLt).2.1 = k0_pay1 (iblk m hO c 0 t) := by
  by_cases h1 : Used c (grid0.coords t) (tbl m 1)
  · exact (at_lo_A m hO c t h0 h1 (by omega))
  · exact (at_lo_B m hO c t h0 h1 (by omega))

/-- and the high halves, -/
theorem hi_reset (t : Fin (cfgM m hO).N) (h0 : t.val % 8 = 0) : (outsAt0 m hO c t.val t.isLt).2.2.1 = k0_pay2 (iblk m hO c 0 t) := by
  by_cases h1 : Used c (grid0.coords t) (tbl m 1)
  · exact (at_hi_A m hO c t h0 h1 (by omega))
  · exact (at_hi_B m hO c t h0 h1 (by omega))

/-- The blocks of a point, at the kernel's shapes. -/
def csBlk (t : Fin (cfgM m hO).N) : FVec Ideal S1024x128 .f32 := iblk m hO c 1 t
def wgBlk (t : Fin (cfgM m hO).N) : FVec Ideal S1x1024x256 .f32 := iblk m hO c 2 t
def wuBlk (t : Fin (cfgM m hO).N) : FVec Ideal S1x1024x256 .f32 := iblk m hO c 3 t
def wdBlk (t : Fin (cfgM m hO).N) : FVec Ideal S1x256x1024 .f32 := iblk m hO c 4 t

/-- What a point adds: its expert's part, if its tile holds tokens. -/
def partOf (t : Fin (cfgM m hO).N) (lo hi : FVec Ideal S1024x512 .bf16) (r j : Fin 1024) : EReal :=
  if 0 < (tvOf m c (ix1 (tile t)) : BitVec 32).toInt then
    partAt (BitVec.ofNat 32 (t.val % 8)) (tgOf m c (ix1 (tile t))) (csBlk m hO c t) (wgBlk m hO c t) (wuBlk m hO c t) (wdBlk m hO c t) lo hi r j
  else 0

theorem stepAcc_at (t : Fin (cfgM m hO).N) (h1 : 0 < (tvOf m c (ix1 (tile t)) : BitVec 32).toInt) (lo hi : FVec Ideal S1024x512 .bf16) (acc : FVec Ideal S1024x1024 .f32)
    (L : List (View.Piece (Elt Ideal) S1024x1024 .f32)) (r j : Fin 1024) :
    stepAcc (F := Ideal) (BitVec.ofNat 32 (grid0.coords t 1).val) (groupWord c (grid0.coords t) (tbl m 0)) (iblk m hO c 1 t) (iblk m hO c 2 t) (iblk m hO c 3 t) (iblk m hO c 4 t)
      lo hi acc L (ix2 r j : S1024x1024.Idx) = acc (ix2 r j) + partOf m hO c t lo hi r j := by
  have e1 : BitVec.ofNat 32 (grid0.coords t 1).val = BitVec.ofNat 32 (t.val % 8) := congrArg _ (coords_val t).2
  have e2 := groupWord_eq m c t
  unfold partOf
  rw [if_pos h1, ← e1, ← e2]
  exact stepAcc_apply _ _ _ _ _ _ _ _ _ _ r j

/-- and starts the sum of the tile's experts. -/
theorem acc_reset (t : Fin (cfgM m hO).N) (h0 : t.val % 8 = 0) (r j : Fin 1024) :
    (outsAt0 m hO c t.val t.isLt).2.2.2 (ix2 r j : S1024x1024.Idx) =
      partOf m hO c t (outsAt0 m hO c t.val t.isLt).2.1 (outsAt0 m hO c t.val t.isLt).2.2.1 r j := by
  have hz : (k0_pay3 (F := Ideal)) (ix2 r j : S1024x1024.Idx) = (0 : EReal) := by pointwise [k0_pay3]
  rw [lo_reset m hO c t h0, hi_reset m hO c t h0]
  by_cases h : 0 < (tvOf m c (ix1 (tile t)) : BitVec 32).toInt
  · have h1 := (used_iff m c t).mpr h
    refine (congrFun (at_acc_A m hO c t h0 h1 (by omega)) _).trans ?_
    refine (stepAcc_at m hO c t h _ _ _ _ r j).trans ?_
    rw [hz, zero_add]
  · have h1 := mt (used_iff m c t).mp h
    refine (congrFun (at_acc_B m hO c t h0 h1 (by omega)) _).trans ?_
    unfold partOf
    rw [if_neg h]
    exact hz

/-- Every other point keeps the halves, -/
theorem lo_step (n : ℕ) (hn : n + 1 < (cfgM m hO).N) (h0 : ¬(n + 1) % 8 = 0) :
    (outsAt0 m hO c (n + 1) hn).2.1 = (outsAt0 m hO c n (Nat.lt_of_succ_lt hn)).2.1
    ∧ (outsAt0 m hO c (n + 1) hn).2.2.1 = (outsAt0 m hO c n (Nat.lt_of_succ_lt hn)).2.2.1 := by
  by_cases h1 : Used c (grid0.coords ⟨n + 1, hn⟩) (tbl m 1) <;> by_cases h2 : (n + 1) % 8 = 7
  · have h := outsAt0_E m hO c ⟨n + 1, hn⟩ h0 h1 h2
    exact ⟨(congrArg (fun p => p.2.1) h), (congrArg (fun p => p.2.2.1) h)⟩
  · have h := outsAt0_C m hO c ⟨n + 1, hn⟩ h0 h1 h2
    exact ⟨(congrArg (fun p => p.2.1) h), (congrArg (fun p => p.2.2.1) h)⟩
  · have h := outsAt0_F m hO c ⟨n + 1, hn⟩ h0 h1 h2
    exact ⟨(congrArg (fun p => p.2.1) h), (congrArg (fun p => p.2.2.1) h)⟩
  · have h := outsAt0_D m hO c ⟨n + 1, hn⟩ h0 h1 h2
    exact ⟨(congrArg (fun p => p.2.1) h), (congrArg (fun p => p.2.2.1) h)⟩

/-- and adds its expert's part. -/
theorem acc_step (n : ℕ) (hn : n + 1 < (cfgM m hO).N) (h0 : ¬(n + 1) % 8 = 0) (r j : Fin 1024) :
    (outsAt0 m hO c (n + 1) hn).2.2.2 (ix2 r j : S1024x1024.Idx) = (outsAt0 m hO c n (Nat.lt_of_succ_lt hn)).2.2.2 (ix2 r j : S1024x1024.Idx)
      + partOf m hO c ⟨n + 1, hn⟩ (outsAt0 m hO c (n + 1) hn).2.1 (outsAt0 m hO c (n + 1) hn).2.2.1 r j := by
  rw [(lo_step m hO c n hn h0).1, (lo_step m hO c n hn h0).2]
  by_cases h : 0 < (tvOf m c (ix1 (tile ⟨n + 1, hn⟩)) : BitVec 32).toInt
  · have h1 := (used_iff m c ⟨n + 1, hn⟩).mpr h
    by_cases h2 : (n + 1) % 8 = 7
    · refine (congrFun (at_acc_E m hO c ⟨n + 1, hn⟩ h0 h1 h2) _).trans ?_
      exact stepAcc_at m hO c ⟨n + 1, hn⟩ h _ _ _ _ r j
    · refine (congrFun (at_acc_C m hO c ⟨n + 1, hn⟩ h0 h1 h2) _).trans ?_
      exact stepAcc_at m hO c ⟨n + 1, hn⟩ h _ _ _ _ r j
  · have h1 := mt (used_iff m c ⟨n + 1, hn⟩).mp h
    unfold partOf
    rw [if_neg h, add_zero]
    by_cases h2 : (n + 1) % 8 = 7
    · exact congrFun (congrArg (fun p => p.2.2.2) (outsAt0_F m hO c ⟨n + 1, hn⟩ h0 h1 h2)) _
    · exact congrFun (congrArg (fun p => p.2.2.2) (outsAt0_D m hO c ⟨n + 1, hn⟩ h0 h1 h2)) _

/-- A tile's last point writes the sum out. -/
theorem out_last (t : Fin (cfgM m hO).N) (h2 : t.val % 8 = 7) (r j : Fin 1024) :
    (outsAt0 m hO c t.val t.isLt).1 (ix2 r j : S1024x1024.Idx) = (outsAt0 m hO c t.val t.isLt).2.2.2 (ix2 r j : S1024x1024.Idx) := by
  have hp (x : FVec Ideal S1024x1024 .f32) : (show FVec Ideal S1024x1024 .bf16 from k0_pay5 x) (ix2 r j) = (show EReal from x (ix2 r j)) := by pointwise [k0_pay5]
  by_cases h1 : Used c (grid0.coords t) (tbl m 1)
  · refine (congrFun (at_out_E m hO c t (by omega) h1 h2) _).trans ((hp _).trans ?_)
    exact (congrFun (at_acc_E m hO c t (by omega) h1 h2) _).symm
  · refine (congrFun (at_out_F m hO c t (by omega) h1 h2) _).trans ((hp _).trans ?_)
    exact (congrFun (congrArg (fun p => p.2.2.2) (outsAt0_F m hO c t (by omega) h1 h2)) _).symm

end Cert.Moe
end
-- ==== Proof.MoeRun.lean ====
module

public import proofs.«01_k».proof.Proof.MoeSteps

@[expose] public section
set_option maxRecDepth 16384
noncomputable section
namespace Cert.Moe
open Idealize.ShloMosaic Idealize.ShloMosaic.TcCoe Idealize.SL.Sem
open Cert.KernelIdeal Cert.KernelIdeal.Gen

variable (m : (ℓ : Loc nD τ sig) → Buf (Elt Ideal) ℓ) (hO : Ok m) (c : Dev nD)

/-! ## Their values -/

/-- The layer's expression over the launch's arguments. -/
abbrev shareOf (R : Fin 20480) (j : Fin 1024) (e : Fin 8) : EReal :=
  share (tgOf m c) (tvOf m c) (m ((c : Thread nD τ).loc main_arg2)) (m ((c : Thread nD τ).loc main_arg3)) (m ((c : Thread nD τ).loc main_arg4))
    (m ((c : Thread nD τ).loc main_arg5)) (m ((c : Thread nD τ).loc main_arg6)) R j e

abbrev featOf (b : ℕ) (R : Fin 20480) (p : Fin 512) : EReal := feat (m ((c : Thread nD τ).loc main_arg2)) b R p

theorem pay1_at (x : IVec S1024x512 32) (r : Fin 1024) (p : Fin 512) :
    k0_pay1 (F := Ideal) x (ix2 r p : S1024x512.Idx) = (Ideal.ofBits .bf16 ((x (ix2 r p)).extractLsb' (0 * 16) 16) : EReal) := by
  pointwise [k0_pay1]

theorem pay2_at (x : IVec S1024x512 32) (r : Fin 1024) (p : Fin 512) :
    k0_pay2 (F := Ideal) x (ix2 r p : S1024x512.Idx) = (Ideal.ofBits .bf16 ((x (ix2 r p)).extractLsb' (1 * 16) 16) : EReal) := by
  pointwise [k0_pay2]

theorem tile_tok (t : Fin grid0.N) (r : Fin 1024) : (⟨(tok t r).val / 1024, by omega⟩ : Fin 20) = tile t := by
  apply Fin.ext
  simp only [tok, tile]; omega

/-- Points of one tile stand at the same tokens. -/
theorem tok_succ (n : ℕ) (hn : n + 1 < grid0.N) (h0 : ¬(n + 1) % 8 = 0) (r : Fin 1024) : tok ⟨n + 1, hn⟩ r = tok ⟨n, Nat.lt_of_succ_lt hn⟩ r := by
  apply Fin.ext
  simp only [tok]; omega

variable (hg : ∀ x : S20.Idx, (tbl m 0 x : BitVec 32).toNat < 4)
include hg

/-- A used point's part is its expert's share. -/
theorem part_eq (t : Fin (cfgM m hO).N) (lo hi : FVec Ideal S1024x512 .bf16)
    (hlo : ∀ (r : Fin 1024) (p : Fin 512), lo (ix2 r p) = featOf m c 0 (tok t r) p) (hhi : ∀ (r : Fin 1024) (p : Fin 512), hi (ix2 r p) = featOf m c 1 (tok t r) p)
    (r j : Fin 1024) : partOf m hO c t lo hi r j = shareOf m c (tok t r) j ⟨t.val % 8, by omega⟩ := by
  have hgt := hg (ix1 (tile t))
  rw [tbl0 m c] at hgt
  unfold partOf shareOf share
  simp only [tile_tok]
  refine if_congr Iff.rfl ?_ rfl
  have d2 (k : Fin 256) : dotAt lo hi (wgBlk m hO c t) r k = proj (m ((c : Thread nD τ).loc main_arg2)) (m ((c : Thread nD τ).loc main_arg4)) (tok t r) (member (tgOf m c (ix1 (tile t))) ⟨t.val % 8, by omega⟩) k := by
    unfold dotAt proj
    refine congrArg₂ (· + ·) (Finset.sum_congr rfl fun p _ => ?_) (Finset.sum_congr rfl fun p _ => ?_)
    · exact congrArg₂ (· * ·) (hlo r p) (iblk2 m hO c hg t _ k)
    · exact congrArg₂ (· * ·) (hhi r p) (iblk2 m hO c hg t _ k)
  have d3 (k : Fin 256) : dotAt lo hi (wuBlk m hO c t) r k = proj (m ((c : Thread nD τ).loc main_arg2)) (m ((c : Thread nD τ).loc main_arg5)) (tok t r) (member (tgOf m c (ix1 (tile t))) ⟨t.val % 8, by omega⟩) k := by
    unfold dotAt proj
    refine congrArg₂ (· + ·) (Finset.sum_congr rfl fun p _ => ?_) (Finset.sum_congr rfl fun p _ => ?_)
    · exact congrArg₂ (· * ·) (hlo r p) (iblk3 m hO c hg t _ k)
    · exact congrArg₂ (· * ·) (hhi r p) (iblk3 m hO c hg t _ k)
  unfold partAt expert
  refine congrArg₂ (· * ·) (Finset.sum_congr rfl fun k _ => ?_) ?_
  · refine congrArg₂ (· * ·) ?_ (iblk4 m hO c hg t k j)
    unfold hidAt
    rw [d2, d3]
  · refine (weightAt_eq (t.val % 8) (by omega) _ hgt _ r).trans ((iblk1 m hO c t r _).trans ?_)
    refine congrArg (fun l => m ((c : Thread nD τ).loc main_arg3) (ix2 (tok t r) l : S20480x128.Idx)) (Fin.ext ?_)
    simp only [member]; omega

/-- After point `n` the carried buffers hold the tile's features and the sum of its first experts' shares. -/
theorem carried : ∀ (n : ℕ) (hn : n < (cfgM m hO).N),
    (∀ (r : Fin 1024) (p : Fin 512), (outsAt0 m hO c n hn).2.1 (ix2 r p : S1024x512.Idx) = featOf m c 0 (tok ⟨n, hn⟩ r) p)
    ∧ (∀ (r : Fin 1024) (p : Fin 512), (outsAt0 m hO c n hn).2.2.1 (ix2 r p : S1024x512.Idx) = featOf m c 1 (tok ⟨n, hn⟩ r) p)
    ∧ ∀ r j : Fin 1024, (outsAt0 m hO c n hn).2.2.2 (ix2 r j : S1024x1024.Idx)
        = ∑ e ∈ Finset.range (n % 8 + 1), shareOf m c (tok ⟨n, hn⟩ r) j ⟨e % 8, by omega⟩ := by
  have first : ∀ (n : ℕ) (hn : n < (cfgM m hO).N) (h0 : n % 8 = 0),
    (∀ (r : Fin 1024) (p : Fin 512), (outsAt0 m hO c n hn).2.1 (ix2 r p : S1024x512.Idx) = featOf m c 0 (tok ⟨n, hn⟩ r) p)
    ∧ (∀ (r : Fin 1024) (p : Fin 512), (outsAt0 m hO c n hn).2.2.1 (ix2 r p : S1024x512.Idx) = featOf m c 1 (tok ⟨n, hn⟩ r) p)
    ∧ ∀ r j : Fin 1024, (outsAt0 m hO c n hn).2.2.2 (ix2 r j : S1024x1024.Idx)
        = ∑ e ∈ Finset.range (n % 8 + 1), shareOf m c (tok ⟨n, hn⟩ r) j ⟨e % 8, by omega⟩ := by
    intro n hn h0
    have hlo : ∀ (r : Fin 1024) (p : Fin 512), (outsAt0 m hO c n hn).2.1 (ix2 r p : S1024x512.Idx) = featOf m c 0 (tok ⟨n, hn⟩ r) p := fun r p => by
      refine (congrFun (lo_reset m hO c ⟨n, hn⟩ h0) _).trans ((pay1_at _ r p).trans ?_)
      exact congrArg (fun w : BitVec 32 => (Ideal.ofBits .bf16 (w.extractLsb' (0 * 16) 16) : EReal)) (iblk0 m hO c ⟨n, hn⟩ r p)
    have hhi : ∀ (r : Fin 1024) (p : Fin 512), (outsAt0 m hO c n hn).2.2.1 (ix2 r p : S1024x512.Idx) = featOf m c 1 (tok ⟨n, hn⟩ r) p := fun r p => by
      refine (congrFun (hi_reset m hO c ⟨n, hn⟩ h0) _).trans ((pay2_at _ r p).trans ?_)
      exact congrArg (fun w : BitVec 32 => (Ideal.ofBits .bf16 (w.extractLsb' (1 * 16) 16) : EReal)) (iblk0 m hO c ⟨n, hn⟩ r p)
    refine ⟨hlo, hhi, fun r j => ?_⟩
    refine (acc_reset m hO c ⟨n, hn⟩ h0 r j).trans ((part_eq m hO c hg ⟨n, hn⟩ _ _ hlo hhi r j).trans ?_)
    simp only [h0, Nat.zero_add, Finset.range_one, Finset.sum_singleton, Nat.zero_mod]
  intro n
  induction n with
  | zero => exact fun hn => first 0 hn rfl
  | succ n ih =>
    intro hn
    by_cases h0 : (n + 1) % 8 = 0
    · exact first _ hn h0
    obtain ⟨il, ih, ia⟩ := ih (Nat.lt_of_succ_lt hn)
    obtain ⟨sl, sh⟩ := lo_step m hO c n hn h0
    have hlo : ∀ (r : Fin 1024) (p : Fin 512), (outsAt0 m hO c (n + 1) hn).2.1 (ix2 r p : S1024x512.Idx) = featOf m c 0 (tok ⟨n + 1, hn⟩ r) p := fun r p => by
      refine (congrFun sl _).trans ((il r p).trans ?_)
      rw [tok_succ n hn h0]
    have hhi : ∀ (r : Fin 1024) (p : Fin 512), (outsAt0 m hO c (n + 1) hn).2.2.1 (ix2 r p : S1024x512.Idx) = featOf m c 1 (tok ⟨n + 1, hn⟩ r) p := fun r p => by
      refine (congrFun sh _).trans ((ih r p).trans ?_)
      rw [tok_succ n hn h0]
    refine ⟨hlo, hhi, fun r j => ?_⟩
    refine (acc_step m hO c n hn h0 r j).trans ?_
    rw [part_eq m hO c hg ⟨n + 1, hn⟩ _ _ hlo hhi r j, ia r j, tok_succ n hn h0]
    rw [Finset.sum_range_succ _ ((n + 1) % 8)]
    refine congrArg₂ (· + ·) ?_ ?_
    · rw [show (n + 1) % 8 = n % 8 + 1 by omega]
    · refine congrArg (shareOf m c _ j) (Fin.ext ?_)
      show (n + 1) % 8 = (n + 1) % 8 % 8
      omega

/-- A tile's last point writes out each token's sum over its group's experts. -/
theorem written (t : Fin (cfgM m hO).N) (h2 : t.val % 8 = 7) (r j : Fin 1024) :
    (outsAt0 m hO c t.val t.isLt).1 (ix2 r j : S1024x1024.Idx) = ∑ e : Fin 8, shareOf m c (tok t r) j e := by
  rw [out_last m hO c t h2, (carried m hO c hg t.val t.isLt).2.2 r j, h2, Finset.sum_range]
  refine Finset.sum_congr rfl fun e _ => ?_
  congr 1
  apply Fin.ext
  exact Nat.mod_eq_of_lt e.isLt

end Cert.Moe
end
-- ==== Proof.MoeFinal.lean ====
module

public import proofs.«01_k».proof.Proof.MoeRun
public import Idealize.ShloMosaic.Lib.Pipeline.Covers

@[expose] public section
set_option maxRecDepth 16384
noncomputable section
namespace Cert.Moe
open Idealize.ShloMosaic Idealize.ShloMosaic.TcCoe Idealize.SL.Sem
open Cert.KernelIdeal Cert.KernelIdeal.Gen

variable (m : (ℓ : Loc nD τ sig) → Buf (Elt Ideal) ℓ) (hO : Ok m) (c : Dev nD)

/-- The array the run leaves: at token `R` and feature `j` its group's experts' shares, summed. -/
def outArr : FVec Ideal S20480x1024 .bf16 := fun i =>
  mixed (tgOf m c) (tvOf m c) (m ((c : Thread nD τ).loc main_arg2)) (m ((c : Thread nD τ).loc main_arg3)) (m ((c : Thread nD τ).loc main_arg4))
    (m ((c : Thread nD τ).loc main_arg5)) (m ((c : Thread nD τ).loc main_arg6)) (i 0) (i 1)

/-- The blocks the tiles write cover the output. -/
theorem covers5 : ((cfgM m hO).win 5).Covers := by
  refine Pipeline.Window.covers_of_index_surj _ rfl (fun (a : Fin 2) => by match a with | 0 => exact (Nat.succ_pos 1023 : 0 < 1024) | 1 => exact (Nat.succ_pos 1023 : 0 < 1024)) fun β => ?_
  have hb0 : (β (0 : Fin 2)).val < 20 := lt_of_lt_of_eq (β (0 : Fin 2)).isLt (show (20480 + 1024 - 1) / 1024 = 20 from rfl)
  have hb1 : (β (1 : Fin 2)).val < 1 := lt_of_lt_of_eq (β (1 : Fin 2)).isLt (show (1024 + 1024 - 1) / 1024 = 1 from rfl)
  have hlt : (β (0 : Fin 2)).val * 8 + 7 < grid0.N := by have : grid0.N = 160 := rfl; omega
  refine ⟨⟨(β (0 : Fin 2)).val * 8 + 7, hlt⟩, fun (a : Fin 2) => ?_⟩
  have h := (win_fixed m hO ⟨(β (0 : Fin 2)).val * 8 + 7, hlt⟩).2.2
  have ha := congrFun h a
  refine ha.trans ?_
  match a with
  | 0 => show ((β (0 : Fin 2)).val * 8 + 7) / 8 = (β (0 : Fin 2)).val; omega
  | 1 => show 0 = (β (1 : Fin 2)).val; omega

variable (hg : ∀ x : S20.Idx, (tbl m 0 x : BitVec 32).toNat < 4)
include hO hg

/-- After the run the output array is `outArr`. -/
theorem final : (dats m hO 0 c).arrAt 5 (cfgM m hO).N = outArr m c := by
  refine (dats m hO 0 c).arrAt_eq_of_covers 5 (outArr m c) (covers5 m hO) fun t hf y => ?_
  have h7 : t.val % 8 = 7 := (flush0_5 (adm m hO) t).mp hf
  rw [after0_5]
  have h := (win_fixed m hO t).2.2
  have hy0 : (y (0 : Fin 2)).val < 1024 := (y (0 : Fin 2)).isLt
  have hy1 : (y (1 : Fin 2)).val < 1024 := (y (1 : Fin 2)).isLt
  have hw := written m hO c hg t h7 ⟨(y (0 : Fin 2)).val, hy0⟩ ⟨(y (1 : Fin 2)).val, hy1⟩
  have e : (((cfgM m hO).win 5).blk t).view.emb y = (ix2 (tok t ⟨(y (0 : Fin 2)).val, hy0⟩) ⟨(y (1 : Fin 2)).val, hy1⟩ : S20480x1024.Idx) := by
    refine funext fun (a : Fin 2) => Fin.ext ?_
    match a with
    | 0 =>
      show (pcfg0.win (adm m hO) 5).index t (0 : Fin 2) * 1024 + 1 * (y (0 : Fin 2)).val = t.val / 8 * 1024 + (y (0 : Fin 2)).val
      have h0 : (pcfg0.win (adm m hO) 5).index t (0 : Fin 2) = t.val / 8 := congrFun h 0
      omega
    | 1 =>
      show (pcfg0.win (adm m hO) 5).index t (1 : Fin 2) * 1024 + 1 * (y (1 : Fin 2)).val = (y (1 : Fin 2)).val
      have h0 : (pcfg0.win (adm m hO) 5).index t (1 : Fin 2) = 0 := congrFun h 1
      omega
  refine Eq.trans ?_ (congrArg (outArr m c) e.symm)
  refine Eq.trans ?_ hw
  have e2 : ((cfgM m hO).win 5).xinj ((cfgM m hO).grid.coords t) y = (ix2 (⟨(y (0 : Fin 2)).val, hy0⟩ : Fin 1024) (⟨(y (1 : Fin 2)).val, hy1⟩ : Fin 1024) : S1024x1024.Idx) := by
    refine funext fun (a : Fin 2) => Fin.ext ?_
    match a with
    | 0 => rfl
    | 1 => rfl
  exact congrArg (outsAt0 m hO c t.val t.isLt).1 e2

/-- The run of the kernel: the output array is `outArr`, and the arguments are as launched. -/
theorem kernel_run (ρ : Dev nD → PrngReg) : θ_run defs (onTc (τ := τ) (main (F := Ideal))) ⟨m, fun _ => 0, ρ⟩ fun r => ∀ c : Dev nD,
    r.2.mem ((c : Thread nD τ).loc main_v0) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 5).trans (final m hO c hg),
      ((h c).2 main_arg0 (Pipeline.mem_restRefs_of (win := spec0) main_arg0 (by decide) (by decide))).trans (V_main_arg0 m c),
      ((h c).2 main_arg1 (Pipeline.mem_restRefs_of (win := spec0) main_arg1 (by decide) (by decide))).trans (V_main_arg1 m c),
      ((h c).1 0).trans (((dats m hO 0 c).arrAt_in 0 rfl _).trans ((A_eq m hO c 0).trans (V_main_arg2 m c))),
      ((h c).1 1).trans (((dats m hO 0 c).arrAt_in 1 rfl _).trans ((A_eq m hO c 1).trans (V_main_arg3 m c))),
      ((h c).1 2).trans (((dats m hO 0 c).arrAt_in 2 rfl _).trans ((A_eq m hO c 2).trans (V_main_arg4 m c))),
      ((h c).1 3).trans (((dats m hO 0 c).arrAt_in 3 rfl _).trans ((A_eq m hO c 3).trans (V_main_arg5 m c))),
      ((h c).1 4).trans (((dats m hO 0 c).arrAt_in 4 rfl _).trans ((A_eq m hO c 4).trans (V_main_arg6 m c)))⟩)
    (run_main m ρ hO)

end Cert.Moe
end
-- ==== Proof.MoeRef.lean ====
module

public import proofs.«01_k».proof.Proof.Gen.ReferenceIdeal.StepRun
public import proofs.«01_k».proof.Proof.MoeValue
public import Idealize.ShloMosaic.Lib.Pointwise

@[expose] public section
set_option maxRecDepth 16384
noncomputable section
namespace Cert.Moe
open Idealize.ShloMosaic Idealize.ShloMosaic.TcCoe Idealize.SL.Sem
open Cert.ReferenceIdeal Cert.ReferenceIdeal.Gen
open Cert.ReferenceIdeal.Step

/-! ## One trip of the reference's loop -/

theorem at2 {n0 n1 : ℕ} {α : Type} (g : (⟨2, ![n0, n1]⟩ : Shape).Idx → α) {a a' : Fin n0} {b b' : Fin n1} (ha : a.val = a'.val) (hb : b.val = b'.val) :
    g (ix2 a b) = g (ix2 a' b') := by
  rw [Fin.ext ha, Fin.ext hb]

theorem at3 {n0 n1 n2 : ℕ} {α : Type} (g : (⟨3, ![n0, n1, n2]⟩ : Shape).Idx → α) {a a' : Fin n0} {b b' : Fin n1} {c c' : Fin n2}
    (ha : a.val = a'.val) (hb : b.val = b'.val) (hc : c.val = c'.val) : g (ix3 a b c) = g (ix3 a' b' c') := by
  rw [Fin.ext ha, Fin.ext hb, Fin.ext hc]

theorem trip_start (x : Fin 32) : (BitVec.ofNat 32 x.val).toInt = x.val := by
  revert x; decide

/-- The starts of the slices of a trip: the given one on the first axis, 0 on the others. -/
theorem starts3 (v : BitVec 32) (i : S_.Idx) : (fun k : Fin 3 => BitVec.toInt (![constantI S_ 32 v, constantI S_ 32 0#32, constantI S_ 32 0#32] k i)) 0 = v.toInt
    ∧ (fun k : Fin 3 => BitVec.toInt (![constantI S_ 32 v, constantI S_ 32 0#32, constantI S_ 32 0#32] k i)) 1 = 0
    ∧ (fun k : Fin 3 => BitVec.toInt (![constantI S_ 32 v, constantI S_ 32 0#32, constantI S_ 32 0#32] k i)) 2 = 0 := ⟨rfl, rfl, rfl⟩

theorem starts2 (v : BitVec 32) (i : S_.Idx) : (fun k : Fin 2 => BitVec.toInt (![constantI S_ 32 v, constantI S_ 32 0#32] k i)) 0 = v.toInt
    ∧ (fun k : Fin 2 => BitVec.toInt (![constantI S_ 32 v, constantI S_ 32 0#32] k i)) 1 = 0 := ⟨rfl, rfl⟩

theorem up_start0 (h : S1x1024x256.rank = S32x1024x256.rank) (x : Fin 32) (i : S_.Idx) :
    Host.clampedStart S32x1024x256 S1x1024x256 h (fun k => BitVec.toInt (![constantI S_ 32 (BitVec.ofNat 32 x.val), constantI S_ 32 0#32, constantI S_ 32 0#32] k i)) 0 = x.val :=
  Host.clampedStart_of_le h _ 0 x.val ((starts3 (BitVec.ofNat 32 x.val) i).1.trans (trip_start x)) (by show x.val + 1 ≤ 32; omega)

theorem up_start1 (h : S1x1024x256.rank = S32x1024x256.rank) (x : Fin 32) (i : S_.Idx) :
    Host.clampedStart S32x1024x256 S1x1024x256 h (fun k => BitVec.toInt (![constantI S_ 32 (BitVec.ofNat 32 x.val), constantI S_ 32 0#32, constantI S_ 32 0#32] k i)) 1 = 0 :=
  Host.clampedStart_of_le h _ 1 0 ((starts3 (BitVec.ofNat 32 x.val) i).2.1) (by show 0 + 1024 ≤ 1024; omega)

theorem up_start2 (h : S1x1024x256.rank = S32x1024x256.rank) (x : Fin 32) (i : S_.Idx) :
    Host.clampedStart S32x1024x256 S1x1024x256 h (fun k => BitVec.toInt (![constantI S_ 32 (BitVec.ofNat 32 x.val), constantI S_ 32 0#32, constantI S_ 32 0#32] k i)) 2 = 0 :=
  Host.clampedStart_of_le h _ 2 0 ((starts3 (BitVec.ofNat 32 x.val) i).2.2) (by show 0 + 256 ≤ 256; omega)

theorem down_start0 (h : S1x256x1024.rank = S32x256x1024.rank) (x : Fin 32) (i : S_.Idx) :
    Host.clampedStart S32x256x1024 S1x256x1024 h (fun k => BitVec.toInt (![constantI S_ 32 (BitVec.ofNat 32 x.val), constantI S_ 32 0#32, constantI S_ 32 0#32] k i)) 0 = x.val :=
  Host.clampedStart_of_le h _ 0 x.val ((starts3 (BitVec.ofNat 32 x.val) i).1.trans (trip_start x)) (by show x.val + 1 ≤ 32; omega)

theorem down_start1 (h : S1x256x1024.rank = S32x256x1024.rank) (x : Fin 32) (i : S_.Idx) :
    Host.clampedStart S32x256x1024 S1x256x1024 h (fun k => BitVec.toInt (![constantI S_ 32 (BitVec.ofNat 32 x.val), constantI S_ 32 0#32, constantI S_ 32 0#32] k i)) 1 = 0 :=
  Host.clampedStart_of_le h _ 1 0 ((starts3 (BitVec.ofNat 32 x.val) i).2.1) (by show 0 + 256 ≤ 256; omega)

theorem down_start2 (h : S1x256x1024.rank = S32x256x1024.rank) (x : Fin 32) (i : S_.Idx) :
    Host.clampedStart S32x256x1024 S1x256x1024 h (fun k => BitVec.toInt (![constantI S_ 32 (BitVec.ofNat 32 x.val), constantI S_ 32 0#32, constantI S_ 32 0#32] k i)) 2 = 0 :=
  Host.clampedStart_of_le h _ 2 0 ((starts3 (BitVec.ofNat 32 x.val) i).2.2) (by show 0 + 1024 ≤ 1024; omega)

theorem weight_start0 (h : S1x20480.rank = S32x20480.rank) (x : Fin 32) (i : S_.Idx) :
    Host.clampedStart S32x20480 S1x20480 h (fun k => BitVec.toInt (![constantI S_ 32 (BitVec.ofNat 32 x.val), constantI S_ 32 0#32] k i)) 0 = x.val :=
  Host.clampedStart_of_le h _ 0 x.val ((starts2 (BitVec.ofNat 32 x.val) i).1.trans (trip_start x)) (by show x.val + 1 ≤ 32; omega)

theorem weight_start1 (h : S1x20480.rank = S32x20480.rank) (x : Fin 32) (i : S_.Idx) :
    Host.clampedStart S32x20480 S1x20480 h (fun k => BitVec.toInt (![constantI S_ 32 (BitVec.ofNat 32 x.val), constantI S_ 32 0#32] k i)) 1 = 0 :=
  Host.clampedStart_of_le h _ 1 0 ((starts2 (BitVec.ofNat 32 x.val) i).2) (by show 0 + 20480 ≤ 20480; omega)

section Trip

variable (s : State Ideal) (x : Fin 32)

/-- Trip `x` takes expert `x`'s gate matrix. -/
theorem trip_wg (p : Fin 1024) (k : Fin 256) : b3 x.val s (ix2 p k : S1024x256.Idx) = s.main_v27_0 (ix3 x p k : S32x1024x256.Idx) := by
  pointwise [b3, b2, b0, b1]
  refine at3 (n0 := 32) (n1 := 1024) (n2 := 256) (α := Ideal .f32) (fun i => s.main_v27_0 i) ?_ ?_ ?_
  · exact up_start0 rfl x _
  · exact (congrArg (· + _) (up_start1 rfl x _)).trans (Nat.zero_add _)
  · exact (congrArg (· + _) (up_start2 rfl x _)).trans (Nat.zero_add _)

/-- Trip `x` takes expert `x`'s up matrix. -/
theorem trip_wu (p : Fin 1024) (k : Fin 256) : b7 x.val s (ix2 p k : S1024x256.Idx) = s.main_v27_1 (ix3 x p k : S32x1024x256.Idx) := by
  pointwise [b7, b6, b5, b4]
  refine at3 (n0 := 32) (n1 := 1024) (n2 := 256) (α := Ideal .f32) (fun i => s.main_v27_1 i) ?_ ?_ ?_
  · exact up_start0 rfl x _
  · exact (congrArg (· + _) (up_start1 rfl x _)).trans (Nat.zero_add _)
  · exact (congrArg (· + _) (up_start2 rfl x _)).trans (Nat.zero_add _)

/-- Trip `x` takes expert `x`'s down matrix. -/
theorem trip_wd (k : Fin 256) (f : Fin 1024) : b11 x.val s (ix2 k f : S256x1024.Idx) = s.main_v27_2 (ix3 x k f : S32x256x1024.Idx) := by
  pointwise [b11, b10, b9, b8]
  refine at3 (n0 := 32) (n1 := 256) (n2 := 1024) (α := Ideal .f32) (fun i => s.main_v27_2 i) ?_ ?_ ?_
  · exact down_start0 rfl x _
  · exact (congrArg (· + _) (down_start1 rfl x _)).trans (Nat.zero_add _)
  · exact (congrArg (· + _) (down_start2 rfl x _)).trans (Nat.zero_add _)

/-- Trip `x` takes the tokens' weights of expert `x`. -/
theorem trip_comb (R : Fin 20480) : b14 x.val s (ix1 R : S20480.Idx) = s.main_v27_3 (ix2 x R : S32x20480.Idx) := by
  pointwise [b14, b13, b12]
  refine at2 (n0 := 32) (n1 := 20480) (α := Ideal .f32) (fun i => s.main_v27_3 i) ?_ ?_
  · exact weight_start0 rfl x _
  · exact (congrArg (· + _) (weight_start1 rfl x _)).trans (Nat.zero_add _)

/-- A trip's hidden vector: `silu (h · gate) * (h · up)`. -/
theorem trip_hid (R : Fin 20480) (k : Fin 256) : b26 x.val s (ix2 R k : S20480x256.Idx) =
    (∑ p : Fin 1024, s.main_v27_4 (ix2 R p : S20480x1024.Idx) * s.main_v27_0 (ix3 x p k : S32x1024x256.Idx))
      * Ideal.logistic (∑ p : Fin 1024, s.main_v27_4 (ix2 R p : S20480x1024.Idx) * s.main_v27_0 (ix3 x p k : S32x1024x256.Idx))
      * ∑ p : Fin 1024, s.main_v27_4 (ix2 R p : S20480x1024.Idx) * s.main_v27_1 (ix3 x p k : S32x1024x256.Idx) := by
  pointwise [b26, b25, b24, b23, b22, b21, b20, b19, b18, b17, b16, b15]
  simp only [trip_wg, trip_wu]
  rfl

/-- A trip adds its expert's output, weighted. -/
theorem trip_acc (R : Fin 20480) (f : Fin 1024) : b31 x.val s (ix2 R f : S20480x1024.Idx) =
    s.main_v27_6 (ix2 R f : S20480x1024.Idx)
      + (∑ k : Fin 256, b26 x.val s (ix2 R k : S20480x256.Idx) * s.main_v27_2 (ix3 x k f : S32x256x1024.Idx))
        * s.main_v27_3 (ix2 x R : S32x20480.Idx) := by
  pointwise [b31, b30, b29, b28, b27]
  simp only [trip_wd, trip_comb]

end Trip

/-! ## What the loop reads -/

theorem group_of : ∀ x : Fin 32, K_main_v17 (F := Ideal) (ix2 0 x : S1x32.Idx) = BitVec.ofNat 32 (x.val / 8) := by
  intro x
  pointwise [K_main_v17, K_main_call0_v13, K_main_call0_v12, K_main_call0_c_0, K_main_call0_v11, K_main_call0_v10, K_main_call0_v9, K_main_call0_c, K_main_call0_v8, K_main_call0_v7, K_main_call0_v6, K_main_call0_v5, K_main_call0_v4,
    K_main_call0_v3, K_main_call0_v2, K_main_call0_v1, K_main_call0_v0, K_main_c_2, K_main_v16, K_main_v15]
  revert x; decide +kernel

theorem bits_low (b : BitVec 32) : Ideal.ofBits .f32 (IntOp.shli .host b 16#32) = (Ideal.ofBits .bf16 (b.extractLsb' 0 16) : EReal) := by
  have e : IntOp.shli .host b 16#32 = b <<< 16 := rfl
  rw [e, ← bf16_bits _ (by ext i hi; simp; omega)]
  congr 1
  ext i hi
  simp; omega

theorem bits_high (b : BitVec 32) : Ideal.ofBits .f32 (IntOp.andi b 4294901760#32) = (Ideal.ofBits .bf16 (b.extractLsb' 16 16) : EReal) := by
  have e : IntOp.andi b 4294901760#32 = b &&& 4294901760#32 := rfl
  have m : ∀ i : Fin 16, (4294901760#32).getLsbD i.val = false ∧ (4294901760#32).getLsbD (16 + i.val) = true := by decide
  rw [e, ← bf16_bits _ (by ext i hi; simp [(m ⟨i, hi⟩).1])]
  congr 1
  ext i hi
  simp [(m ⟨i, hi⟩).2]

variable (tg tv : IVec S20 32) (hs : IVec S20480x512 32) (cs : FVec Ideal S20480x128 .f32)

/-- The reference's features: the words' lower halves, then their upper halves. -/
theorem feature_at (R : Fin 20480) (p : Fin 1024) : A_main_v6 (F := Ideal) tg tv hs cs (ix2 R p : S20480x1024.Idx)
    = if h : p.val < 512 then feat hs 0 R ⟨p.val, h⟩ else feat hs 1 R ⟨p.val - 512, by omega⟩ := by
  pointwise [A_main_v6, A_main_v5, A_main_v4, A_main_v2, A_main_v1, K_main_v3, K_main_v0, K_main_c, K_main_c_0]
  simp only [bits_low, bits_high]
  rfl

/-- A token's weight of an expert: that of its tile's group only, and only in a tile that holds tokens. -/
def weight (R : Fin 20480) (x : Fin 32) : EReal :=
  if 0 < (tv (ix1 (⟨R.val / 1024, by omega⟩ : Fin 20))).toInt ∧ x.val / 8 = (tg (ix1 (⟨R.val / 1024, by omega⟩ : Fin 20))).toNat then
    cs (ix2 R (⟨x.val, by omega⟩ : Fin 128)) else 0

theorem chosen (a b : BitVec 32) (x : Fin 32) : IntOp.andi (IntOp.cmpi .sgt a 0#32) (IntOp.cmpi .eq (BitVec.ofNat 32 (x.val / 8)) b)
    = if 0 < a.toInt ∧ x.val / 8 = b.toNat then 1#1 else 0#1 := by
  have e : (BitVec.ofNat 32 (x.val / 8) = b) ↔ x.val / 8 = b.toNat := by
    rw [← BitVec.toNat_inj, BitVec.toNat_ofNat, Nat.mod_eq_of_lt (by omega)]
  have h0 : (0#32 : BitVec 32).toInt = 0 := by decide
  have hb : (BitVec.ofNat 32 (x.val / 8) == b) = decide (x.val / 8 = b.toNat) := by
    rw [beq_eq_decide]; exact decide_eq_decide.mpr e
  by_cases h1 : 0 < a.toInt <;> by_cases h2 : x.val / 8 = b.toNat <;>
    simp [IntOp.andi, IntOp.cmpi, BitVec.slt, h0, h1, h2, hb]

theorem weight_at (R : Fin 20480) (x : Fin 32) : A_main_v26 (F := Ideal) tg tv hs cs (ix2 x R : S32x20480.Idx) = weight tg tv cs R x := by
  pointwise [A_main_v26, A_main_v24, A_main_v23, A_main_v22, A_main_v21, A_main_v20, A_main_v19, A_main_v14, A_main_v12, A_main_v11, A_main_v10, A_main_v9, A_main_v8, A_main_v7,
     K_main_call1_v1, K_main_call1_v0, K_main_cst, K_main_v18, K_main_v13, K_main_c_1]
  rw [group_of, chosen, weight]
  have z : (id (constant S_ .f32 0#32) ix0 : Ideal .f32) = (0 : EReal) := by
    show (constant (F := Ideal) S_ .f32 0#32 ix0 : Ideal .f32) = (0 : EReal)
    pointwise
  split
  · rfl
  · exact z

variable (wg wu : FVec Ideal S32x1024x256 .f32) (wd : FVec Ideal S32x256x1024 .f32)

/-- The features against an expert's matrix, the two halves apart. -/
theorem proj_at (h : FVec Ideal S20480x1024 .f32) (hh : ∀ R p, h (ix2 R p : S20480x1024.Idx) = A_main_v6 (F := Ideal) tg tv hs cs (ix2 R p : S20480x1024.Idx))
    (w : FVec Ideal S32x1024x256 .f32) (R : Fin 20480) (x : Fin 32) (k : Fin 256) :
    (∑ p : Fin 1024, (h (ix2 R p : S20480x1024.Idx) * w (ix3 x p k : S32x1024x256.Idx) : EReal)) = proj hs w R x k := by
  rw [Fin.sum_univ_two_halves 512 512 rfl, proj]
  refine congrArg₂ (· + ·) (Finset.sum_congr rfl fun p _ => ?_) (Finset.sum_congr rfl fun p _ => ?_)
  · rw [hh, feature_at, dif_pos p.isLt]
  · rw [hh, feature_at, dif_neg (by simp)]
    exact congrArg (fun q => feat hs 1 R q * _) (Fin.ext (Nat.add_sub_cancel_left ..))

/-- After `n` trips the accumulator holds the first `n` experts' weighted outputs. -/
theorem trips (it : ℕ → State Ideal) (h0 : it 0 = init wg wu wd tg tv hs cs) (hs' : ∀ n, it (n + 1) = step n (it n)) (n : ℕ) (hn : n ≤ 32) :
    (it n).main_v27_0 = wg ∧ (it n).main_v27_1 = wu ∧ (it n).main_v27_2 = wd
      ∧ (it n).main_v27_3 = A_main_v26 tg tv hs cs ∧ (it n).main_v27_4 = A_main_v6 tg tv hs cs
      ∧ ∀ (R : Fin 20480) (f : Fin 1024), (it n).main_v27_6 (ix2 R f : S20480x1024.Idx)
          = ∑ x : Fin n, expert hs wg wu wd R ⟨x.val, by omega⟩ f * weight tg tv cs R ⟨x.val, by omega⟩ := by
  induction n with
  | zero =>
    rw [h0]
    refine ⟨rfl, rfl, rfl, rfl, rfl, fun R f => ?_⟩
    show K_main_v25 (F := Ideal) (ix2 R f : S20480x1024.Idx) = _
    pointwise [K_main_v25, K_main_cst_3]
    simp
  | succ n ih =>
    obtain ⟨e0, e1, e2, e3, e4, e6⟩ := ih (by omega)
    rw [hs']
    refine ⟨e0, e1, e2, e3, e4, fun R f => ?_⟩
    have t := trip_acc (it n) ⟨n, by omega⟩ R f
    refine Eq.trans (show _ = b31 n (it n) (ix2 R f : S20480x1024.Idx) from rfl) (t.trans ?_)
    refine Eq.trans ?_ (Fin.sum_univ_castSucc (n := n) _).symm
    refine congrArg₂ (· + ·) (e6 R f) (congrArg₂ (· * ·) (Finset.sum_congr rfl fun k _ => ?_) ?_)
    · rw [trip_hid, e0, e1, e2, proj_at tg tv hs cs _ (fun _ _ => by rw [e4]), proj_at tg tv hs cs _ (fun _ _ => by rw [e4])]
      rfl
    · rw [e3]; exact weight_at tg tv hs cs R _

/-- Of the four groups only the tile's own counts. -/
theorem groups (R : Fin 20480) (f : Fin 1024) (hg : (tg (ix1 (⟨R.val / 1024, by omega⟩ : Fin 20))).toNat < 4) :
    (∑ x : Fin 32, expert hs wg wu wd R x f * weight tg tv cs R x) = mixed tg tv hs cs wg wu wd R f := by
  rw [Fin.sum_univ_tiles 4 8 rfl, Finset.sum_eq_single (⟨_, hg⟩ : Fin 4)]
  · refine Finset.sum_congr rfl fun e _ => ?_
    have hm : member (tg (ix1 (⟨R.val / 1024, by omega⟩ : Fin 20))) e
        = ⟨(tg (ix1 (⟨R.val / 1024, by omega⟩ : Fin 20))).toNat * 8 + e.val, by omega⟩ := Fin.ext (by simp only [member]; omega)
    have hq : ((tg (ix1 (⟨R.val / 1024, by omega⟩ : Fin 20))).toNat * 8 + e.val) / 8 = (tg (ix1 (⟨R.val / 1024, by omega⟩ : Fin 20))).toNat := by omega
    simp only [share, weight, hm, hq, and_true]
    split
    · rfl
    · exact mul_zero _
  · intro g _ hne
    refine Finset.sum_eq_zero fun e _ => ?_
    have hq : ¬ (g.val * 8 + e.val) / 8 = (tg (ix1 (⟨R.val / 1024, by omega⟩ : Fin 20))).toNat := fun h => hne (Fin.ext (by simp only; omega))
    rw [weight, if_neg (fun h => hq h.2)]
    exact mul_zero _
  · intro h; exact absurd (Finset.mem_univ _) h

end Cert.Moe
end
-- ==== Proof.MoeClaim.lean ====
module

public import proofs.«01_k».proof.Proof.MoeFinal
public import proofs.«01_k».proof.Proof.MoeRef
public import Idealize.ShloMosaic.Adequacy
public import Idealize.ShloMosaic.Init

@[expose] public section
set_option maxRecDepth 16384
noncomputable section
namespace Cert.Moe
open Idealize.ShloMosaic Idealize.ShloMosaic.TcCoe Idealize.SL.Sem

/-! ## The claims about the experts' call -/

/-- The kernel runs, leaves its arguments as they were and every counter at zero. -/
theorem frame_kernel : Cert.quiescent_Kernel := fun m ρ h => Cert.Kernel.Gen.frame m ρ (Kernel_ok m h)

/-- So does the kernel read over the extended reals. -/
theorem frame_ideal : Cert.quiescent_KernelIdeal := fun m ρ h => Cert.KernelIdeal.Gen.frame m ρ (KernelIdeal_ok m h)

/-- So does the reference: it has no counters. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The reference's loop, on one device: its state after `n` trips. -/
def loop (m : (ℓ : Loc Cert.ReferenceIdeal.nD Cert.ReferenceIdeal.τ Cert.ReferenceIdeal.sig) → Buf (Elt Ideal) ℓ) (c : Dev Cert.ReferenceIdeal.nD) :
    ℕ → Cert.ReferenceIdeal.Step.State Ideal
  | 0 => Cert.ReferenceIdeal.StepRun.initState m c
  | n + 1 => Cert.ReferenceIdeal.Step.step n (loop m c n)

/-- Over the extended reals the kernel's array is the reference's, on every device and for any arguments whose tiles' groups are in range. -/
theorem value : Cert.algebraic_KernelIdeal_ReferenceIdeal := by
  intro m ρ m' ρ' hpre hagree
  have hO := KernelIdeal_ok m hpre
  have hg : ∀ x : Cert.KernelIdeal.S20.Idx, (Cert.KernelIdeal.Gen.tbl m 0 x : BitVec 32).toNat < 4 := fun x => KernelIdeal_group_lt m hpre 0 x
  refine ⟨fun c => outArr m c, kernel_run m hO hg ρ, ?_⟩
  refine (θ_run _ _ _).mono (fun _ h c => ⟨(h c).1.trans ?_, (h c).2⟩)
    (Cert.ReferenceIdeal.StepRun.run_iter (F := Ideal) m' ρ' (loop m') (fun c => rfl) (fun c n => rfl))
  obtain ⟨a0, a1, a2, a3, a4, a5, a6⟩ := hagree c
  have ht := (trips (m' (c.tc.loc Cert.ReferenceIdeal.main_arg0)) (m' (c.tc.loc Cert.ReferenceIdeal.main_arg1)) (m' (c.tc.loc Cert.ReferenceIdeal.main_arg2))
    (m' (c.tc.loc Cert.ReferenceIdeal.main_arg3)) (m' (c.tc.loc Cert.ReferenceIdeal.main_arg4)) (m' (c.tc.loc Cert.ReferenceIdeal.main_arg5))
    (m' (c.tc.loc Cert.ReferenceIdeal.main_arg6)) (loop m' c) rfl (fun n => rfl) 32 le_rfl).2.2.2.2.2
  refine funext fun i => ?_
  obtain ⟨R, f, rfl⟩ : ∃ (R : Fin 20480) (f : Fin 1024), i = (ix2 R f : Cert.ReferenceIdeal.S20480x1024.Idx) :=
    ⟨i (0 : Fin 2), i (1 : Fin 2), by ext a; match a with | 0 => rfl | 1 => rfl⟩
  refine Eq.trans (show _ = (loop m' c 32).main_v27_6 (ix2 R f) from rfl) ((ht R f).trans ?_)
  rw [a0, a1, a2, a3, a4, a5, a6]
  exact groups _ _ _ _ _ _ _ R f (KernelIdeal_group_lt m hpre c _)

end Cert.Moe
end
-- ==== Proof.ProjBody.lean ====
module

public import proofs.«01_k».proof.Proof.Gen.Kernel2Ideal.Value
public import Idealize.ShloMosaic.Lib.Pointwise
public import Idealize.ShloMosaic.Lib.Pipeline.ValueKit

@[expose] public section
set_option maxRecDepth 16384
noncomputable section
namespace Cert.Proj
open Idealize.ShloMosaic Idealize.ShloMosaic.TcCoe Idealize.SL.Sem
open Cert.Kernel2Ideal Cert.Kernel2Ideal.Gen

variable (i : grid0.Coords) (x0 : Vec Ideal S512x1024 .f32) (x1 : Vec Ideal S1x1024 .f32) (x2 : Vec Ideal S1024x6528 .bf16) (x3 : Vec Ideal S1x128 .f32)

/-- Row `r` of a block after its norm, at feature `k`. -/
def hb (r : Fin 512) (k : Fin 1024) : EReal :=
  x0 (ix2 r k) * Ideal.rsqrt (Ideal.div (∑ q : Fin 1024, x0 (ix2 r q) * x0 (ix2 r q)) (Ideal.ofBits .f32 0x44800000#32) + Ideal.ofBits .f32 0x358637BD#32) * x1 (ix2 0 k)

/-- Row `r` of a block projected on column `q` of the weights. -/
def colAt (r : Fin 512) (q : Fin 6528) : EReal := ∑ k : Fin 1024, hb x0 x1 r k * x2 (ix2 k q)

/-- The body's normalised rows. -/
theorem pay2_at (r : Fin 512) (k : Fin 1024) : k0_pay2 (F := Ideal) x0 x1 (ix2 r k : S512x1024.Idx) = hb x0 x1 r k := by
  pointwise [k0_pay2, hb]

/-- The body's normalised rows, from the staged blocks. -/
theorem pay30_at (r : Fin 512) (k : Fin 1024) : k0_pay30 (F := Ideal) i x0 x1 x2 x3 (ix2 r k : S512x1024.Idx) = hb x0 x1 r k := by
  pointwise [k0_pay30, k0_pay2, hb]

/-- The body's key and value columns. -/
theorem pay31_at (r : Fin 512) (q : Fin 768) : k0_pay31 (F := Ideal) i x0 x1 x2 x3 (ix2 r q : S512x768.Idx) = colAt x0 x1 x2 r ⟨512 + q.val, by omega⟩ := by
  pointwise [k0_pay31, k0_pay4, k0_pay2, colAt, hb]

/-- The scaled queries' block, transposed. -/
theorem out4_at (j : Fin 512) (r : Fin 512) : out0_4 (F := Ideal) i x0 x1 x2 x3 (ix2 j r : S512x512.Idx) = colAt x0 x1 x2 r ⟨j.val, by omega⟩ * Ideal.ofBits .f32 0x3E000000#32 := by
  unfold out0_4
  have hx : (ix2 j r : S512x512.Idx) = (r0_3 : Rect S512x512).emb (ix2 j r : S512x512.Idx) := by blk_ext
  rw [hx, View.canon_cons_emb]
  pointwise [k0_pay3, k0_pay2, colAt, hb]

/-- The compressed keys' block. -/
theorem out5_at (r : Fin 512) (j : Fin 128) : out0_5 (F := Ideal) i x0 x1 x2 x3 (ix2 r j : S512x128.Idx) = colAt x0 x1 x2 r ⟨512 + j.val, by omega⟩ := by
  unfold out0_5
  have hx : (ix2 r j : S512x128.Idx) = (r0_5 : Rect S512x128).emb (ix2 r j : S512x128.Idx) := by blk_ext
  rw [hx, View.canon_cons_emb]
  pointwise [k0_pay5, k0_pay4, k0_pay2, colAt, hb]

/-- The compressed values' block. -/
theorem out6_at (r : Fin 512) (j : Fin 128) : out0_6 (F := Ideal) i x0 x1 x2 x3 (ix2 r j : S512x128.Idx) = colAt x0 x1 x2 r ⟨512 + (128 + j.val), by omega⟩ := by
  unfold out0_6
  have hx : (ix2 r j : S512x128.Idx) = (r0_5 : Rect S512x128).emb (ix2 r j : S512x128.Idx) := by blk_ext
  rw [hx, View.canon_cons_emb]
  pointwise [k0_pay6, k0_pay4, k0_pay2, colAt, hb]

/-- The selected keys' block. -/
theorem out7_at (r : Fin 512) (j : Fin 128) : out0_7 (F := Ideal) i x0 x1 x2 x3 (ix2 r j : S512x128.Idx) = colAt x0 x1 x2 r ⟨512 + (256 + j.val), by omega⟩ := by
  unfold out0_7
  have hx : (ix2 r j : S512x128.Idx) = (r0_5 : Rect S512x128).emb (ix2 r j : S512x128.Idx) := by blk_ext
  rw [hx, View.canon_cons_emb]
  pointwise [k0_pay7, k0_pay4, k0_pay2, colAt, hb]

/-- The window keys' block. -/
theorem out9_at (r : Fin 512) (j : Fin 128) : out0_9 (F := Ideal) i x0 x1 x2 x3 (ix2 r j : S512x128.Idx) = colAt x0 x1 x2 r ⟨512 + (512 + j.val), by omega⟩ := by
  unfold out0_9
  have hx : (ix2 r j : S512x128.Idx) = (r0_5 : Rect S512x128).emb (ix2 r j : S512x128.Idx) := by blk_ext
  rw [hx, View.canon_cons_emb]
  pointwise [k0_pay9, k0_pay31, k0_pay4, k0_pay2, colAt, hb]

/-- The attention gates' block, transposed. -/
theorem out11_at (j : Fin 128) (r : Fin 512) : out0_11 (F := Ideal) i x0 x1 x2 x3 (ix2 j r : S128x512.Idx) = Ideal.logistic (colAt x0 x1 x2 r ⟨6400 + j.val, by omega⟩) := by
  unfold out0_11
  have hx : (ix2 j r : S128x512.Idx) = (r0_8 : Rect S128x512).emb (ix2 j r : S128x512.Idx) := by blk_ext
  rw [hx, View.canon_cons_emb]
  pointwise [k0_pay11, k0_pay30, k0_pay2, colAt, hb]

/-- The retention values' block. -/
theorem out14_at (r : Fin 512) (j : Fin 1024) : out0_14 (F := Ideal) i x0 x1 x2 x3 (ix2 r j : S512x1024.Idx) = colAt x0 x1 x2 r ⟨2304 + j.val, by omega⟩ := by
  unfold out0_14
  have hx : (ix2 r j : S512x1024.Idx) = (r0_0 : Rect S512x1024).emb (ix2 r j : S512x1024.Idx) := by blk_ext
  rw [hx, View.canon_cons_emb]
  pointwise [k0_pay27, k0_pay30, k0_pay2, colAt, hb]

/-- The retention gates' block. -/
theorem out15_at (r : Fin 512) (j : Fin 1024) : out0_15 (F := Ideal) i x0 x1 x2 x3 (ix2 r j : S512x1024.Idx) = colAt x0 x1 x2 r ⟨3328 + j.val, by omega⟩ := by
  unfold out0_15
  have hx : (ix2 r j : S512x1024.Idx) = (r0_0 : Rect S512x1024).emb (ix2 r j : S512x1024.Idx) := by blk_ext
  rw [hx, View.canon_cons_emb]
  pointwise [k0_pay28, k0_pay30, k0_pay2, colAt, hb]

/-- The attention branch gates' block. -/
theorem out16_at (r : Fin 512) (j : Fin 1024) : out0_16 (F := Ideal) i x0 x1 x2 x3 (ix2 r j : S512x1024.Idx) = Ideal.logistic (colAt x0 x1 x2 r ⟨4352 + j.val, by omega⟩) := by
  unfold out0_16
  have hx : (ix2 r j : S512x1024.Idx) = (r0_0 : Rect S512x1024).emb (ix2 r j : S512x1024.Idx) := by blk_ext
  rw [hx, View.canon_cons_emb]
  pointwise [k0_pay29, k0_pay30, k0_pay2, colAt, hb]

/-- The retention branch gates' block. -/
theorem out17_at (r : Fin 512) (j : Fin 1024) : out0_17 (F := Ideal) i x0 x1 x2 x3 (ix2 r j : S512x1024.Idx) = Ideal.logistic (colAt x0 x1 x2 r ⟨5376 + j.val, by omega⟩) := by
  unfold out0_17
  have hx : (ix2 r j : S512x1024.Idx) = (r0_0 : Rect S512x1024).emb (ix2 r j : S512x1024.Idx) := by blk_ext
  rw [hx, View.canon_cons_emb]
  pointwise [k0_pay1, k0_pay30, k0_pay2, colAt, hb]

/-- A block of 128 columns laid as rows, in halves of 64, a row of ones and fifteen of zeros behind each. -/
def packed (f : Fin 128 → EReal) (j : Fin 160) : EReal :=
  if h : j.val < 64 then f ⟨j.val, by omega⟩
  else if j.val < 80 then (if j.val = 64 then Ideal.ofBits .f32 0x3F800000#32 else 0)
  else if h : j.val < 144 then f ⟨j.val - 16, by omega⟩
  else (if j.val = 144 then Ideal.ofBits .f32 0x3F800000#32 else 0)

/-- A lane number below 64 is told apart by its word. -/
theorem sel_low {α : Type} (n : Nat) (h : n < 128) (a b : α) :
    Scalar.select (IntOp.cmpi CmpIPredicate.slt (BitVec.ofNat 32 n) 64#32) a b = if n < 64 then a else b := by
  have e : ∀ k : Fin 128, IntOp.cmpi CmpIPredicate.slt (BitVec.ofNat 32 k.val) 64#32 = if k.val < 64 then 1#1 else 0#1 := by decide
  rw [e ⟨n, h⟩]
  by_cases hn : n < 64 <;> simp [Scalar.select, hn]

/-- Row number zero is told apart by its word. -/
theorem sel_zero {α : Type} (n : Nat) (h : n < 16) (a b : α) :
    Scalar.select (IntOp.cmpi CmpIPredicate.eq (BitVec.ofNat 32 n) 0#32) a b = if n = 0 then a else b := by
  have e : ∀ k : Fin 16, IntOp.cmpi CmpIPredicate.eq (BitVec.ofNat 32 k.val) 0#32 = if k.val = 0 then 1#1 else 0#1 := by decide
  rw [e ⟨n, h⟩]
  by_cases hn : n = 0 <;> simp [Scalar.select, hn]

/-- Equal columns project alike. -/
theorem col_congr (r : Fin 512) {q q' : Fin 6528} (h : q.val = q'.val) : colAt x0 x1 x2 r q = colAt x0 x1 x2 r q' := by
  rw [Fin.ext h]

/-- The selected values' block, transposed. -/
theorem out8_at (j : Fin 160) (r : Fin 512) : out0_8 (F := Ideal) i x0 x1 x2 x3 (ix2 j r : S160x512.Idx) = packed (fun q => colAt x0 x1 x2 r ⟨512 + (384 + q.val), by omega⟩) j := by
  unfold out0_8
  have hx : (ix2 j r : S160x512.Idx) = (r0_6 : Rect S160x512).emb (ix2 j r : S160x512.Idx) := by blk_ext
  rw [hx, View.canon_cons_emb]
  pointwise [k0_pay8, packed]
  simp only [pay31_at]
  have hj := j.isLt
  by_cases h1 : j.val < 64
  · simp only [h1, ↓reduceDIte]
  by_cases h2 : j.val < 80
  · have e : j.val - 64 < 16 := by omega
    simp only [h1, h2, e, ↓reduceDIte, ↓reduceIte]
    rw [sel_zero _ e]
    exact if_congr (by omega) rfl rfl
  have e : ¬ j.val - 64 < 16 := by omega
  by_cases h3 : j.val < 144
  · have e3 : j.val - 64 - 16 < 64 := by omega
    simp only [h1, h2, h3, e, e3, ↓reduceDIte, ↓reduceIte]
    refine col_congr x0 x1 x2 r ?_
    show 512 + (384 + (64 + (j.val - 64 - 16))) = 512 + (384 + (j.val - 16))
    omega
  · have e3 : ¬ j.val - 64 - 16 < 64 := by omega
    simp only [h1, h2, h3, e, e3, ↓reduceDIte, ↓reduceIte]
    rw [sel_zero _ (by omega)]
    exact if_congr (by omega) rfl rfl

/-- The window values' block, transposed. -/
theorem out10_at (j : Fin 160) (r : Fin 512) : out0_10 (F := Ideal) i x0 x1 x2 x3 (ix2 j r : S160x512.Idx) = packed (fun q => colAt x0 x1 x2 r ⟨512 + (640 + q.val), by omega⟩) j := by
  unfold out0_10
  have hx : (ix2 j r : S160x512.Idx) = (r0_6 : Rect S160x512).emb (ix2 j r : S160x512.Idx) := by blk_ext
  rw [hx, View.canon_cons_emb]
  pointwise [k0_pay10, packed]
  simp only [pay31_at]
  have hj := j.isLt
  by_cases h1 : j.val < 64
  · simp only [h1, ↓reduceDIte]
  by_cases h2 : j.val < 80
  · have e : j.val - 64 < 16 := by omega
    simp only [h1, h2, e, ↓reduceDIte, ↓reduceIte]
    rw [sel_zero _ e]
    exact if_congr (by omega) rfl rfl
  have e : ¬ j.val - 64 < 16 := by omega
  by_cases h3 : j.val < 144
  · have e3 : j.val - 64 - 16 < 64 := by omega
    simp only [h1, h2, h3, e, e3, ↓reduceDIte, ↓reduceIte]
    refine col_congr x0 x1 x2 r ?_
    show 512 + (640 + (64 + (j.val - 64 - 16))) = 512 + (640 + (j.val - 16))
    omega
  · have e3 : ¬ j.val - 64 - 16 < 64 := by omega
    simp only [h1, h2, h3, e, e3, ↓reduceDIte, ↓reduceIte]
    rw [sel_zero _ (by omega)]
    exact if_congr (by omega) rfl rfl

/-! ## The rotation -/

/-- The angle of position `R` at frequency `f p`. -/
def ang (f : Fin 64 → EReal) (R : Nat) (p : Fin 64) : EReal := FloatOps.sitofp (F := Ideal) .f32 (BitVec.ofNat 32 R) * f p

/-- A head's 128 lanes rotated, lane `p` with lane `64 + p`. -/
def rot (q : Fin 128 → EReal) (θ : Fin 64 → EReal) (l : Fin 128) : EReal :=
  if h : l.val < 64 then q l * Ideal.cos (θ ⟨l.val, h⟩) - q ⟨l.val + 64, by omega⟩ * Ideal.sin (θ ⟨l.val, h⟩)
  else q ⟨l.val - 64, by omega⟩ * Ideal.sin (θ ⟨l.val - 64, by omega⟩) + q l * Ideal.cos (θ ⟨l.val - 64, by omega⟩)

/-- The word of a block's row number. -/
theorem row_word (a b : Nat) : IntOp.addi (Scalar.muli (BitVec.ofNat 32 a) 512#32) (BitVec.ofNat 32 b) = BitVec.ofNat 32 (a * 512 + b) := by
  show BitVec.ofNat 32 a * BitVec.ofNat 32 512 + BitVec.ofNat 32 b = _
  rw [← BitVec.ofNat_mul, ← BitVec.ofNat_add]

/-- The word of a row number in the block's second half. -/
theorem row_word_high (a b : Nat) (h : ¬ b < 256) :
    IntOp.addi (IntOp.addi (Scalar.muli (BitVec.ofNat 32 a) 512#32) (BitVec.ofNat 32 (b - 256))) 256#32 = BitVec.ofNat 32 (a * 512 + b) := by
  rw [row_word]
  show BitVec.ofNat 32 _ + BitVec.ofNat 32 256 = _
  rw [← BitVec.ofNat_add]
  congr 1
  omega

section Rotation

variable (f : Fin 64 → EReal) (hf : ∀ l : Fin 128, x3 (ix2 0 l) = f ⟨l.val % 64, Nat.mod_lt _ (by decide)⟩)
include hf

/-- Both lanes of a pair read one frequency. -/
theorem freq (l : Fin 128) (p : Fin 64) (h : l.val % 64 = p.val) : x3 (ix2 0 l) = f p := by
  rw [hf l]; exact congrArg f (Fin.ext h)

/-- The cosine of a row at a lane. -/
theorem pay33_at (r : Fin 512) (l : Fin 128) (p : Fin 64) (hp : l.val % 64 = p.val) :
    k0_pay33 (F := Ideal) i x0 x1 x2 x3 (ix2 r l : S512x128.Idx) = Ideal.cos (ang f ((i 0).val * 512 + r.val) p) := by
  pointwise [k0_pay33, k0_pay14, k0_pay13, k0_pay12, k0_pay32]
  have hl := l.isLt
  have f1 := freq x3 f hf l p hp
  have f2 := freq x3 f hf ⟨(l.val + 128 - 64) % 128, Nat.mod_lt _ (by decide)⟩ p (by show (l.val + 128 - 64) % 128 % 64 = _; omega)
  simp only [sel_low _ hl, sel_low _ (Nat.mod_lt (l.val + 128 - 64) (by decide : 0 < 128))]
  by_cases hr : r.val < 256 <;> by_cases h : l.val < 64
  · simp only [hr, h, ↓reduceDIte, ↓reduceIte, row_word]; exact congrArg (fun z => Ideal.cos (_ * z)) f1
  · have e : (l.val + 128 - 64) % 128 < 64 := by omega
    simp only [hr, h, e, ↓reduceDIte, ↓reduceIte, row_word]; exact congrArg (fun z => Ideal.cos (_ * z)) f2
  · have e : ¬ (l.val + 128 - 64) % 128 < 64 := by omega
    simp only [hr, h, e, ↓reduceDIte, ↓reduceIte, row_word_high _ _ hr]; exact congrArg (fun z => Ideal.cos (_ * z)) f2
  · simp only [hr, h, ↓reduceDIte, ↓reduceIte, row_word_high _ _ hr]; exact congrArg (fun z => Ideal.cos (_ * z)) f1

/-- The signed sine of a row at a lane. -/
theorem pay34_at (r : Fin 512) (l : Fin 128) (p : Fin 64) (hp : l.val % 64 = p.val) :
    k0_pay34 (F := Ideal) i x0 x1 x2 x3 (ix2 r l : S512x128.Idx)
      = if l.val < 64 then 0 - Ideal.sin (ang f ((i 0).val * 512 + r.val) p) else Ideal.sin (ang f ((i 0).val * 512 + r.val) p) := by
  pointwise [k0_pay34, k0_pay15, k0_pay13, k0_pay12, k0_pay32]
  have hl := l.isLt
  have f1 := freq x3 f hf l p hp
  have f2 := freq x3 f hf ⟨(l.val + 128 - 64) % 128, Nat.mod_lt _ (by decide)⟩ p (by show (l.val + 128 - 64) % 128 % 64 = _; omega)
  simp only [sel_low _ hl, sel_low _ (Nat.mod_lt (l.val + 128 - 64) (by decide : 0 < 128))]
  by_cases hr : r.val < 256 <;> by_cases h : l.val < 64
  · simp only [hr, h, ↓reduceDIte, ↓reduceIte, row_word]; exact congrArg (fun z => 0 - Ideal.sin (_ * z)) f1
  · have e : (l.val + 128 - 64) % 128 < 64 := by omega
    simp only [hr, h, e, ↓reduceDIte, ↓reduceIte, row_word]; exact congrArg (fun z => Ideal.sin (_ * z)) f2
  · have e : ¬ (l.val + 128 - 64) % 128 < 64 := by omega
    simp only [hr, h, e, ↓reduceDIte, ↓reduceIte, row_word_high _ _ hr]; exact congrArg (fun z => 0 - Ideal.sin (_ * z)) f2
  · simp only [hr, h, ↓reduceDIte, ↓reduceIte, row_word_high _ _ hr]; exact congrArg (fun z => Ideal.sin (_ * z)) f1

/-- The rolled product with the cosines and signed sines is the rotation. -/
theorem rot_eq (q : Fin 128 → EReal) (r : Fin 512) (l : Fin 128) :
    q l * k0_pay33 (F := Ideal) i x0 x1 x2 x3 (ix2 r l : S512x128.Idx)
        + q ⟨(l.val + 128 - 64) % 128, Nat.mod_lt _ (by decide)⟩ * k0_pay34 (F := Ideal) i x0 x1 x2 x3 (ix2 r l : S512x128.Idx)
      = rot q (ang f ((i 0).val * 512 + r.val)) l := by
  have hl := l.isLt
  unfold rot
  by_cases h : l.val < 64
  · rw [pay33_at i x0 x1 x2 x3 f hf r l ⟨l.val, h⟩ (Nat.mod_eq_of_lt h), pay34_at i x0 x1 x2 x3 f hf r l ⟨l.val, h⟩ (Nat.mod_eq_of_lt h), if_pos h, dif_pos h]
    have e : (⟨(l.val + 128 - 64) % 128, Nat.mod_lt _ (by decide)⟩ : Fin 128) = ⟨l.val + 64, by omega⟩ := Fin.ext (by show (l.val + 128 - 64) % 128 = l.val + 64; omega)
    rw [e, zero_sub, mul_neg, ← sub_eq_add_neg]
  · have hp : l.val % 64 = (⟨l.val - 64, by omega⟩ : Fin 64).val := by show l.val % 64 = l.val - 64; omega
    rw [pay33_at i x0 x1 x2 x3 f hf r l _ hp, pay34_at i x0 x1 x2 x3 f hf r l _ hp, if_neg h, dif_neg h]
    have e : (⟨(l.val + 128 - 64) % 128, Nat.mod_lt _ (by decide)⟩ : Fin 128) = ⟨l.val - 64, by omega⟩ := Fin.ext (by show (l.val + 128 - 64) % 128 = l.val - 64; omega)
    rw [e, add_comm]

end Rotation

/-- The body's retention query columns. -/
theorem pay35_at (r : Fin 512) (q : Fin 512) : k0_pay35 (F := Ideal) i x0 x1 x2 x3 (ix2 r q : S512x512.Idx) = colAt x0 x1 x2 r ⟨1280 + q.val, by omega⟩ := by
  pointwise [k0_pay35, k0_pay16, k0_pay30, k0_pay2, colAt, hb]

/-- The body's retention key columns. -/
theorem pay36_at (r : Fin 512) (q : Fin 512) : k0_pay36 (F := Ideal) i x0 x1 x2 x3 (ix2 r q : S512x512.Idx) = colAt x0 x1 x2 r ⟨1792 + q.val, by omega⟩ := by
  pointwise [k0_pay36, k0_pay17, k0_pay30, k0_pay2, colAt, hb]

/-- A column before or after a head's rectangle is outside it. -/
theorem off_head (o : Nat) (inb) (r q : Fin 512) (h : q.val < o ∨ o + 128 ≤ q.val) :
    (ix2 r q : S512x512.Idx) ∉ (Rect.unit (s := S512x512) ![0, o] S512x128.size inb).set := by
  rw [Rect.mem_set_unit]
  intro hm
  have h1 : o ≤ q.val := (hm 1).1
  have h2 : q.val < o + 128 := (hm 1).2
  omega

section Heads

variable (f : Fin 64 → EReal) (hf : ∀ l : Fin 128, x3 (ix2 0 l) = f ⟨l.val % 64, Nat.mod_lt _ (by decide)⟩)
include hf

/-- Head 0 of the retention queries' block. -/
theorem out12_h0 (r : Fin 512) (l : Fin 128) : out0_12 (F := Ideal) i x0 x1 x2 x3 (ix2 r (⟨0 + l.val, by omega⟩ : Fin 512) : S512x512.Idx)
    = rot (fun l => colAt x0 x1 x2 r ⟨1280 + (0 + l.val), by omega⟩) (ang f ((i 0).val * 512 + r.val)) l := by
  unfold out0_12
  have hl := l.isLt
  have n3 : (ix2 r (⟨0 + l.val, by omega⟩ : Fin 512) : S512x512.Idx) ∉ (r0_15 : Rect S512x512).set := off_head 384 inb_S512x512_S512x128_0_384 r _ (Or.inl (by show 0 + l.val < 384; omega))
  rw [View.canon_cons_of_not_mem]
  swap
  · exact n3
  have n2 : (ix2 r (⟨0 + l.val, by omega⟩ : Fin 512) : S512x512.Idx) ∉ (r0_14 : Rect S512x512).set := off_head 256 inb_S512x512_S512x128_0_256 r _ (Or.inl (by show 0 + l.val < 256; omega))
  rw [View.canon_cons_of_not_mem]
  swap
  · exact n2
  have n1 : (ix2 r (⟨0 + l.val, by omega⟩ : Fin 512) : S512x512.Idx) ∉ (r0_13 : Rect S512x512).set := off_head 128 inb_S512x512_S512x128_0_128 r _ (Or.inl (by show 0 + l.val < 128; omega))
  rw [View.canon_cons_of_not_mem]
  swap
  · exact n1
  have hx : (ix2 r (⟨0 + l.val, by omega⟩ : Fin 512) : S512x512.Idx) = (r0_12 : Rect S512x512).emb (ix2 r l : S512x128.Idx) := by blk_ext
  rw [hx, View.canon_cons_emb, ← rot_eq i x0 x1 x2 x3 f hf]
  pointwise [k0_pay19]
  rw [show k0_pay14 (F := Ideal) (BitVec.ofNat 32 (i 0).val) (k0_pay32 i x0 x1 x2 x3) (View.ld x3 r0_9) = k0_pay33 i x0 x1 x2 x3 from rfl,
    show k0_pay15 (F := Ideal) (BitVec.ofNat 32 (i 0).val) (k0_pay32 i x0 x1 x2 x3) (View.ld x3 r0_9) = k0_pay34 i x0 x1 x2 x3 from rfl,
    show k0_pay16 (F := Ideal) (k0_pay30 i x0 x1 x2 x3) (View.ld x2 r0_10) = k0_pay35 i x0 x1 x2 x3 from rfl]
  simp only [pay35_at, Nat.zero_add]

/-- Head 1 of the retention queries' block. -/
theorem out12_h1 (r : Fin 512) (l : Fin 128) : out0_12 (F := Ideal) i x0 x1 x2 x3 (ix2 r (⟨128 + l.val, by omega⟩ : Fin 512) : S512x512.Idx)
    = rot (fun l => colAt x0 x1 x2 r ⟨1280 + (128 + l.val), by omega⟩) (ang f ((i 0).val * 512 + r.val)) l := by
  unfold out0_12
  have hl := l.isLt
  have n3 : (ix2 r (⟨128 + l.val, by omega⟩ : Fin 512) : S512x512.Idx) ∉ (r0_15 : Rect S512x512).set := off_head 384 inb_S512x512_S512x128_0_384 r _ (Or.inl (by show 128 + l.val < 384; omega))
  rw [View.canon_cons_of_not_mem]
  swap
  · exact n3
  have n2 : (ix2 r (⟨128 + l.val, by omega⟩ : Fin 512) : S512x512.Idx) ∉ (r0_14 : Rect S512x512).set := off_head 256 inb_S512x512_S512x128_0_256 r _ (Or.inl (by show 128 + l.val < 256; omega))
  rw [View.canon_cons_of_not_mem]
  swap
  · exact n2
  have hx : (ix2 r (⟨128 + l.val, by omega⟩ : Fin 512) : S512x512.Idx) = (r0_13 : Rect S512x512).emb (ix2 r l : S512x128.Idx) := by blk_ext
  rw [hx, View.canon_cons_emb, ← rot_eq i x0 x1 x2 x3 f hf]
  pointwise [k0_pay21]
  simp only [pay35_at, Nat.zero_add]

/-- Head 2 of the retention queries' block. -/
theorem out12_h2 (r : Fin 512) (l : Fin 128) : out0_12 (F := Ideal) i x0 x1 x2 x3 (ix2 r (⟨256 + l.val, by omega⟩ : Fin 512) : S512x512.Idx)
    = rot (fun l => colAt x0 x1 x2 r ⟨1280 + (256 + l.val), by omega⟩) (ang f ((i 0).val * 512 + r.val)) l := by
  unfold out0_12
  have hl := l.isLt
  have n3 : (ix2 r (⟨256 + l.val, by omega⟩ : Fin 512) : S512x512.Idx) ∉ (r0_15 : Rect S512x512).set := off_head 384 inb_S512x512_S512x128_0_384 r _ (Or.inl (by show 256 + l.val < 384; omega))
  rw [View.canon_cons_of_not_mem]
  swap
  · exact n3
  have hx : (ix2 r (⟨256 + l.val, by omega⟩ : Fin 512) : S512x512.Idx) = (r0_14 : Rect S512x512).emb (ix2 r l : S512x128.Idx) := by blk_ext
  rw [hx, View.canon_cons_emb, ← rot_eq i x0 x1 x2 x3 f hf]
  pointwise [k0_pay23]
  simp only [pay35_at, Nat.zero_add]

/-- Head 3 of the retention queries' block. -/
theorem out12_h3 (r : Fin 512) (l : Fin 128) : out0_12 (F := Ideal) i x0 x1 x2 x3 (ix2 r (⟨384 + l.val, by omega⟩ : Fin 512) : S512x512.Idx)
    = rot (fun l => colAt x0 x1 x2 r ⟨1280 + (384 + l.val), by omega⟩) (ang f ((i 0).val * 512 + r.val)) l := by
  unfold out0_12
  have hl := l.isLt
  have hx : (ix2 r (⟨384 + l.val, by omega⟩ : Fin 512) : S512x512.Idx) = (r0_15 : Rect S512x512).emb (ix2 r l : S512x128.Idx) := by blk_ext
  rw [hx, View.canon_cons_emb, ← rot_eq i x0 x1 x2 x3 f hf]
  pointwise [k0_pay25]
  simp only [pay35_at, Nat.zero_add]

/-- Head 0 of the retention keys' block. -/
theorem out13_h0 (r : Fin 512) (l : Fin 128) : out0_13 (F := Ideal) i x0 x1 x2 x3 (ix2 r (⟨0 + l.val, by omega⟩ : Fin 512) : S512x512.Idx)
    = rot (fun l => colAt x0 x1 x2 r ⟨1792 + (0 + l.val), by omega⟩) (ang f ((i 0).val * 512 + r.val)) l * Ideal.ofBits .f32 0x3DB504F3#32 := by
  unfold out0_13
  have hl := l.isLt
  have n3 : (ix2 r (⟨0 + l.val, by omega⟩ : Fin 512) : S512x512.Idx) ∉ (r0_15 : Rect S512x512).set := off_head 384 inb_S512x512_S512x128_0_384 r _ (Or.inl (by show 0 + l.val < 384; omega))
  rw [View.canon_cons_of_not_mem]
  swap
  · exact n3
  have n2 : (ix2 r (⟨0 + l.val, by omega⟩ : Fin 512) : S512x512.Idx) ∉ (r0_14 : Rect S512x512).set := off_head 256 inb_S512x512_S512x128_0_256 r _ (Or.inl (by show 0 + l.val < 256; omega))
  rw [View.canon_cons_of_not_mem]
  swap
  · exact n2
  have n1 : (ix2 r (⟨0 + l.val, by omega⟩ : Fin 512) : S512x512.Idx) ∉ (r0_13 : Rect S512x512).set := off_head 128 inb_S512x512_S512x128_0_128 r _ (Or.inl (by show 0 + l.val < 128; omega))
  rw [View.canon_cons_of_not_mem]
  swap
  · exact n1
  have hx : (ix2 r (⟨0 + l.val, by omega⟩ : Fin 512) : S512x512.Idx) = (r0_12 : Rect S512x512).emb (ix2 r l : S512x128.Idx) := by blk_ext
  rw [hx, View.canon_cons_emb, ← rot_eq i x0 x1 x2 x3 f hf]
  pointwise [k0_pay20, k0_pay18]
  rw [show k0_pay17 (F := Ideal) (k0_pay30 i x0 x1 x2 x3) (View.ld x2 r0_11) = k0_pay36 i x0 x1 x2 x3 from rfl]
  simp only [pay36_at, Nat.zero_add]

/-- Head 1 of the retention keys' block. -/
theorem out13_h1 (r : Fin 512) (l : Fin 128) : out0_13 (F := Ideal) i x0 x1 x2 x3 (ix2 r (⟨128 + l.val, by omega⟩ : Fin 512) : S512x512.Idx)
    = rot (fun l => colAt x0 x1 x2 r ⟨1792 + (128 + l.val), by omega⟩) (ang f ((i 0).val * 512 + r.val)) l * Ideal.ofBits .f32 0x3DB504F3#32 := by
  unfold out0_13
  have hl := l.isLt
  have n3 : (ix2 r (⟨128 + l.val, by omega⟩ : Fin 512) : S512x512.Idx) ∉ (r0_15 : Rect S512x512).set := off_head 384 inb_S512x512_S512x128_0_384 r _ (Or.inl (by show 128 + l.val < 384; omega))
  rw [View.canon_cons_of_not_mem]
  swap
  · exact n3
  have n2 : (ix2 r (⟨128 + l.val, by omega⟩ : Fin 512) : S512x512.Idx) ∉ (r0_14 : Rect S512x512).set := off_head 256 inb_S512x512_S512x128_0_256 r _ (Or.inl (by show 128 + l.val < 256; omega))
  rw [View.canon_cons_of_not_mem]
  swap
  · exact n2
  have hx : (ix2 r (⟨128 + l.val, by omega⟩ : Fin 512) : S512x512.Idx) = (r0_13 : Rect S512x512).emb (ix2 r l : S512x128.Idx) := by blk_ext
  rw [hx, View.canon_cons_emb, ← rot_eq i x0 x1 x2 x3 f hf]
  pointwise [k0_pay22]
  simp only [pay36_at, Nat.zero_add]

/-- Head 2 of the retention keys' block. -/
theorem out13_h2 (r : Fin 512) (l : Fin 128) : out0_13 (F := Ideal) i x0 x1 x2 x3 (ix2 r (⟨256 + l.val, by omega⟩ : Fin 512) : S512x512.Idx)
    = rot (fun l => colAt x0 x1 x2 r ⟨1792 + (256 + l.val), by omega⟩) (ang f ((i 0).val * 512 + r.val)) l * Ideal.ofBits .f32 0x3DB504F3#32 := by
  unfold out0_13
  have hl := l.isLt
  have n3 : (ix2 r (⟨256 + l.val, by omega⟩ : Fin 512) : S512x512.Idx) ∉ (r0_15 : Rect S512x512).set := off_head 384 inb_S512x512_S512x128_0_384 r _ (Or.inl (by show 256 + l.val < 384; omega))
  rw [View.canon_cons_of_not_mem]
  swap
  · exact n3
  have hx : (ix2 r (⟨256 + l.val, by omega⟩ : Fin 512) : S512x512.Idx) = (r0_14 : Rect S512x512).emb (ix2 r l : S512x128.Idx) := by blk_ext
  rw [hx, View.canon_cons_emb, ← rot_eq i x0 x1 x2 x3 f hf]
  pointwise [k0_pay24]
  simp only [pay36_at, Nat.zero_add]

/-- Head 3 of the retention keys' block. -/
theorem out13_h3 (r : Fin 512) (l : Fin 128) : out0_13 (F := Ideal) i x0 x1 x2 x3 (ix2 r (⟨384 + l.val, by omega⟩ : Fin 512) : S512x512.Idx)
    = rot (fun l => colAt x0 x1 x2 r ⟨1792 + (384 + l.val), by omega⟩) (ang f ((i 0).val * 512 + r.val)) l * Ideal.ofBits .f32 0x3DB504F3#32 := by
  unfold out0_13
  have hl := l.isLt
  have hx : (ix2 r (⟨384 + l.val, by omega⟩ : Fin 512) : S512x512.Idx) = (r0_15 : Rect S512x512).emb (ix2 r l : S512x128.Idx) := by blk_ext
  rw [hx, View.canon_cons_emb, ← rot_eq i x0 x1 x2 x3 f hf]
  pointwise [k0_pay26]
  simp only [pay36_at, Nat.zero_add]

end Heads

end Cert.Proj
end
-- ==== Proof.ProjHost.lean ====
module

public import proofs.«01_k».proof.Proof.Gen.Kernel2Ideal.Value
public import proofs.«01_k».proof.Proof.ProjBody
public import Idealize.ShloMosaic.Lib.Pointwise

@[expose] public section
set_option maxRecDepth 16384
noncomputable section
namespace Cert.Proj
open Idealize.ShloMosaic Idealize.ShloMosaic.TcCoe Idealize.SL.Sem Idealize.ShloMosaic.StableHlo
open Cert.Kernel2Ideal Cert.Kernel2Ideal.Gen

variable (m : (ℓ : Loc nD τ sig) → Buf (Elt Ideal) ℓ) (c : Dev nD)

/-- The columns of the weights in the order the kernel reads them, 104 zero columns behind. -/
def wCat (W : FVec Ideal S1024x6424 .f32) : FVec Ideal S1024x6528 .bf16 :=
  truncf .bf16 (concatenate S1024x6528 1 [⟨S1024x512, extractStridedSlice S1024x512 ![0, 0] W slices_S1024x6424_S1024x512_0_0⟩,
    ⟨S1024x768, extractStridedSlice S1024x768 ![0, 512] W slices_S1024x6424_S1024x768_0_512⟩,
    ⟨S1024x512, extractStridedSlice S1024x512 ![0, 1304] W slices_S1024x6424_S1024x512_0_1304⟩,
    ⟨S1024x512, extractStridedSlice S1024x512 ![0, 1816] W slices_S1024x6424_S1024x512_0_1816⟩,
    ⟨S1024x1024, extractStridedSlice S1024x1024 ![0, 2328] W slices_S1024x6424_S1024x1024_0_2328⟩,
    ⟨S1024x1024, extractStridedSlice S1024x1024 ![0, 3352] W slices_S1024x6424_S1024x1024_0_3352⟩,
    ⟨S1024x1024, extractStridedSlice S1024x1024 ![0, 4376] W slices_S1024x6424_S1024x1024_0_4376⟩,
    ⟨S1024x1024, extractStridedSlice S1024x1024 ![0, 5400] W slices_S1024x6424_S1024x1024_0_5400⟩,
    ⟨S1024x24, extractStridedSlice S1024x24 ![0, 1280] W slices_S1024x6424_S1024x24_0_1280⟩,
    ⟨S1024x104, broadcastInDim S1024x104 ![] bcast_S_S1024x104 (constant S_ .f32 0x00000000#32)⟩]
    concatenates_S1024x512_S1024x768_S1024x512_S1024x512_S1024x1024_S1024x1024_S1024x1024_S1024x1024_S1024x24_S1024x104_S1024x6528_d1) bitsLt_bf16_f32

/-- The frequencies, once for each lane of a pair. -/
def invTab : FVec Ideal S64 .f32 :=
  Host.powf (broadcastInDim S64 ![] bcast_S_S64 (constant S_ .f32 0x461C4000#32)) (Host.divf (Host.negf (sitofp .f32 (iotaInDim S64 32 0))) (broadcastInDim S64 ![] bcast_S_S64 (constant S_ .f32 0x42800000#32)))

/-! ## The weights' columns and the frequencies, at an index -/

/-- A column of `wCat` is a column of the weights: the first two ranges keep their place, the gates' 24 columns move behind
the others. -/
theorem wCat_at (W : FVec Ideal S1024x6424 .f32) (k : Fin 1024) (q : Fin 6528) (q' : Fin 6424)
    (h : (q.val < 1280 ∧ q'.val = q.val) ∨ (1280 ≤ q.val ∧ q.val < 6400 ∧ q'.val = q.val + 24) ∨ (6400 ≤ q.val ∧ q.val < 6424 ∧ q'.val + 5120 = q.val)) :
    wCat W (ix2 k q) = W (ix2 k q') := by
  unfold wCat
  pointwise
  split_ifs <;> first | (exfalso; omega) | exact congrArg (fun z => W (ix2 k z)) (Fin.ext (by simp; omega))

/-- Behind them are zeros. -/
theorem wCat_pad (W : FVec Ideal S1024x6424 .f32) (k : Fin 1024) (q : Fin 6528) (h : 6424 ≤ q.val) : wCat W (ix2 k q) = 0 := by
  unfold wCat
  pointwise
  split_ifs <;> first | (exfalso; omega) | rfl

/-- The frequency of pair `p`. -/
def freqAt (p : Fin 64) : EReal := invTab (ix1 p)

theorem inv2_at (l : Fin 128) : (shapeCast S1x128 (concatenate S128 0 [⟨S64, invTab⟩, ⟨S64, invTab⟩] concatenates_S64_S64_S128_d0) shapeCasts_S128_S1x128 : FVec Ideal S1x128 .f32) (ix2 0 l)
    = freqAt ⟨l.val % 64, Nat.mod_lt _ (by decide)⟩ := by
  unfold freqAt
  have hl := l.isLt
  pointwise
  split_ifs <;> exact congrArg (fun z => invTab (ix1 z)) (Fin.ext (by simp; omega))

/-! ## The buffers the host leaves for the kernel -/

theorem V_v11 : V m c main_v11 = wCat (m ((c : Thread nD τ).loc main_arg2)) := by
  simp only [V, hostOps0]
  after_results_simp <;> (try dsimp only [Matrix.cons_val]) <;> (try after_results_simp) <;> rfl

theorem V_v20 : V m c main_v20 = (shapeCast S1x1024 (m ((c : Thread nD τ).loc main_arg1)) shapeCasts_S1024_S1x1024 : FVec Ideal S1x1024 .f32) := by
  simp only [V, hostOps0]
  after_results_simp <;> rfl

theorem V_v19 : V m c main_v19 = (shapeCast S1x128 (concatenate S128 0 [⟨S64, invTab⟩, ⟨S64, invTab⟩] concatenates_S64_S64_S128_d0) shapeCasts_S128_S1x128 : FVec Ideal S1x128 .f32) := by
  simp only [V, hostOps0]
  after_results_simp <;> rfl
end Cert.Proj
end
-- ==== Proof.ProjBlocks.lean ====
module

public import proofs.«01_k».proof.Proof.ProjHost

@[expose] public section
set_option maxRecDepth 16384
noncomputable section
namespace Cert.Proj
open Idealize.ShloMosaic Idealize.ShloMosaic.TcCoe Idealize.SL.Sem
open Cert.Kernel2Ideal Cert.Kernel2Ideal.Gen

/-! ## The projection, entry by entry -/

section Spec
variable (x : FVec Ideal S16384x1024 .f32) (w : FVec Ideal S1024 .f32) (W : FVec Ideal S1024x6424 .f32)

/-- The normalized activations of token `R`. -/
def hid (R : Fin 16384) (k : Fin 1024) : EReal :=
  x (ix2 R k) * Ideal.rsqrt (Ideal.div (∑ q : Fin 1024, x (ix2 R q) * x (ix2 R q)) (Ideal.ofBits .f32 0x44800000#32) + Ideal.ofBits .f32 0x358637BD#32) * w (ix1 k)

/-- Their product with column `q` of the weights. -/
def proj (R : Fin 16384) (q : Fin 6424) : EReal := ∑ k : Fin 1024, hid x w R k * W (ix2 k q)

/-- An array with a row for each token. -/
def rowsOf {n : ℕ} (f : Fin 16384 → Fin n → EReal) : (⟨2, ![16384, n]⟩ : Shape).Idx → EReal := fun i => f (i 0) (i 1)

/-- An array with a column for each token. -/
def colsOf {n : ℕ} (f : Fin 16384 → Fin n → EReal) : (⟨2, ![n, 16384]⟩ : Shape).Idx → EReal := fun i => f (i 1) (i 0)

theorem rowsOf_at {n : ℕ} (f : Fin 16384 → Fin n → EReal) (R : Fin 16384) (j : Fin n) : rowsOf f (ix2 R j) = f R j := rfl
theorem colsOf_at {n : ℕ} (f : Fin 16384 → Fin n → EReal) (R : Fin 16384) (j : Fin n) : colsOf f (ix2 j R) = f R j := rfl

/-- The queries of the attention, scaled. -/
def f4 (R : Fin 16384) (j : Fin 512) : EReal := proj x w W R ⟨j.val, by omega⟩ * Ideal.ofBits .f32 0x3E000000#32

/-- The keys to be compressed. -/
def f5 (R : Fin 16384) (j : Fin 128) : EReal := proj x w W R ⟨512 + j.val, by omega⟩

/-- The values to be compressed. -/
def f6 (R : Fin 16384) (j : Fin 128) : EReal := proj x w W R ⟨640 + j.val, by omega⟩

/-- The keys of the selected blocks. -/
def f7 (R : Fin 16384) (j : Fin 128) : EReal := proj x w W R ⟨768 + j.val, by omega⟩

/-- The keys of the window. -/
def f9 (R : Fin 16384) (j : Fin 128) : EReal := proj x w W R ⟨1024 + j.val, by omega⟩

/-- The values of the selected blocks, each half followed by a row of ones and 15 rows of zeros. -/
def f8 (R : Fin 16384) (j : Fin 160) : EReal := packed (fun q => proj x w W R ⟨896 + q.val, by omega⟩) j

/-- The values of the window, each half followed by a row of ones and 15 rows of zeros. -/
def f10 (R : Fin 16384) (j : Fin 160) : EReal := packed (fun q => proj x w W R ⟨1152 + q.val, by omega⟩) j

/-- The gates of the attention's branches; the lanes past the 24th hold the logistic of 0. -/
def f11 (R : Fin 16384) (j : Fin 128) : EReal :=
  Ideal.logistic (if h : j.val < 24 then proj x w W R ⟨1280 + j.val, by omega⟩ else 0)

/-- The queries of the retention, turned by their position. -/
def f12 (R : Fin 16384) (j : Fin 512) : EReal :=
  rot (fun l => proj x w W R ⟨1304 + (128 * (j.val / 128) + l.val), by omega⟩) (ang freqAt R.val) ⟨j.val % 128, Nat.mod_lt _ (by decide)⟩

/-- The keys of the retention, turned by their position and scaled. -/
def f13 (R : Fin 16384) (j : Fin 512) : EReal :=
  rot (fun l => proj x w W R ⟨1816 + (128 * (j.val / 128) + l.val), by omega⟩) (ang freqAt R.val) ⟨j.val % 128, Nat.mod_lt _ (by decide)⟩ * Ideal.ofBits .f32 0x3DB504F3#32

/-- The values of the retention. -/
def f14 (R : Fin 16384) (j : Fin 1024) : EReal := proj x w W R ⟨2328 + j.val, by omega⟩

/-- The gate of the retention. -/
def f15 (R : Fin 16384) (j : Fin 1024) : EReal := proj x w W R ⟨3352 + j.val, by omega⟩

/-- The gate of the attention in the merge. -/
def f16 (R : Fin 16384) (j : Fin 1024) : EReal := Ideal.logistic (proj x w W R ⟨4376 + j.val, by omega⟩)

/-- The gate of the retention in the merge. -/
def f17 (R : Fin 16384) (j : Fin 1024) : EReal := Ideal.logistic (proj x w W R ⟨5400 + j.val, by omega⟩)

end Spec

/-! ## The blocks a grid point reads -/

variable (m : (ℓ : Loc nD τ sig) → Buf (Elt Ideal) ℓ) (c : Dev nD)

/-- Where each window's block lies. -/
theorem idx_row : ∀ t : Fin grid0.N, win0_0.index t = ![t.val, 0] ∧ win0_1.index t = ![0, 0] ∧ win0_2.index t = ![0, 0] ∧ win0_3.index t = ![0, 0] := by
  decide +kernel
theorem coord (t : Fin grid0.N) : (grid0.coords t 0).val = t.val := by
  revert t; decide +kernel

theorem idx4 : ∀ t : Fin grid0.N, win0_4.index t = ![0, t.val] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![t.val, 0] := by decide +kernel
theorem idx8 : ∀ t : Fin grid0.N, win0_8.index t = ![0, t.val] := by decide +kernel
theorem idx9 : ∀ t : Fin grid0.N, win0_9.index t = ![t.val, 0] := by decide +kernel
theorem idx10 : ∀ t : Fin grid0.N, win0_10.index t = ![0, t.val] := by decide +kernel
theorem idx11 : ∀ t : Fin grid0.N, win0_11.index t = ![0, t.val] := by decide +kernel
theorem idx12 : ∀ t : Fin grid0.N, win0_12.index t = ![t.val, 0] := by decide +kernel
theorem idx13 : ∀ t : Fin grid0.N, win0_13.index t = ![t.val, 0] := by decide +kernel
theorem idx14 : ∀ t : Fin grid0.N, win0_14.index t = ![t.val, 0] := by decide +kernel
theorem idx15 : ∀ t : Fin grid0.N, win0_15.index t = ![t.val, 0] := by decide +kernel
theorem idx16 : ∀ t : Fin grid0.N, win0_16.index t = ![t.val, 0] := by decide +kernel
theorem idx17 : ∀ t : Fin grid0.N, win0_17.index t = ![t.val, 0] := by decide +kernel

/-- Token `r` of point `t`. -/
def tok (t : Fin grid0.N) (r : Fin 512) : Fin 16384 :=
  ⟨t.val * 512 + r.val, by have h : t.val < 32 := lt_of_lt_of_eq t.isLt (show grid0.N = 32 from rfl); omega⟩

def xA : FVec Ideal S16384x1024 .f32 := m ((c : Thread nD τ).loc main_arg0)
def wA : FVec Ideal S1024 .f32 := m ((c : Thread nD τ).loc main_arg1)
def WA : FVec Ideal S1024x6424 .f32 := m ((c : Thread nD τ).loc main_arg2)

def b0 (t : Fin grid0.N) : FVec Ideal S512x1024 .f32 := iblk m c 0 t
def b1 (t : Fin grid0.N) : FVec Ideal S1x1024 .f32 := iblk m c 1 t
def b2 (t : Fin grid0.N) : FVec Ideal S1024x6528 .bf16 := iblk m c 2 t
def b3 (t : Fin grid0.N) : FVec Ideal S1x128 .f32 := iblk m c 3 t

theorem b0_at (t : Fin grid0.N) (r : Fin 512) (k : Fin 1024) : b0 m c t (ix2 r k) = xA m c (ix2 (tok t r) k) := by
  have e : ((cfg0.win 0).blk t).view.emb (ix2 r k : S512x1024.Idx) = (ix2 (tok t r) k : S16384x1024.Idx) := by
    refine funext fun (a : Fin 2) => Fin.ext ?_
    match a with
    | 0 =>
      show win0_0.index t (0 : Fin 2) * 512 + 1 * r.val = t.val * 512 + r.val
      have h0 : win0_0.index t (0 : Fin 2) = t.val := congrFun (idx_row t).1 0
      omega
    | 1 =>
      show win0_0.index t (1 : Fin 2) * 1024 + 1 * k.val = k.val
      have h0 : win0_0.index t (1 : Fin 2) = 0 := congrFun (idx_row t).1 1
      omega
  show V m c main_arg0 (((cfg0.win 0).blk t).view.emb (ix2 r k : S512x1024.Idx)) = _
  rw [V_main_arg0 m c]
  exact congrArg (xA m c) e

theorem b1_at (t : Fin grid0.N) (r : Fin 1) (k : Fin 1024) : b1 m c t (ix2 r k) = V m c main_v20 (ix2 r k : S1x1024.Idx) := by
  have e : ((cfg0.win 1).blk t).view.emb (ix2 r k : S1x1024.Idx) = (ix2 r k : S1x1024.Idx) := by
    refine funext fun (a : Fin 2) => Fin.ext ?_
    match a with
    | 0 =>
      show win0_1.index t (0 : Fin 2) * 1 + 1 * r.val = r.val
      have h0 : win0_1.index t (0 : Fin 2) = 0 := congrFun (idx_row t).2.1 0
      omega
    | 1 =>
      show win0_1.index t (1 : Fin 2) * 1024 + 1 * k.val = k.val
      have h0 : win0_1.index t (1 : Fin 2) = 0 := congrFun (idx_row t).2.1 1
      omega
  exact congrArg (V m c main_v20) e

theorem b2_at (t : Fin grid0.N) (r : Fin 1024) (k : Fin 6528) : b2 m c t (ix2 r k) = V m c main_v11 (ix2 r k : S1024x6528.Idx) := by
  have e : ((cfg0.win 2).blk t).view.emb (ix2 r k : S1024x6528.Idx) = (ix2 r k : S1024x6528.Idx) := by
    refine funext fun (a : Fin 2) => Fin.ext ?_
    match a with
    | 0 =>
      show win0_2.index t (0 : Fin 2) * 1024 + 1 * r.val = r.val
      have h0 : win0_2.index t (0 : Fin 2) = 0 := congrFun (idx_row t).2.2.1 0
      omega
    | 1 =>
      show win0_2.index t (1 : Fin 2) * 6528 + 1 * k.val = k.val
      have h0 : win0_2.index t (1 : Fin 2) = 0 := congrFun (idx_row t).2.2.1 1
      omega
  exact congrArg (V m c main_v11) e

theorem b3_at (t : Fin grid0.N) (r : Fin 1) (k : Fin 128) : b3 m c t (ix2 r k) = V m c main_v19 (ix2 r k : S1x128.Idx) := by
  have e : ((cfg0.win 3).blk t).view.emb (ix2 r k : S1x128.Idx) = (ix2 r k : S1x128.Idx) := by
    refine funext fun (a : Fin 2) => Fin.ext ?_
    match a with
    | 0 =>
      show win0_3.index t (0 : Fin 2) * 1 + 1 * r.val = r.val
      have h0 : win0_3.index t (0 : Fin 2) = 0 := congrFun (idx_row t).2.2.2 0
      omega
    | 1 =>
      show win0_3.index t (1 : Fin 2) * 128 + 1 * k.val = k.val
      have h0 : win0_3.index t (1 : Fin 2) = 0 := congrFun (idx_row t).2.2.2 1
      omega
  exact congrArg (V m c main_v19) e

theorem b1_val (t : Fin grid0.N) (k : Fin 1024) : b1 m c t (ix2 0 k) = wA m c (ix1 k) := by
  rw [b1_at, V_v20]
  unfold wA
  pointwise

theorem b2_val (t : Fin grid0.N) (k : Fin 1024) (q : Fin 6528) : b2 m c t (ix2 k q) = wCat (WA m c) (ix2 k q) := by
  rw [b2_at, V_v11]
  rfl

theorem b3_val (t : Fin grid0.N) (l : Fin 128) : b3 m c t (ix2 0 l) = freqAt ⟨l.val % 64, Nat.mod_lt _ (by decide)⟩ := by
  rw [b3_at, V_v19]
  exact inv2_at l

/-- What a point normalizes is its tokens' activations. -/
theorem hb_tok (t : Fin grid0.N) (r : Fin 512) (k : Fin 1024) : hb (b0 m c t) (b1 m c t) r k = hid (xA m c) (wA m c) (tok t r) k := by
  unfold hb hid
  simp only [b0_at, b1_val]

/-- What a point projects is a column of its tokens' projection. -/
theorem col_tok (t : Fin grid0.N) (r : Fin 512) (q : Fin 6528) (q' : Fin 6424)
    (h : (q.val < 1280 ∧ q'.val = q.val) ∨ (1280 ≤ q.val ∧ q.val < 6400 ∧ q'.val = q.val + 24) ∨ (6400 ≤ q.val ∧ q.val < 6424 ∧ q'.val + 5120 = q.val)) :
    colAt (b0 m c t) (b1 m c t) (b2 m c t) r q = proj (xA m c) (wA m c) (WA m c) (tok t r) q' := by
  unfold colAt proj
  exact Finset.sum_congr rfl fun k _ => by rw [hb_tok, b2_val, wCat_at _ k q q' h]

/-- A padding column's projection is 0. -/
theorem col_pad (t : Fin grid0.N) (r : Fin 512) (q : Fin 6528) (h : 6424 ≤ q.val) :
    colAt (b0 m c t) (b1 m c t) (b2 m c t) r q = 0 := by
  unfold colAt
  exact Finset.sum_eq_zero fun k _ => by rw [b2_val, wCat_pad _ k q h, mul_zero]

/-! ## What a point writes, as the projection of its tokens -/

theorem blk4 (t : Fin grid0.N) (r : Fin 512) (j : Fin 512) : out0_4 (F := Ideal) (grid0.coords t) (b0 m c t) (b1 m c t) (b2 m c t) (b3 m c t) (ix2 j r : S512x512.Idx) = f4 (xA m c) (wA m c) (WA m c) (tok t r) j := by
  unfold f4
  refine (out4_at (grid0.coords t) (b0 m c t) (b1 m c t) (b2 m c t) (b3 m c t) j r).trans ?_
  rw [col_tok m c t r ⟨j.val, by omega⟩ ⟨j.val, by omega⟩ (by simp; omega)]

theorem blk5 (t : Fin grid0.N) (r : Fin 512) (j : Fin 128) : out0_5 (F := Ideal) (grid0.coords t) (b0 m c t) (b1 m c t) (b2 m c t) (b3 m c t) (ix2 r j : S512x128.Idx) = f5 (xA m c) (wA m c) (WA m c) (tok t r) j := by
  unfold f5
  refine (out5_at (grid0.coords t) (b0 m c t) (b1 m c t) (b2 m c t) (b3 m c t) r j).trans ?_
  exact col_tok m c t r _ _ (by simp; omega)

theorem blk6 (t : Fin grid0.N) (r : Fin 512) (j : Fin 128) : out0_6 (F := Ideal) (grid0.coords t) (b0 m c t) (b1 m c t) (b2 m c t) (b3 m c t) (ix2 r j : S512x128.Idx) = f6 (xA m c) (wA m c) (WA m c) (tok t r) j := by
  unfold f6
  refine (out6_at (grid0.coords t) (b0 m c t) (b1 m c t) (b2 m c t) (b3 m c t) r j).trans ?_
  exact col_tok m c t r _ _ (by simp; omega)

theorem blk7 (t : Fin grid0.N) (r : Fin 512) (j : Fin 128) : out0_7 (F := Ideal) (grid0.coords t) (b0 m c t) (b1 m c t) (b2 m c t) (b3 m c t) (ix2 r j : S512x128.Idx) = f7 (xA m c) (wA m c) (WA m c) (tok t r) j := by
  unfold f7
  refine (out7_at (grid0.coords t) (b0 m c t) (b1 m c t) (b2 m c t) (b3 m c t) r j).trans ?_
  exact col_tok m c t r _ _ (by simp; omega)

theorem blk8 (t : Fin grid0.N) (r : Fin 512) (j : Fin 160) : out0_8 (F := Ideal) (grid0.coords t) (b0 m c t) (b1 m c t) (b2 m c t) (b3 m c t) (ix2 j r : S160x512.Idx) = f8 (xA m c) (wA m c) (WA m c) (tok t r) j := by
  unfold f8
  refine (out8_at (grid0.coords t) (b0 m c t) (b1 m c t) (b2 m c t) (b3 m c t) j r).trans ?_
  exact congrArg (fun g => packed g j) (funext fun q => col_tok m c t r _ _ (by simp; omega))

theorem blk9 (t : Fin grid0.N) (r : Fin 512) (j : Fin 128) : out0_9 (F := Ideal) (grid0.coords t) (b0 m c t) (b1 m c t) (b2 m c t) (b3 m c t) (ix2 r j : S512x128.Idx) = f9 (xA m c) (wA m c) (WA m c) (tok t r) j := by
  unfold f9
  refine (out9_at (grid0.coords t) (b0 m c t) (b1 m c t) (b2 m c t) (b3 m c t) r j).trans ?_
  exact col_tok m c t r _ _ (by simp; omega)

theorem blk10 (t : Fin grid0.N) (r : Fin 512) (j : Fin 160) : out0_10 (F := Ideal) (grid0.coords t) (b0 m c t) (b1 m c t) (b2 m c t) (b3 m c t) (ix2 j r : S160x512.Idx) = f10 (xA m c) (wA m c) (WA m c) (tok t r) j := by
  unfold f10
  refine (out10_at (grid0.coords t) (b0 m c t) (b1 m c t) (b2 m c t) (b3 m c t) j r).trans ?_
  exact congrArg (fun g => packed g j) (funext fun q => col_tok m c t r _ _ (by simp; omega))

theorem blk11 (t : Fin grid0.N) (r : Fin 512) (j : Fin 128) : out0_11 (F := Ideal) (grid0.coords t) (b0 m c t) (b1 m c t) (b2 m c t) (b3 m c t) (ix2 j r : S128x512.Idx) = f11 (xA m c) (wA m c) (WA m c) (tok t r) j := by
  unfold f11
  refine (out11_at (grid0.coords t) (b0 m c t) (b1 m c t) (b2 m c t) (b3 m c t) j r).trans ?_
  refine congrArg Ideal.logistic ?_
  split_ifs with h
  · exact col_tok m c t r _ _ (by simp; omega)
  · exact col_pad m c t r _ (by simp; omega)

theorem blk12 (t : Fin grid0.N) (r : Fin 512) (j : Fin 512) : out0_12 (F := Ideal) (grid0.coords t) (b0 m c t) (b1 m c t) (b2 m c t) (b3 m c t) (ix2 r j : S512x512.Idx) = f12 (xA m c) (wA m c) (WA m c) (tok t r) j := by
  unfold f12
  have hj := j.isLt
  have hl : j.val % 128 < 128 := Nat.mod_lt _ (by decide)
  have hd : j.val / 128 = 0 ∨ j.val / 128 = 1 ∨ j.val / 128 = 2 ∨ j.val / 128 = 3 := by omega
  have key : ∀ (hd : ℕ) (ho : hd + 128 ≤ 512), hd = 128 * (j.val / 128) →
      rot (fun l : Fin 128 => colAt (b0 m c t) (b1 m c t) (b2 m c t) r ⟨1280 + (hd + l.val), by omega⟩) (ang freqAt ((grid0.coords t 0).val * 512 + r.val)) ⟨j.val % 128, hl⟩
        = rot (fun l => proj (xA m c) (wA m c) (WA m c) (tok t r) ⟨1304 + (128 * (j.val / 128) + l.val), by omega⟩) (ang freqAt (tok t r).val) ⟨j.val % 128, hl⟩ := by
    intro hd ho e
    rw [coord t]
    have e1 : (fun l : Fin 128 => colAt (b0 m c t) (b1 m c t) (b2 m c t) r ⟨1280 + (hd + l.val), by omega⟩)
        = fun l => proj (xA m c) (wA m c) (WA m c) (tok t r) ⟨1304 + (128 * (j.val / 128) + l.val), by omega⟩ :=
      funext fun l => col_tok m c t r _ _ (by simp; omega)
    rw [e1]
    rfl
  rcases hd with h | h | h | h
  · refine Eq.trans (congrArg (fun z => out0_12 (F := Ideal) (grid0.coords t) (b0 m c t) (b1 m c t) (b2 m c t) (b3 m c t) (ix2 r z : S512x512.Idx)) (Fin.ext (by show j.val = 0 + j.val % 128; omega) : j = ⟨0 + (⟨j.val % 128, hl⟩ : Fin 128).val, by simp; omega⟩)) ?_
    exact (out12_h0 (grid0.coords t) (b0 m c t) (b1 m c t) (b2 m c t) (b3 m c t) freqAt (b3_val m c t) r ⟨j.val % 128, hl⟩).trans (key 0 (by decide) (by omega))
  · refine Eq.trans (congrArg (fun z => out0_12 (F := Ideal) (grid0.coords t) (b0 m c t) (b1 m c t) (b2 m c t) (b3 m c t) (ix2 r z : S512x512.Idx)) (Fin.ext (by show j.val = 128 + j.val % 128; omega) : j = ⟨128 + (⟨j.val % 128, hl⟩ : Fin 128).val, by simp; omega⟩)) ?_
    exact (out12_h1 (grid0.coords t) (b0 m c t) (b1 m c t) (b2 m c t) (b3 m c t) freqAt (b3_val m c t) r ⟨j.val % 128, hl⟩).trans (key 128 (by decide) (by omega))
  · refine Eq.trans (congrArg (fun z => out0_12 (F := Ideal) (grid0.coords t) (b0 m c t) (b1 m c t) (b2 m c t) (b3 m c t) (ix2 r z : S512x512.Idx)) (Fin.ext (by show j.val = 256 + j.val % 128; omega) : j = ⟨256 + (⟨j.val % 128, hl⟩ : Fin 128).val, by simp; omega⟩)) ?_
    exact (out12_h2 (grid0.coords t) (b0 m c t) (b1 m c t) (b2 m c t) (b3 m c t) freqAt (b3_val m c t) r ⟨j.val % 128, hl⟩).trans (key 256 (by decide) (by omega))
  · refine Eq.trans (congrArg (fun z => out0_12 (F := Ideal) (grid0.coords t) (b0 m c t) (b1 m c t) (b2 m c t) (b3 m c t) (ix2 r z : S512x512.Idx)) (Fin.ext (by show j.val = 384 + j.val % 128; omega) : j = ⟨384 + (⟨j.val % 128, hl⟩ : Fin 128).val, by simp; omega⟩)) ?_
    exact (out12_h3 (grid0.coords t) (b0 m c t) (b1 m c t) (b2 m c t) (b3 m c t) freqAt (b3_val m c t) r ⟨j.val % 128, hl⟩).trans (key 384 (by decide) (by omega))

theorem blk13 (t : Fin grid0.N) (r : Fin 512) (j : Fin 512) : out0_13 (F := Ideal) (grid0.coords t) (b0 m c t) (b1 m c t) (b2 m c t) (b3 m c t) (ix2 r j : S512x512.Idx) = f13 (xA m c) (wA m c) (WA m c) (tok t r) j := by
  unfold f13
  have hj := j.isLt
  have hl : j.val % 128 < 128 := Nat.mod_lt _ (by decide)
  have hd : j.val / 128 = 0 ∨ j.val / 128 = 1 ∨ j.val / 128 = 2 ∨ j.val / 128 = 3 := by omega
  have key : ∀ (hd : ℕ) (ho : hd + 128 ≤ 512), hd = 128 * (j.val / 128) →
      rot (fun l : Fin 128 => colAt (b0 m c t) (b1 m c t) (b2 m c t) r ⟨1792 + (hd + l.val), by omega⟩) (ang freqAt ((grid0.coords t 0).val * 512 + r.val)) ⟨j.val % 128, hl⟩ * Ideal.ofBits .f32 0x3DB504F3#32
        = rot (fun l => proj (xA m c) (wA m c) (WA m c) (tok t r) ⟨1816 + (128 * (j.val / 128) + l.val), by omega⟩) (ang freqAt (tok t r).val) ⟨j.val % 128, hl⟩ * Ideal.ofBits .f32 0x3DB504F3#32 := by
    intro hd ho e
    rw [coord t]
    have e1 : (fun l : Fin 128 => colAt (b0 m c t) (b1 m c t) (b2 m c t) r ⟨1792 + (hd + l.val), by omega⟩)
        = fun l => proj (xA m c) (wA m c) (WA m c) (tok t r) ⟨1816 + (128 * (j.val / 128) + l.val), by omega⟩ :=
      funext fun l => col_tok m c t r _ _ (by simp; omega)
    rw [e1]
    rfl
  rcases hd with h | h | h | h
  · refine Eq.trans (congrArg (fun z => out0_13 (F := Ideal) (grid0.coords t) (b0 m c t) (b1 m c t) (b2 m c t) (b3 m c t) (ix2 r z : S512x512.Idx)) (Fin.ext (by show j.val = 0 + j.val % 128; omega) : j = ⟨0 + (⟨j.val % 128, hl⟩ : Fin 128).val, by simp; omega⟩)) ?_
    exact (out13_h0 (grid0.coords t) (b0 m c t) (b1 m c t) (b2 m c t) (b3 m c t) freqAt (b3_val m c t) r ⟨j.val % 128, hl⟩).trans (key 0 (by decide) (by omega))
  · refine Eq.trans (congrArg (fun z => out0_13 (F := Ideal) (grid0.coords t) (b0 m c t) (b1 m c t) (b2 m c t) (b3 m c t) (ix2 r z : S512x512.Idx)) (Fin.ext (by show j.val = 128 + j.val % 128; omega) : j = ⟨128 + (⟨j.val % 128, hl⟩ : Fin 128).val, by simp; omega⟩)) ?_
    exact (out13_h1 (grid0.coords t) (b0 m c t) (b1 m c t) (b2 m c t) (b3 m c t) freqAt (b3_val m c t) r ⟨j.val % 128, hl⟩).trans (key 128 (by decide) (by omega))
  · refine Eq.trans (congrArg (fun z => out0_13 (F := Ideal) (grid0.coords t) (b0 m c t) (b1 m c t) (b2 m c t) (b3 m c t) (ix2 r z : S512x512.Idx)) (Fin.ext (by show j.val = 256 + j.val % 128; omega) : j = ⟨256 + (⟨j.val % 128, hl⟩ : Fin 128).val, by simp; omega⟩)) ?_
    exact (out13_h2 (grid0.coords t) (b0 m c t) (b1 m c t) (b2 m c t) (b3 m c t) freqAt (b3_val m c t) r ⟨j.val % 128, hl⟩).trans (key 256 (by decide) (by omega))
  · refine Eq.trans (congrArg (fun z => out0_13 (F := Ideal) (grid0.coords t) (b0 m c t) (b1 m c t) (b2 m c t) (b3 m c t) (ix2 r z : S512x512.Idx)) (Fin.ext (by show j.val = 384 + j.val % 128; omega) : j = ⟨384 + (⟨j.val % 128, hl⟩ : Fin 128).val, by simp; omega⟩)) ?_
    exact (out13_h3 (grid0.coords t) (b0 m c t) (b1 m c t) (b2 m c t) (b3 m c t) freqAt (b3_val m c t) r ⟨j.val % 128, hl⟩).trans (key 384 (by decide) (by omega))

theorem blk14 (t : Fin grid0.N) (r : Fin 512) (j : Fin 1024) : out0_14 (F := Ideal) (grid0.coords t) (b0 m c t) (b1 m c t) (b2 m c t) (b3 m c t) (ix2 r j : S512x1024.Idx) = f14 (xA m c) (wA m c) (WA m c) (tok t r) j := by
  unfold f14
  refine (out14_at (grid0.coords t) (b0 m c t) (b1 m c t) (b2 m c t) (b3 m c t) r j).trans ?_
  exact col_tok m c t r _ _ (by simp; omega)

theorem blk15 (t : Fin grid0.N) (r : Fin 512) (j : Fin 1024) : out0_15 (F := Ideal) (grid0.coords t) (b0 m c t) (b1 m c t) (b2 m c t) (b3 m c t) (ix2 r j : S512x1024.Idx) = f15 (xA m c) (wA m c) (WA m c) (tok t r) j := by
  unfold f15
  refine (out15_at (grid0.coords t) (b0 m c t) (b1 m c t) (b2 m c t) (b3 m c t) r j).trans ?_
  exact col_tok m c t r _ _ (by simp; omega)

theorem blk16 (t : Fin grid0.N) (r : Fin 512) (j : Fin 1024) : out0_16 (F := Ideal) (grid0.coords t) (b0 m c t) (b1 m c t) (b2 m c t) (b3 m c t) (ix2 r j : S512x1024.Idx) = f16 (xA m c) (wA m c) (WA m c) (tok t r) j := by
  unfold f16
  refine (out16_at (grid0.coords t) (b0 m c t) (b1 m c t) (b2 m c t) (b3 m c t) r j).trans ?_
  exact congrArg Ideal.logistic (col_tok m c t r _ _ (by simp; omega))

theorem blk17 (t : Fin grid0.N) (r : Fin 512) (j : Fin 1024) : out0_17 (F := Ideal) (grid0.coords t) (b0 m c t) (b1 m c t) (b2 m c t) (b3 m c t) (ix2 r j : S512x1024.Idx) = f17 (xA m c) (wA m c) (WA m c) (tok t r) j := by
  unfold f17
  refine (out17_at (grid0.coords t) (b0 m c t) (b1 m c t) (b2 m c t) (b3 m c t) r j).trans ?_
  exact congrArg Ideal.logistic (col_tok m c t r _ _ (by simp; omega))

end Cert.Proj
end
-- ==== Proof.ProjFinal.lean ====
module

public import proofs.«01_k».proof.Proof.ProjBlocks
public import Idealize.ShloMosaic.Lib.Pipeline.Covers

@[expose] public section
set_option maxRecDepth 16384
noncomputable section
namespace Cert.Proj
open Idealize.ShloMosaic Idealize.ShloMosaic.TcCoe Idealize.SL.Sem
open Cert.Kernel2Ideal Cert.Kernel2Ideal.Gen

variable (m : (ℓ : Loc nD τ sig) → Buf (Elt Ideal) ℓ) (c : Dev nD)

/-! ## The arrays after the run

A window by rows writes, at point `t`, the rows `512 t … 512 t + 511`; one by columns the columns `512 t … 512 t + 511`. -/

/-- The point whose block holds a block index along the tokens, given that the window's index map is `p`. -/
theorem point_of {p : Fin grid0.N → Fin 2 → ℕ} {b : Fin 2 → ℕ} {k N : ℕ}
    (h0 : b 0 < k) (h1 : b 1 < N) (hk : k = 32) (hN : N = 1) (hp : ∀ t, p t = ![t.val, 0]) : ∃ t, ∀ a, p t a = b a := by
  subst hk hN
  refine ⟨⟨b 0, lt_of_lt_of_eq h0 (show 32 = grid0.N from rfl)⟩, fun a => (congrFun (hp _) a).trans ?_⟩
  match a with
  | 0 => rfl
  | 1 => show 0 = b 1; omega

/-- The same for a window by columns. -/
theorem point_of_col {p : Fin grid0.N → Fin 2 → ℕ} {b : Fin 2 → ℕ} {k N : ℕ}
    (h0 : b 0 < N) (h1 : b 1 < k) (hk : k = 32) (hN : N = 1) (hp : ∀ t, p t = ![0, t.val]) : ∃ t, ∀ a, p t a = b a := by
  subst hk hN
  refine ⟨⟨b 1, lt_of_lt_of_eq h1 (show 32 = grid0.N from rfl)⟩, fun a => (congrFun (hp _) a).trans ?_⟩
  match a with
  | 0 => show 0 = b 0; omega
  | 1 => rfl

/-- A block by rows, at an entry of the array. -/
theorem row_entry {n : ℕ} (o : (⟨2, ![512, n]⟩ : Shape).Idx → EReal) (f : Fin 16384 → Fin n → EReal) (t : Fin grid0.N)
    (h : ∀ r j, o (ix2 r j) = f (tok t r) j) {p : Fin 2 → ℕ} (hp : p = ![t.val, 0])
    (z : (⟨2, ![512, n]⟩ : Shape).Idx) (y : (⟨2, ![16384, n]⟩ : Shape).Idx)
    (h0 : (y 0).val = p 0 * 512 + 1 * (z 0).val) (h1 : (y 1).val = p 1 * n + 1 * (z 1).val) : o z = rowsOf f y := by
  subst hp
  obtain ⟨r, j, rfl⟩ : ∃ r j, z = ix2 r j := ⟨_, _, eq_ix2 z⟩
  obtain ⟨R, J, rfl⟩ : ∃ R J, y = ix2 R J := ⟨_, _, eq_ix2 y⟩
  have e0 : tok t r = R := Fin.ext (by show t.val * 512 + r.val = R.val; simpa using h0.symm)
  have e1 : j = J := Fin.ext (by simpa using h1.symm)
  rw [h, rowsOf_at, e0, e1]

/-- A block by columns, at an entry of the array. -/
theorem col_entry {n : ℕ} (o : (⟨2, ![n, 512]⟩ : Shape).Idx → EReal) (f : Fin 16384 → Fin n → EReal) (t : Fin grid0.N)
    (h : ∀ r j, o (ix2 j r) = f (tok t r) j) {p : Fin 2 → ℕ} (hp : p = ![0, t.val])
    (z : (⟨2, ![n, 512]⟩ : Shape).Idx) (y : (⟨2, ![n, 16384]⟩ : Shape).Idx)
    (h0 : (y 0).val = p 0 * n + 1 * (z 0).val) (h1 : (y 1).val = p 1 * 512 + 1 * (z 1).val) : o z = colsOf f y := by
  subst hp
  obtain ⟨j, r, rfl⟩ : ∃ j r, z = ix2 j r := ⟨_, _, eq_ix2 z⟩
  obtain ⟨J, R, rfl⟩ : ∃ J R, y = ix2 J R := ⟨_, _, eq_ix2 y⟩
  have e0 : tok t r = R := Fin.ext (by show t.val * 512 + r.val = R.val; simpa using h1.symm)
  have e1 : j = J := Fin.ext (by simpa using h0.symm)
  rw [h, colsOf_at, e0, e1]

theorem final4 : (dats m 0 c).arrAt 4 cfg0.N = (colsOf (f4 (xA m c) (wA m c) (WA m c)) : S512x16384.Idx → EReal) := by
  refine (dats m 0 c).arrAt_eq_of_covers 4 _ (Pipeline.Window.covers_of_index_surj _ rfl
    (fun (a : Fin 2) => by match a with | 0 => exact (Nat.succ_pos 511 : 0 < 512) | 1 => exact (Nat.succ_pos 511 : 0 < 512))
    fun β => point_of_col (b := fun a => (β a).val) (β (0 : Fin 2)).isLt (β (1 : Fin 2)).isLt rfl rfl idx4) fun t hf y => ?_
  rw [after0_4]
  exact (cast_eq _ _).trans (col_entry _ _ t (blk4 m c t) (idx4 t) _ _ rfl rfl)

theorem final5 : (dats m 0 c).arrAt 5 cfg0.N = (rowsOf (f5 (xA m c) (wA m c) (WA m c)) : S16384x128.Idx → EReal) := by
  refine (dats m 0 c).arrAt_eq_of_covers 5 _ (Pipeline.Window.covers_of_index_surj _ rfl
    (fun (a : Fin 2) => by match a with | 0 => exact (Nat.succ_pos 511 : 0 < 512) | 1 => exact (Nat.succ_pos 127 : 0 < 128))
    fun β => point_of (b := fun a => (β a).val) (β (0 : Fin 2)).isLt (β (1 : Fin 2)).isLt rfl rfl idx5) fun t hf y => ?_
  rw [after0_5]
  exact (cast_eq _ _).trans (row_entry _ _ t (blk5 m c t) (idx5 t) _ _ rfl rfl)

theorem final6 : (dats m 0 c).arrAt 6 cfg0.N = (rowsOf (f6 (xA m c) (wA m c) (WA m c)) : S16384x128.Idx → EReal) := by
  refine (dats m 0 c).arrAt_eq_of_covers 6 _ (Pipeline.Window.covers_of_index_surj _ rfl
    (fun (a : Fin 2) => by match a with | 0 => exact (Nat.succ_pos 511 : 0 < 512) | 1 => exact (Nat.succ_pos 127 : 0 < 128))
    fun β => point_of (b := fun a => (β a).val) (β (0 : Fin 2)).isLt (β (1 : Fin 2)).isLt rfl rfl idx6) fun t hf y => ?_
  rw [after0_6]
  exact (cast_eq _ _).trans (row_entry _ _ t (blk6 m c t) (idx6 t) _ _ rfl rfl)

theorem final7 : (dats m 0 c).arrAt 7 cfg0.N = (rowsOf (f7 (xA m c) (wA m c) (WA m c)) : S16384x128.Idx → EReal) := by
  refine (dats m 0 c).arrAt_eq_of_covers 7 _ (Pipeline.Window.covers_of_index_surj _ rfl
    (fun (a : Fin 2) => by match a with | 0 => exact (Nat.succ_pos 511 : 0 < 512) | 1 => exact (Nat.succ_pos 127 : 0 < 128))
    fun β => point_of (b := fun a => (β a).val) (β (0 : Fin 2)).isLt (β (1 : Fin 2)).isLt rfl rfl idx7) fun t hf y => ?_
  rw [after0_7]
  exact (cast_eq _ _).trans (row_entry _ _ t (blk7 m c t) (idx7 t) _ _ rfl rfl)

theorem final8 : (dats m 0 c).arrAt 8 cfg0.N = (colsOf (f8 (xA m c) (wA m c) (WA m c)) : S160x16384.Idx → EReal) := by
  refine (dats m 0 c).arrAt_eq_of_covers 8 _ (Pipeline.Window.covers_of_index_surj _ rfl
    (fun (a : Fin 2) => by match a with | 0 => exact (Nat.succ_pos 159 : 0 < 160) | 1 => exact (Nat.succ_pos 511 : 0 < 512))
    fun β => point_of_col (b := fun a => (β a).val) (β (0 : Fin 2)).isLt (β (1 : Fin 2)).isLt rfl rfl idx8) fun t hf y => ?_
  rw [after0_8]
  exact (cast_eq _ _).trans (col_entry _ _ t (blk8 m c t) (idx8 t) _ _ rfl rfl)

theorem final9 : (dats m 0 c).arrAt 9 cfg0.N = (rowsOf (f9 (xA m c) (wA m c) (WA m c)) : S16384x128.Idx → EReal) := by
  refine (dats m 0 c).arrAt_eq_of_covers 9 _ (Pipeline.Window.covers_of_index_surj _ rfl
    (fun (a : Fin 2) => by match a with | 0 => exact (Nat.succ_pos 511 : 0 < 512) | 1 => exact (Nat.succ_pos 127 : 0 < 128))
    fun β => point_of (b := fun a => (β a).val) (β (0 : Fin 2)).isLt (β (1 : Fin 2)).isLt rfl rfl idx9) fun t hf y => ?_
  rw [after0_9]
  exact (cast_eq _ _).trans (row_entry _ _ t (blk9 m c t) (idx9 t) _ _ rfl rfl)

theorem final10 : (dats m 0 c).arrAt 10 cfg0.N = (colsOf (f10 (xA m c) (wA m c) (WA m c)) : S160x16384.Idx → EReal) := by
  refine (dats m 0 c).arrAt_eq_of_covers 10 _ (Pipeline.Window.covers_of_index_surj _ rfl
    (fun (a : Fin 2) => by match a with | 0 => exact (Nat.succ_pos 159 : 0 < 160) | 1 => exact (Nat.succ_pos 511 : 0 < 512))
    fun β => point_of_col (b := fun a => (β a).val) (β (0 : Fin 2)).isLt (β (1 : Fin 2)).isLt rfl rfl idx10) fun t hf y => ?_
  rw [after0_10]
  exact (cast_eq _ _).trans (col_entry _ _ t (blk10 m c t) (idx10 t) _ _ rfl rfl)

theorem final11 : (dats m 0 c).arrAt 11 cfg0.N = (colsOf (f11 (xA m c) (wA m c) (WA m c)) : S128x16384.Idx → EReal) := by
  refine (dats m 0 c).arrAt_eq_of_covers 11 _ (Pipeline.Window.covers_of_index_surj _ rfl
    (fun (a : Fin 2) => by match a with | 0 => exact (Nat.succ_pos 127 : 0 < 128) | 1 => exact (Nat.succ_pos 511 : 0 < 512))
    fun β => point_of_col (b := fun a => (β a).val) (β (0 : Fin 2)).isLt (β (1 : Fin 2)).isLt rfl rfl idx11) fun t hf y => ?_
  rw [after0_11]
  exact (cast_eq _ _).trans (col_entry _ _ t (blk11 m c t) (idx11 t) _ _ rfl rfl)

theorem final12 : (dats m 0 c).arrAt 12 cfg0.N = (rowsOf (f12 (xA m c) (wA m c) (WA m c)) : S16384x512.Idx → EReal) := by
  refine (dats m 0 c).arrAt_eq_of_covers 12 _ (Pipeline.Window.covers_of_index_surj _ rfl
    (fun (a : Fin 2) => by match a with | 0 => exact (Nat.succ_pos 511 : 0 < 512) | 1 => exact (Nat.succ_pos 511 : 0 < 512))
    fun β => point_of (b := fun a => (β a).val) (β (0 : Fin 2)).isLt (β (1 : Fin 2)).isLt rfl rfl idx12) fun t hf y => ?_
  rw [after0_12]
  exact (cast_eq _ _).trans (row_entry _ _ t (blk12 m c t) (idx12 t) _ _ rfl rfl)

theorem final13 : (dats m 0 c).arrAt 13 cfg0.N = (rowsOf (f13 (xA m c) (wA m c) (WA m c)) : S16384x512.Idx → EReal) := by
  refine (dats m 0 c).arrAt_eq_of_covers 13 _ (Pipeline.Window.covers_of_index_surj _ rfl
    (fun (a : Fin 2) => by match a with | 0 => exact (Nat.succ_pos 511 : 0 < 512) | 1 => exact (Nat.succ_pos 511 : 0 < 512))
    fun β => point_of (b := fun a => (β a).val) (β (0 : Fin 2)).isLt (β (1 : Fin 2)).isLt rfl rfl idx13) fun t hf y => ?_
  rw [after0_13]
  exact (cast_eq _ _).trans (row_entry _ _ t (blk13 m c t) (idx13 t) _ _ rfl rfl)

theorem final14 : (dats m 0 c).arrAt 14 cfg0.N = (rowsOf (f14 (xA m c) (wA m c) (WA m c)) : S16384x1024.Idx → EReal) := by
  refine (dats m 0 c).arrAt_eq_of_covers 14 _ (Pipeline.Window.covers_of_index_surj _ rfl
    (fun (a : Fin 2) => by match a with | 0 => exact (Nat.succ_pos 511 : 0 < 512) | 1 => exact (Nat.succ_pos 1023 : 0 < 1024))
    fun β => point_of (b := fun a => (β a).val) (β (0 : Fin 2)).isLt (β (1 : Fin 2)).isLt rfl rfl idx14) fun t hf y => ?_
  rw [after0_14]
  exact (cast_eq _ _).trans (row_entry _ _ t (blk14 m c t) (idx14 t) _ _ rfl rfl)

theorem final15 : (dats m 0 c).arrAt 15 cfg0.N = (rowsOf (f15 (xA m c) (wA m c) (WA m c)) : S16384x1024.Idx → EReal) := by
  refine (dats m 0 c).arrAt_eq_of_covers 15 _ (Pipeline.Window.covers_of_index_surj _ rfl
    (fun (a : Fin 2) => by match a with | 0 => exact (Nat.succ_pos 511 : 0 < 512) | 1 => exact (Nat.succ_pos 1023 : 0 < 1024))
    fun β => point_of (b := fun a => (β a).val) (β (0 : Fin 2)).isLt (β (1 : Fin 2)).isLt rfl rfl idx15) fun t hf y => ?_
  rw [after0_15]
  exact (cast_eq _ _).trans (row_entry _ _ t (blk15 m c t) (idx15 t) _ _ rfl rfl)

theorem final16 : (dats m 0 c).arrAt 16 cfg0.N = (rowsOf (f16 (xA m c) (wA m c) (WA m c)) : S16384x1024.Idx → EReal) := by
  refine (dats m 0 c).arrAt_eq_of_covers 16 _ (Pipeline.Window.covers_of_index_surj _ rfl
    (fun (a : Fin 2) => by match a with | 0 => exact (Nat.succ_pos 511 : 0 < 512) | 1 => exact (Nat.succ_pos 1023 : 0 < 1024))
    fun β => point_of (b := fun a => (β a).val) (β (0 : Fin 2)).isLt (β (1 : Fin 2)).isLt rfl rfl idx16) fun t hf y => ?_
  rw [after0_16]
  exact (cast_eq _ _).trans (row_entry _ _ t (blk16 m c t) (idx16 t) _ _ rfl rfl)

theorem final17 : (dats m 0 c).arrAt 17 cfg0.N = (rowsOf (f17 (xA m c) (wA m c) (WA m c)) : S16384x1024.Idx → EReal) := by
  refine (dats m 0 c).arrAt_eq_of_covers 17 _ (Pipeline.Window.covers_of_index_surj _ rfl
    (fun (a : Fin 2) => by match a with | 0 => exact (Nat.succ_pos 511 : 0 < 512) | 1 => exact (Nat.succ_pos 1023 : 0 < 1024))
    fun β => point_of (b := fun a => (β a).val) (β (0 : Fin 2)).isLt (β (1 : Fin 2)).isLt rfl rfl idx17) fun t hf y => ?_
  rw [after0_17]
  exact (cast_eq _ _).trans (row_entry _ _ t (blk17 m c t) (idx17 t) _ _ rfl rfl)

/-- The run of the kernel: every result is the projection's, and the arguments are as launched. -/
theorem kernel_run (ρ : Dev nD → PrngReg) : θ_run defs (onTc (τ := τ) (main (F := Ideal))) ⟨m, fun _ => 0, ρ⟩ fun r => ∀ c : Dev nD,
    r.2.mem ((c : Thread nD τ).loc main_v21_0) = colsOf (f4 (xA m c) (wA m c) (WA m c))
      ∧ r.2.mem ((c : Thread nD τ).loc main_v21_1) = rowsOf (f5 (xA m c) (wA m c) (WA m c))
      ∧ r.2.mem ((c : Thread nD τ).loc main_v21_2) = rowsOf (f6 (xA m c) (wA m c) (WA m c))
      ∧ r.2.mem ((c : Thread nD τ).loc main_v21_3) = rowsOf (f7 (xA m c) (wA m c) (WA m c))
      ∧ r.2.mem ((c : Thread nD τ).loc main_v21_4) = colsOf (f8 (xA m c) (wA m c) (WA m c))
      ∧ r.2.mem ((c : Thread nD τ).loc main_v21_5) = rowsOf (f9 (xA m c) (wA m c) (WA m c))
      ∧ r.2.mem ((c : Thread nD τ).loc main_v21_6) = colsOf (f10 (xA m c) (wA m c) (WA m c))
      ∧ r.2.mem ((c : Thread nD τ).loc main_v21_7) = colsOf (f11 (xA m c) (wA m c) (WA m c))
      ∧ r.2.mem ((c : Thread nD τ).loc main_v21_8) = rowsOf (f12 (xA m c) (wA m c) (WA m c))
      ∧ r.2.mem ((c : Thread nD τ).loc main_v21_9) = rowsOf (f13 (xA m c) (wA m c) (WA m c))
      ∧ r.2.mem ((c : Thread nD τ).loc main_v21_10) = rowsOf (f14 (xA m c) (wA m c) (WA m c))
      ∧ r.2.mem ((c : Thread nD τ).loc main_v21_11) = rowsOf (f15 (xA m c) (wA m c) (WA m c))
      ∧ r.2.mem ((c : Thread nD τ).loc main_v21_12) = rowsOf (f16 (xA m c) (wA m c) (WA m c))
      ∧ r.2.mem ((c : Thread nD τ).loc main_v21_13) = rowsOf (f17 (xA m c) (wA m c) (WA m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final4 m c),
    (h c).2.1.trans (final5 m c),
    (h c).2.2.1.trans (final6 m c),
    (h c).2.2.2.1.trans (final7 m c),
    (h c).2.2.2.2.1.trans (final8 m c),
    (h c).2.2.2.2.2.1.trans (final9 m c),
    (h c).2.2.2.2.2.2.1.trans (final10 m c),
    (h c).2.2.2.2.2.2.2.1.trans (final11 m c),
    (h c).2.2.2.2.2.2.2.2.1.trans (final12 m c),
    (h c).2.2.2.2.2.2.2.2.2.1.trans (final13 m c),
    (h c).2.2.2.2.2.2.2.2.2.2.1.trans (final14 m c),
    (h c).2.2.2.2.2.2.2.2.2.2.2.1.trans (final15 m c),
    (h c).2.2.2.2.2.2.2.2.2.2.2.2.1.trans (final16 m c),
    (h c).2.2.2.2.2.2.2.2.2.2.2.2.2.1.trans (final17 m c),
    (h c).2.2.2.2.2.2.2.2.2.2.2.2.2.2⟩)
    (Value.run_blocks m ρ)

end Cert.Proj
end
-- ==== Proof.ProjRef.lean ====
module

public import proofs.«01_k».proof.Proof.Gen.Reference2Ideal.Run
public import proofs.«01_k».proof.Proof.ProjBlocks
public import Idealize.ShloMosaic.Lib.Pointwise

@[expose] public section
set_option maxRecDepth 16384
noncomputable section
namespace Cert.Proj
open Idealize.ShloMosaic Idealize.ShloMosaic.TcCoe Idealize.SL.Sem
open Cert.Reference2Ideal Cert.Reference2Ideal.Gen

/-! ## The reference's arrays, entry by entry -/

variable (x : FVec Ideal S16384x1024 .f32) (w : FVec Ideal S1024 .f32) (W : FVec Ideal S1024x6424 .f32)

/-- The reference's projection of the normalized activations. -/
def refP : FVec Ideal S16384x6424 .f32 :=
  Host.dotGeneral dot_S16384x1024_S1024x6424_S16384x6424_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 w))) W

theorem refP_at (R : Fin 16384) (q : Fin 6424) : refP x w W (ix2 R q) = proj x w W R q := by
  unfold refP proj hid
  pointwise
  try rfl

/-- The angles: a token's position times a pair's frequency. -/
def angles : FVec Ideal S16384x64 .f32 :=
  mulf (broadcastInDim S16384x64 ![0, 1] bcast_S16384x1_S16384x64_0_1 (sitofp .f32 (broadcastInDim S16384x1 ![0] bcast_S16384_S16384x1_0 (iotaInDim S16384 32 0)))) (broadcastInDim S16384x64 ![0, 1] bcast_S1x64_S16384x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))

theorem angles_at (R : Fin 16384) (p : Fin 64) : angles (ix2 R p) = ang freqAt R.val p := by
  unfold angles ang freqAt invTab
  pointwise
  try rfl

/-- Each head's pairs turned by the angles. -/
def turned (X : FVec Ideal S16384x512 .f32) (A : FVec Ideal S16384x64 .f32) : FVec Ideal S16384x4x128 .f32 :=
  concatenate S16384x4x128 2 [⟨S16384x4x64, (subf (mulf (extractStridedSlice S16384x4x64 ![0, 0, 0] (shapeCast S16384x4x128 X shapeCasts_S16384x512_S16384x4x128) slices_S16384x4x128_S16384x4x64_0_0_0) (broadcastInDim S16384x4x64 ![0, 1, 2] bcast_S16384x1x64_S16384x4x64_0_1_2 (broadcastInDim S16384x1x64 ![0, 2] bcast_S16384x64_S16384x1x64_0_2 (Host.cos A)))) (mulf (extractStridedSlice S16384x4x64 ![0, 0, 64] (shapeCast S16384x4x128 X shapeCasts_S16384x512_S16384x4x128) slices_S16384x4x128_S16384x4x64_0_0_64) (broadcastInDim S16384x4x64 ![0, 1, 2] bcast_S16384x1x64_S16384x4x64_0_1_2 (broadcastInDim S16384x1x64 ![0, 2] bcast_S16384x64_S16384x1x64_0_2 (Host.sin A)))))⟩, ⟨S16384x4x64, (addf (mulf (extractStridedSlice S16384x4x64 ![0, 0, 0] (shapeCast S16384x4x128 X shapeCasts_S16384x512_S16384x4x128) slices_S16384x4x128_S16384x4x64_0_0_0) (broadcastInDim S16384x4x64 ![0, 1, 2] bcast_S16384x1x64_S16384x4x64_0_1_2 (broadcastInDim S16384x1x64 ![0, 2] bcast_S16384x64_S16384x1x64_0_2 (Host.sin A)))) (mulf (extractStridedSlice S16384x4x64 ![0, 0, 64] (shapeCast S16384x4x128 X shapeCasts_S16384x512_S16384x4x128) slices_S16384x4x128_S16384x4x64_0_0_64) (broadcastInDim S16384x4x64 ![0, 1, 2] bcast_S16384x1x64_S16384x4x64_0_1_2 (broadcastInDim S16384x1x64 ![0, 2] bcast_S16384x64_S16384x1x64_0_2 (Host.cos A)))))⟩] concatenates_S16384x4x64_S16384x4x64_S16384x4x128_d2

theorem turned_at (X : FVec Ideal S16384x512 .f32) (A : FVec Ideal S16384x64 .f32) (R : Fin 16384) (h : Fin 4) (l : Fin 128) :
    turned X A (ix3 R h l) = rot (fun l => X (ix2 R ⟨128 * h.val + l.val, by omega⟩)) (fun p => A (ix2 R p)) l := by
  unfold turned rot
  pointwise
  have c : ∀ {a b : ℕ} (ha : a < 512) (hb : b < 512), a = b → X (ix2 R ⟨a, ha⟩) = X (ix2 R ⟨b, hb⟩) := fun ha hb e => congrArg (fun z => X (ix2 R z)) (Fin.ext e)
  split_ifs <;> first
    | exact congrArg₂ (fun a b => a * Ideal.cos _ - b * Ideal.sin _) (c _ _ (by omega)) (c _ _ (by omega))
    | exact congrArg₂ (fun a b => a * Ideal.sin _ + b * Ideal.cos _) (c _ _ (by omega)) (c _ _ (by omega))
    | contradiction

/-- The packed rows, range by range. -/
theorem packed_lo (f : Fin 128 → EReal) (j : Fin 160) (h : j.val < 64) : packed f j = f ⟨j.val, by omega⟩ := by
  unfold packed
  rw [dif_pos h]
theorem packed_hi (f : Fin 128 → EReal) (j : Fin 160) (h : 80 ≤ j.val) (h' : j.val < 144) : packed f j = f ⟨j.val - 16, by omega⟩ := by
  unfold packed
  rw [dif_neg (by omega), if_neg (by omega), dif_pos h']
theorem packed_one (f : Fin 128 → EReal) (j : Fin 160) (h : j.val = 64 ∨ j.val = 144) : packed f j = 1 := by
  unfold packed
  pointwise
  split_ifs <;> first | (exfalso; omega) | rfl
theorem packed_zero (f : Fin 128 → EReal) (j : Fin 160) (h : (64 < j.val ∧ j.val < 80) ∨ 144 < j.val) : packed f j = 0 := by
  unfold packed
  pointwise
  split_ifs <;> first | (exfalso; omega) | rfl

variable (P : FVec Ideal S16384x6424 .f32) (hP : ∀ R q, P (ix2 R q) = proj x w W R q)
include hP

theorem ref4 : (truncf .bf16 (transpose S512x16384 [1, 0] (mulf (extractStridedSlice S16384x512 ![0, 0] P slices_S16384x6424_S16384x512_0_0) (broadcastInDim S16384x512 ![] bcast_S_S16384x512 (constant (F := Ideal) S_ .f32 0x3E000000#32))) transposes_S16384x512_S512x16384_1_0) bitsLt_bf16_f32 : FVec Ideal S512x16384 .bf16) = colsOf (f4 x w W) := by
  refine funext fun i => ?_
  obtain ⟨R, j, rfl⟩ : ∃ (R : Fin 16384) (j : Fin 512), i = (ix2 j R : S512x16384.Idx) :=
    ⟨i (1 : Fin 2), i (0 : Fin 2), by ext a; match a with | 0 => rfl | 1 => rfl⟩
  rw [colsOf_at]
  unfold f4
  pointwise
  rw [hP]
  try exact congrArg (proj x w W R) (Fin.ext (by simp; omega))

theorem ref5 : (extractStridedSlice S16384x128 ![0, 0] (extractStridedSlice S16384x768 ![0, 512] P slices_S16384x6424_S16384x768_0_512) slices_S16384x768_S16384x128_0_0 : FVec Ideal S16384x128 .f32) = rowsOf (f5 x w W) := by
  refine funext fun i => ?_
  obtain ⟨R, j, rfl⟩ : ∃ (R : Fin 16384) (j : Fin 128), i = (ix2 R j : S16384x128.Idx) :=
    ⟨i (0 : Fin 2), i (1 : Fin 2), by ext a; match a with | 0 => rfl | 1 => rfl⟩
  rw [rowsOf_at]
  unfold f5
  pointwise
  rw [hP]
  try exact congrArg (proj x w W R) (Fin.ext (by simp; omega))

theorem ref6 : (extractStridedSlice S16384x128 ![0, 128] (extractStridedSlice S16384x768 ![0, 512] P slices_S16384x6424_S16384x768_0_512) slices_S16384x768_S16384x128_0_128 : FVec Ideal S16384x128 .f32) = rowsOf (f6 x w W) := by
  refine funext fun i => ?_
  obtain ⟨R, j, rfl⟩ : ∃ (R : Fin 16384) (j : Fin 128), i = (ix2 R j : S16384x128.Idx) :=
    ⟨i (0 : Fin 2), i (1 : Fin 2), by ext a; match a with | 0 => rfl | 1 => rfl⟩
  rw [rowsOf_at]
  unfold f6
  pointwise
  rw [hP]
  try exact congrArg (proj x w W R) (Fin.ext (by simp; omega))

theorem ref7 : (truncf .bf16 (extractStridedSlice S16384x128 ![0, 256] (extractStridedSlice S16384x768 ![0, 512] P slices_S16384x6424_S16384x768_0_512) slices_S16384x768_S16384x128_0_256) bitsLt_bf16_f32 : FVec Ideal S16384x128 .bf16) = rowsOf (f7 x w W) := by
  refine funext fun i => ?_
  obtain ⟨R, j, rfl⟩ : ∃ (R : Fin 16384) (j : Fin 128), i = (ix2 R j : S16384x128.Idx) :=
    ⟨i (0 : Fin 2), i (1 : Fin 2), by ext a; match a with | 0 => rfl | 1 => rfl⟩
  rw [rowsOf_at]
  unfold f7
  pointwise
  rw [hP]
  try exact congrArg (proj x w W R) (Fin.ext (by simp; omega))

theorem ref8 : (truncf .bf16 ((concatenate S160x16384 0 [⟨S64x16384, ((transpose S64x16384 [1, 0] (extractStridedSlice S16384x64 ![0, 0] (extractStridedSlice S16384x128 ![0, 384] (extractStridedSlice S16384x768 ![0, 512] P slices_S16384x6424_S16384x768_0_512) slices_S16384x768_S16384x128_0_384) slices_S16384x128_S16384x64_0_0) transposes_S16384x64_S64x16384_1_0) : (⟨S64x16384, .f32⟩ : BufTy).Contents (Elt Ideal))⟩, ⟨S1x16384, ((broadcastInDim S1x16384 ![] bcast_S_S1x16384 (constant (F := Ideal) S_ .f32 0x3F800000#32)) : (⟨S1x16384, .f32⟩ : BufTy).Contents (Elt Ideal))⟩, ⟨S15x16384, ((broadcastInDim S15x16384 ![] bcast_S_S15x16384 (constant (F := Ideal) S_ .f32 0x00000000#32)) : (⟨S15x16384, .f32⟩ : BufTy).Contents (Elt Ideal))⟩, ⟨S64x16384, ((transpose S64x16384 [1, 0] (extractStridedSlice S16384x64 ![0, 64] (extractStridedSlice S16384x128 ![0, 384] (extractStridedSlice S16384x768 ![0, 512] P slices_S16384x6424_S16384x768_0_512) slices_S16384x768_S16384x128_0_384) slices_S16384x128_S16384x64_0_64) transposes_S16384x64_S64x16384_1_0) : (⟨S64x16384, .f32⟩ : BufTy).Contents (Elt Ideal))⟩, ⟨S1x16384, ((broadcastInDim S1x16384 ![] bcast_S_S1x16384 (constant (F := Ideal) S_ .f32 0x3F800000#32)) : (⟨S1x16384, .f32⟩ : BufTy).Contents (Elt Ideal))⟩, ⟨S15x16384, ((broadcastInDim S15x16384 ![] bcast_S_S15x16384 (constant (F := Ideal) S_ .f32 0x00000000#32)) : (⟨S15x16384, .f32⟩ : BufTy).Contents (Elt Ideal))⟩] concatenates_S64x16384_S1x16384_S15x16384_S64x16384_S1x16384_S15x16384_S160x16384_d0 : (⟨S160x16384, .f32⟩ : BufTy).Contents (Elt Ideal))) bitsLt_bf16_f32 : FVec Ideal S160x16384 .bf16) = colsOf (f8 x w W) := by
  refine funext fun i => ?_
  obtain ⟨R, j, rfl⟩ : ∃ (R : Fin 16384) (j : Fin 160), i = (ix2 j R : S160x16384.Idx) :=
    ⟨i (1 : Fin 2), i (0 : Fin 2), by ext a; match a with | 0 => rfl | 1 => rfl⟩
  rw [colsOf_at]
  unfold f8
  pointwise
  split_ifs <;> first
    | (exfalso; omega)
    | exact (hP _ _).trans ((congrArg (proj x w W R) (Fin.ext (by simp; omega))).trans (packed_lo (fun q : Fin 128 => proj x w W R ⟨896 + q.val, by omega⟩) j (by omega)).symm)
    | exact (hP _ _).trans ((congrArg (proj x w W R) (Fin.ext (by simp; omega))).trans (packed_hi (fun q : Fin 128 => proj x w W R ⟨896 + q.val, by omega⟩) j (by omega) (by omega)).symm)
    | exact (packed_one (fun q : Fin 128 => proj x w W R ⟨896 + q.val, by omega⟩) j (by omega)).symm
    | exact (packed_zero (fun q : Fin 128 => proj x w W R ⟨896 + q.val, by omega⟩) j (by omega)).symm
    | contradiction

theorem ref9 : (truncf .bf16 (extractStridedSlice S16384x128 ![0, 512] (extractStridedSlice S16384x768 ![0, 512] P slices_S16384x6424_S16384x768_0_512) slices_S16384x768_S16384x128_0_512) bitsLt_bf16_f32 : FVec Ideal S16384x128 .bf16) = rowsOf (f9 x w W) := by
  refine funext fun i => ?_
  obtain ⟨R, j, rfl⟩ : ∃ (R : Fin 16384) (j : Fin 128), i = (ix2 R j : S16384x128.Idx) :=
    ⟨i (0 : Fin 2), i (1 : Fin 2), by ext a; match a with | 0 => rfl | 1 => rfl⟩
  rw [rowsOf_at]
  unfold f9
  pointwise
  rw [hP]
  try exact congrArg (proj x w W R) (Fin.ext (by simp; omega))

theorem ref10 : (truncf .bf16 ((concatenate S160x16384 0 [⟨S64x16384, ((transpose S64x16384 [1, 0] (extractStridedSlice S16384x64 ![0, 0] (extractStridedSlice S16384x128 ![0, 640] (extractStridedSlice S16384x768 ![0, 512] P slices_S16384x6424_S16384x768_0_512) slices_S16384x768_S16384x128_0_640) slices_S16384x128_S16384x64_0_0) transposes_S16384x64_S64x16384_1_0) : (⟨S64x16384, .f32⟩ : BufTy).Contents (Elt Ideal))⟩, ⟨S1x16384, ((broadcastInDim S1x16384 ![] bcast_S_S1x16384 (constant (F := Ideal) S_ .f32 0x3F800000#32)) : (⟨S1x16384, .f32⟩ : BufTy).Contents (Elt Ideal))⟩, ⟨S15x16384, ((broadcastInDim S15x16384 ![] bcast_S_S15x16384 (constant (F := Ideal) S_ .f32 0x00000000#32)) : (⟨S15x16384, .f32⟩ : BufTy).Contents (Elt Ideal))⟩, ⟨S64x16384, ((transpose S64x16384 [1, 0] (extractStridedSlice S16384x64 ![0, 64] (extractStridedSlice S16384x128 ![0, 640] (extractStridedSlice S16384x768 ![0, 512] P slices_S16384x6424_S16384x768_0_512) slices_S16384x768_S16384x128_0_640) slices_S16384x128_S16384x64_0_64) transposes_S16384x64_S64x16384_1_0) : (⟨S64x16384, .f32⟩ : BufTy).Contents (Elt Ideal))⟩, ⟨S1x16384, ((broadcastInDim S1x16384 ![] bcast_S_S1x16384 (constant (F := Ideal) S_ .f32 0x3F800000#32)) : (⟨S1x16384, .f32⟩ : BufTy).Contents (Elt Ideal))⟩, ⟨S15x16384, ((broadcastInDim S15x16384 ![] bcast_S_S15x16384 (constant (F := Ideal) S_ .f32 0x00000000#32)) : (⟨S15x16384, .f32⟩ : BufTy).Contents (Elt Ideal))⟩] concatenates_S64x16384_S1x16384_S15x16384_S64x16384_S1x16384_S15x16384_S160x16384_d0 : (⟨S160x16384, .f32⟩ : BufTy).Contents (Elt Ideal))) bitsLt_bf16_f32 : FVec Ideal S160x16384 .bf16) = colsOf (f10 x w W) := by
  refine funext fun i => ?_
  obtain ⟨R, j, rfl⟩ : ∃ (R : Fin 16384) (j : Fin 160), i = (ix2 j R : S160x16384.Idx) :=
    ⟨i (1 : Fin 2), i (0 : Fin 2), by ext a; match a with | 0 => rfl | 1 => rfl⟩
  rw [colsOf_at]
  unfold f10
  pointwise
  split_ifs <;> first
    | (exfalso; omega)
    | exact (hP _ _).trans ((congrArg (proj x w W R) (Fin.ext (by simp; omega))).trans (packed_lo (fun q : Fin 128 => proj x w W R ⟨1152 + q.val, by omega⟩) j (by omega)).symm)
    | exact (hP _ _).trans ((congrArg (proj x w W R) (Fin.ext (by simp; omega))).trans (packed_hi (fun q : Fin 128 => proj x w W R ⟨1152 + q.val, by omega⟩) j (by omega) (by omega)).symm)
    | exact (packed_one (fun q : Fin 128 => proj x w W R ⟨1152 + q.val, by omega⟩) j (by omega)).symm
    | exact (packed_zero (fun q : Fin 128 => proj x w W R ⟨1152 + q.val, by omega⟩) j (by omega)).symm
    | contradiction

theorem ref11 : (transpose S128x16384 [1, 0] (Host.divf (broadcastInDim S16384x128 ![] bcast_S_S16384x128 (constant (F := Ideal) S_ .f32 0x3F800000#32)) (addf (broadcastInDim S16384x128 ![] bcast_S_S16384x128 (constant (F := Ideal) S_ .f32 0x3F800000#32)) (Host.exp (Host.negf (pad S16384x128 ![0, 0] ![0, 104] ![0, 0] (extractStridedSlice S16384x24 ![0, 1280] P slices_S16384x6424_S16384x24_0_1280) (sitofp .f32 (constantI S_ 32 0#32)) pads_S16384x24_S16384x128_000_01040 h_S_))))) transposes_S16384x128_S128x16384_1_0 : FVec Ideal S128x16384 .f32) = colsOf (f11 x w W) := by
  refine funext fun i => ?_
  obtain ⟨R, j, rfl⟩ : ∃ (R : Fin 16384) (j : Fin 128), i = (ix2 j R : S128x16384.Idx) :=
    ⟨i (1 : Fin 2), i (0 : Fin 2), by ext a; match a with | 0 => rfl | 1 => rfl⟩
  rw [colsOf_at]
  unfold f11
  pointwise
  have z : FloatOps.sitofp (F := Ideal) .f32 0#32 = 0 := by
    show (((0#32 : BitVec 32).toInt : ℝ) : EReal) = 0
    simp
  simp only [hP, z]
  rfl

theorem ref14 : (truncf .bf16 (extractStridedSlice S16384x1024 ![0, 2328] P slices_S16384x6424_S16384x1024_0_2328) bitsLt_bf16_f32 : FVec Ideal S16384x1024 .bf16) = rowsOf (f14 x w W) := by
  refine funext fun i => ?_
  obtain ⟨R, j, rfl⟩ : ∃ (R : Fin 16384) (j : Fin 1024), i = (ix2 R j : S16384x1024.Idx) :=
    ⟨i (0 : Fin 2), i (1 : Fin 2), by ext a; match a with | 0 => rfl | 1 => rfl⟩
  rw [rowsOf_at]
  unfold f14
  pointwise
  rw [hP]
  try exact congrArg (proj x w W R) (Fin.ext (by simp; omega))

theorem ref15 : (extractStridedSlice S16384x1024 ![0, 3352] P slices_S16384x6424_S16384x1024_0_3352 : FVec Ideal S16384x1024 .f32) = rowsOf (f15 x w W) := by
  refine funext fun i => ?_
  obtain ⟨R, j, rfl⟩ : ∃ (R : Fin 16384) (j : Fin 1024), i = (ix2 R j : S16384x1024.Idx) :=
    ⟨i (0 : Fin 2), i (1 : Fin 2), by ext a; match a with | 0 => rfl | 1 => rfl⟩
  rw [rowsOf_at]
  unfold f15
  pointwise
  rw [hP]
  try exact congrArg (proj x w W R) (Fin.ext (by simp; omega))

theorem ref16 : (Host.divf (broadcastInDim S16384x1024 ![] bcast_S_S16384x1024 (constant (F := Ideal) S_ .f32 0x3F800000#32)) (addf (broadcastInDim S16384x1024 ![] bcast_S_S16384x1024 (constant (F := Ideal) S_ .f32 0x3F800000#32)) (Host.exp (Host.negf (extractStridedSlice S16384x1024 ![0, 4376] P slices_S16384x6424_S16384x1024_0_4376)))) : FVec Ideal S16384x1024 .f32) = rowsOf (f16 x w W) := by
  refine funext fun i => ?_
  obtain ⟨R, j, rfl⟩ : ∃ (R : Fin 16384) (j : Fin 1024), i = (ix2 R j : S16384x1024.Idx) :=
    ⟨i (0 : Fin 2), i (1 : Fin 2), by ext a; match a with | 0 => rfl | 1 => rfl⟩
  rw [rowsOf_at]
  unfold f16
  pointwise
  rw [hP]
  rfl

theorem ref17 : (Host.divf (broadcastInDim S16384x1024 ![] bcast_S_S16384x1024 (constant (F := Ideal) S_ .f32 0x3F800000#32)) (addf (broadcastInDim S16384x1024 ![] bcast_S_S16384x1024 (constant (F := Ideal) S_ .f32 0x3F800000#32)) (Host.exp (Host.negf (extractStridedSlice S16384x1024 ![0, 5400] P slices_S16384x6424_S16384x1024_0_5400)))) : FVec Ideal S16384x1024 .f32) = rowsOf (f17 x w W) := by
  refine funext fun i => ?_
  obtain ⟨R, j, rfl⟩ : ∃ (R : Fin 16384) (j : Fin 1024), i = (ix2 R j : S16384x1024.Idx) :=
    ⟨i (0 : Fin 2), i (1 : Fin 2), by ext a; match a with | 0 => rfl | 1 => rfl⟩
  rw [rowsOf_at]
  unfold f17
  pointwise
  rw [hP]
  rfl

theorem ref12 : (truncf .bf16 (shapeCast S16384x512 (turned (extractStridedSlice S16384x512 ![0, 1304] P slices_S16384x6424_S16384x512_0_1304) angles) shapeCasts_S16384x4x128_S16384x512) bitsLt_bf16_f32 : FVec Ideal S16384x512 .bf16) = rowsOf (f12 x w W) := by
  refine funext fun i => ?_
  obtain ⟨R, j, rfl⟩ : ∃ (R : Fin 16384) (j : Fin 512), i = (ix2 R j : S16384x512.Idx) :=
    ⟨i (0 : Fin 2), i (1 : Fin 2), by ext a; match a with | 0 => rfl | 1 => rfl⟩
  rw [rowsOf_at]
  unfold f12
  pointwise
  rw [turned_at]
  have e : (fun l : Fin 128 => (extractStridedSlice S16384x512 ![0, 1304] P slices_S16384x6424_S16384x512_0_1304) (ix2 R ⟨128 * (⟨j.val / 128, by omega⟩ : Fin 4).val + l.val, by simp; omega⟩))
      = fun l : Fin 128 => proj x w W R ⟨1304 + (128 * (j.val / 128) + l.val), by omega⟩ := by
    refine funext fun l => ?_
    pointwise
    exact hP _ _
  rw [e, funext (angles_at R)]

theorem ref13 : (mulf (shapeCast S16384x512 (turned (extractStridedSlice S16384x512 ![0, 1816] P slices_S16384x6424_S16384x512_0_1816) angles) shapeCasts_S16384x4x128_S16384x512) (broadcastInDim S16384x512 ![] bcast_S_S16384x512 (constant S_ .f32 0x3DB504F3#32)) : FVec Ideal S16384x512 .f32) = rowsOf (f13 x w W) := by
  refine funext fun i => ?_
  obtain ⟨R, j, rfl⟩ : ∃ (R : Fin 16384) (j : Fin 512), i = (ix2 R j : S16384x512.Idx) :=
    ⟨i (0 : Fin 2), i (1 : Fin 2), by ext a; match a with | 0 => rfl | 1 => rfl⟩
  rw [rowsOf_at]
  unfold f13
  pointwise
  rw [turned_at]
  have e : (fun l : Fin 128 => (extractStridedSlice S16384x512 ![0, 1816] P slices_S16384x6424_S16384x512_0_1816) (ix2 R ⟨128 * (⟨j.val / 128, by omega⟩ : Fin 4).val + l.val, by simp; omega⟩))
      = fun l : Fin 128 => proj x w W R ⟨1816 + (128 * (j.val / 128) + l.val), by omega⟩ := by
    refine funext fun l => ?_
    pointwise
    exact hP _ _
  rw [e, funext (angles_at R)]

end Cert.Proj
end
-- ==== Proof.ProjClaim.lean ====
module

public import proofs.«01_k».proof.Proof.Gen.Kernel2.Frame
public import proofs.«01_k».proof.Proof.ProjFinal
public import proofs.«01_k».proof.Proof.ProjRef
public import proofs.«01_k».proof.Defs
public import Idealize.ShloMosaic.Adequacy
public import Idealize.ShloMosaic.Init

@[expose] public section
set_option maxRecDepth 16384
noncomputable section
namespace Cert.Proj
open Idealize.ShloMosaic Idealize.ShloMosaic.TcCoe Idealize.SL.Sem

/-! ## The claims about the input projection's call -/

/-- The kernel runs, leaves its arguments as they were and every counter at zero. -/
theorem frame_kernel : Cert.quiescent_Kernel2 := fun m ρ _ => Cert.Kernel2.Gen.frame m ρ

/-- So does the kernel read over the extended reals. -/
theorem frame_ideal : Cert.quiescent_Kernel2Ideal := fun m ρ _ => Cert.Kernel2Ideal.Gen.frame m ρ

/-- So does the reference: it has no counters. -/
theorem frame_ref : Cert.quiescent_Reference2Ideal := fun m ρ _ =>
  (θ_run Cert.Reference2Ideal.defs _ _).mono (fun r h => ⟨fun c => (h c).2.2.2.2.2.2.2.2.2.2.2.2.2.2, Idealize.ShloMosaic.sem_eq_zero_of_no_sems (by decide) r.2⟩)
    (Cert.Reference2Ideal.Value.run (F := Ideal) m ρ)

/-- Over the extended reals each of the kernel's 14 arrays is the reference's, on every device and for any arguments. -/
theorem value : Cert.algebraic_Kernel2Ideal_Reference2Ideal := by
  intro m ρ m' ρ' _ hagree
  refine ⟨fun c => colsOf (f4 (xA m c) (wA m c) (WA m c)), fun c => rowsOf (f5 (xA m c) (wA m c) (WA m c)), fun c => rowsOf (f6 (xA m c) (wA m c) (WA m c)), fun c => rowsOf (f7 (xA m c) (wA m c) (WA m c)), fun c => colsOf (f8 (xA m c) (wA m c) (WA m c)), fun c => rowsOf (f9 (xA m c) (wA m c) (WA m c)), fun c => colsOf (f10 (xA m c) (wA m c) (WA m c)), fun c => colsOf (f11 (xA m c) (wA m c) (WA m c)), fun c => rowsOf (f12 (xA m c) (wA m c) (WA m c)), fun c => rowsOf (f13 (xA m c) (wA m c) (WA m c)), fun c => rowsOf (f14 (xA m c) (wA m c) (WA m c)), fun c => rowsOf (f15 (xA m c) (wA m c) (WA m c)), fun c => rowsOf (f16 (xA m c) (wA m c) (WA m c)), fun c => rowsOf (f17 (xA m c) (wA m c) (WA m c)), kernel_run m ρ, ?_⟩
  refine (θ_run _ _ _).mono (fun _ h c => ?_) (Cert.Reference2Ideal.Value.run (F := Ideal) m' ρ')
  obtain ⟨a0, a1, a2⟩ := hagree c
  refine ⟨?_, ?_, ?_, ?_, ?_, ?_, ?_, ?_, ?_, ?_, ?_, ?_, ?_, ?_, (h c).2.2.2.2.2.2.2.2.2.2.2.2.2.2⟩
  · exact (h c).1.trans ((ref4 (m' (c.tc.loc Cert.Reference2Ideal.main_arg0)) (m' (c.tc.loc Cert.Reference2Ideal.main_arg1)) (m' (c.tc.loc Cert.Reference2Ideal.main_arg2)) _ (refP_at (m' (c.tc.loc Cert.Reference2Ideal.main_arg0)) (m' (c.tc.loc Cert.Reference2Ideal.main_arg1)) (m' (c.tc.loc Cert.Reference2Ideal.main_arg2)))).trans (by rw [a0, a1, a2]; rfl))
  · exact (h c).2.1.trans ((ref5 (m' (c.tc.loc Cert.Reference2Ideal.main_arg0)) (m' (c.tc.loc Cert.Reference2Ideal.main_arg1)) (m' (c.tc.loc Cert.Reference2Ideal.main_arg2)) _ (refP_at (m' (c.tc.loc Cert.Reference2Ideal.main_arg0)) (m' (c.tc.loc Cert.Reference2Ideal.main_arg1)) (m' (c.tc.loc Cert.Reference2Ideal.main_arg2)))).trans (by rw [a0, a1, a2]; rfl))
  · exact (h c).2.2.1.trans ((ref6 (m' (c.tc.loc Cert.Reference2Ideal.main_arg0)) (m' (c.tc.loc Cert.Reference2Ideal.main_arg1)) (m' (c.tc.loc Cert.Reference2Ideal.main_arg2)) _ (refP_at (m' (c.tc.loc Cert.Reference2Ideal.main_arg0)) (m' (c.tc.loc Cert.Reference2Ideal.main_arg1)) (m' (c.tc.loc Cert.Reference2Ideal.main_arg2)))).trans (by rw [a0, a1, a2]; rfl))
  · exact (h c).2.2.2.1.trans ((ref7 (m' (c.tc.loc Cert.Reference2Ideal.main_arg0)) (m' (c.tc.loc Cert.Reference2Ideal.main_arg1)) (m' (c.tc.loc Cert.Reference2Ideal.main_arg2)) _ (refP_at (m' (c.tc.loc Cert.Reference2Ideal.main_arg0)) (m' (c.tc.loc Cert.Reference2Ideal.main_arg1)) (m' (c.tc.loc Cert.Reference2Ideal.main_arg2)))).trans (by rw [a0, a1, a2]; rfl))
  · exact (h c).2.2.2.2.1.trans ((ref8 (m' (c.tc.loc Cert.Reference2Ideal.main_arg0)) (m' (c.tc.loc Cert.Reference2Ideal.main_arg1)) (m' (c.tc.loc Cert.Reference2Ideal.main_arg2)) _ (refP_at (m' (c.tc.loc Cert.Reference2Ideal.main_arg0)) (m' (c.tc.loc Cert.Reference2Ideal.main_arg1)) (m' (c.tc.loc Cert.Reference2Ideal.main_arg2)))).trans (by rw [a0, a1, a2]; rfl))
  · exact (h c).2.2.2.2.2.1.trans ((ref9 (m' (c.tc.loc Cert.Reference2Ideal.main_arg0)) (m' (c.tc.loc Cert.Reference2Ideal.main_arg1)) (m' (c.tc.loc Cert.Reference2Ideal.main_arg2)) _ (refP_at (m' (c.tc.loc Cert.Reference2Ideal.main_arg0)) (m' (c.tc.loc Cert.Reference2Ideal.main_arg1)) (m' (c.tc.loc Cert.Reference2Ideal.main_arg2)))).trans (by rw [a0, a1, a2]; rfl))
  · exact (h c).2.2.2.2.2.2.1.trans ((ref10 (m' (c.tc.loc Cert.Reference2Ideal.main_arg0)) (m' (c.tc.loc Cert.Reference2Ideal.main_arg1)) (m' (c.tc.loc Cert.Reference2Ideal.main_arg2)) _ (refP_at (m' (c.tc.loc Cert.Reference2Ideal.main_arg0)) (m' (c.tc.loc Cert.Reference2Ideal.main_arg1)) (m' (c.tc.loc Cert.Reference2Ideal.main_arg2)))).trans (by rw [a0, a1, a2]; rfl))
  · exact (h c).2.2.2.2.2.2.2.1.trans ((ref11 (m' (c.tc.loc Cert.Reference2Ideal.main_arg0)) (m' (c.tc.loc Cert.Reference2Ideal.main_arg1)) (m' (c.tc.loc Cert.Reference2Ideal.main_arg2)) _ (refP_at (m' (c.tc.loc Cert.Reference2Ideal.main_arg0)) (m' (c.tc.loc Cert.Reference2Ideal.main_arg1)) (m' (c.tc.loc Cert.Reference2Ideal.main_arg2)))).trans (by rw [a0, a1, a2]; rfl))
  · exact (h c).2.2.2.2.2.2.2.2.1.trans ((ref12 (m' (c.tc.loc Cert.Reference2Ideal.main_arg0)) (m' (c.tc.loc Cert.Reference2Ideal.main_arg1)) (m' (c.tc.loc Cert.Reference2Ideal.main_arg2)) _ (refP_at (m' (c.tc.loc Cert.Reference2Ideal.main_arg0)) (m' (c.tc.loc Cert.Reference2Ideal.main_arg1)) (m' (c.tc.loc Cert.Reference2Ideal.main_arg2)))).trans (by rw [a0, a1, a2]; rfl))
  · exact (h c).2.2.2.2.2.2.2.2.2.1.trans ((ref13 (m' (c.tc.loc Cert.Reference2Ideal.main_arg0)) (m' (c.tc.loc Cert.Reference2Ideal.main_arg1)) (m' (c.tc.loc Cert.Reference2Ideal.main_arg2)) _ (refP_at (m' (c.tc.loc Cert.Reference2Ideal.main_arg0)) (m' (c.tc.loc Cert.Reference2Ideal.main_arg1)) (m' (c.tc.loc Cert.Reference2Ideal.main_arg2)))).trans (by rw [a0, a1, a2]; rfl))
  · exact (h c).2.2.2.2.2.2.2.2.2.2.1.trans ((ref14 (m' (c.tc.loc Cert.Reference2Ideal.main_arg0)) (m' (c.tc.loc Cert.Reference2Ideal.main_arg1)) (m' (c.tc.loc Cert.Reference2Ideal.main_arg2)) _ (refP_at (m' (c.tc.loc Cert.Reference2Ideal.main_arg0)) (m' (c.tc.loc Cert.Reference2Ideal.main_arg1)) (m' (c.tc.loc Cert.Reference2Ideal.main_arg2)))).trans (by rw [a0, a1, a2]; rfl))
  · exact (h c).2.2.2.2.2.2.2.2.2.2.2.1.trans ((ref15 (m' (c.tc.loc Cert.Reference2Ideal.main_arg0)) (m' (c.tc.loc Cert.Reference2Ideal.main_arg1)) (m' (c.tc.loc Cert.Reference2Ideal.main_arg2)) _ (refP_at (m' (c.tc.loc Cert.Reference2Ideal.main_arg0)) (m' (c.tc.loc Cert.Reference2Ideal.main_arg1)) (m' (c.tc.loc Cert.Reference2Ideal.main_arg2)))).trans (by rw [a0, a1, a2]; rfl))
  · exact (h c).2.2.2.2.2.2.2.2.2.2.2.2.1.trans ((ref16 (m' (c.tc.loc Cert.Reference2Ideal.main_arg0)) (m' (c.tc.loc Cert.Reference2Ideal.main_arg1)) (m' (c.tc.loc Cert.Reference2Ideal.main_arg2)) _ (refP_at (m' (c.tc.loc Cert.Reference2Ideal.main_arg0)) (m' (c.tc.loc Cert.Reference2Ideal.main_arg1)) (m' (c.tc.loc Cert.Reference2Ideal.main_arg2)))).trans (by rw [a0, a1, a2]; rfl))
  · exact (h c).2.2.2.2.2.2.2.2.2.2.2.2.2.1.trans ((ref17 (m' (c.tc.loc Cert.Reference2Ideal.main_arg0)) (m' (c.tc.loc Cert.Reference2Ideal.main_arg1)) (m' (c.tc.loc Cert.Reference2Ideal.main_arg2)) _ (refP_at (m' (c.tc.loc Cert.Reference2Ideal.main_arg0)) (m' (c.tc.loc Cert.Reference2Ideal.main_arg1)) (m' (c.tc.loc Cert.Reference2Ideal.main_arg2)))).trans (by rw [a0, a1, a2]; rfl))

end Cert.Proj
end
-- ==== Proof.CmpBody.lean ====
module

public import proofs.«01_k».proof.Proof.Gen.Kernel3Ideal.Frame
public import Idealize.ShloMosaic.Lib.Pipeline.Value
public import Idealize.ShloMosaic.Lib.Pipeline.ValueKit
public import Idealize.ShloMosaic.Lib.Pipeline.ReadBack
public import Idealize.ShloMosaic.Lib.Tactic

@[expose] public section
set_option maxRecDepth 16384
noncomputable section
namespace Cert.Cmp
open Idealize.ShloMosaic Idealize.ShloMosaic.TcCoe Idealize.SL.Sem
open Cert.Kernel3Ideal Cert.Kernel3Ideal.Gen
variable {F : FTy → Type} [FloatOps F]

variable (x0 : Vec F S16400x128 .f32) (x1 : Vec F S32x128 .f32) (x2 : Vec F S32x128x512 .bf16) (x3 : Vec F S512x128 .bf16)

/-- One trip: every sixteenth row from row `k` on, with a row of positions added, times a slab of the weights, added to the
accumulator. -/
def tripAcc (k : Fin k0_t1_loop.trips) (h : Vec F S1024x512 .f32) : Vec F S1024x512 .f32 :=
  k0_pay2 (fun j => x0 ((⟨k0_off1 k, S1024x128.size, ![16, 1], k0_off1_inb k⟩ : LoadRect S16400x128).idx j))
    (fun j => x1 ((Rect.unit (s := S32x128) (k0_off2 k) S1x128.size (k0_off2_inb k)).toLoadRect.idx j)) h
    (fun j => x2 ((Rect.unit (s := S32x128x512) (k0_off3 k) S1x128x512.size (k0_off3_inb k)).toLoadRect.idx j))

/-- The accumulator before trip `k`. -/
def accAt : ℕ → Vec F S1024x512 .f32
  | 0 => k0_pay1
  | k + 1 => if h : k < k0_t1_loop.trips then tripAcc x0 x1 x2 ⟨k, h⟩ (accAt k) else accAt k

theorem accAt_succ (k : ℕ) (h : k < k0_t1_loop.trips) : accAt x0 x1 x2 (k + 1) = tripAcc x0 x1 x2 ⟨k, h⟩ (accAt x0 x1 x2 k) := by
  rw [accAt, dif_pos h]

variable (c : Dev nD) (i : grid0.Coords)
  (a1 : Memref sig .tc .vmem S16400x128 .f32) (h1 : a1.IsWhole)
  (a2 : Memref sig .tc .vmem S32x128 .f32) (h2 : a2.IsWhole)
  (a3 : Memref sig .tc .vmem S32x128x512 .bf16) (h3 : a3.IsWhole)
  (a4 : Memref sig .tc .vmem S512x128 .bf16) (h4 : a4.IsWhole)
  (a5 : Memref sig .tc .vmem S1024x128 .f32) (h5 : a5.IsWhole)
  (a6 : Memref sig .tc .vmem S1024x512 .f32) (h6 : a6.IsWhole)

theorem zero2 : (![0, 0] : Fin 2 → ℕ) = fun _ => 0 := by
  funext a; match a with | 0 => rfl | 1 => rfl

/-- A trip stores the whole accumulator once. -/
theorem trip_eq (f : BufTy.Contents (Elt F) a6.view.ty) (k : Fin k0_t1_loop.trips) :
    tripL_k0_t1 (F := F) Variants.none c none i a1 h1 a2 h2 a3 h3 a4 h4 a5 h5 a6 h6 (h1.unread x0) (h2.unread x1) (h3.unread x2) k f
      = [⟨Rect.unit ![0, 0] ![1024, 512] inb_S1024x512_S1024x512_0_0, tripAcc x0 x1 x2 k (a6.view.read (Elt F) f)⟩] := by
  have e6 : View.readAt (Elt F) a6.view (Rect.unit (s := S1024x512) ![0, 0] ![1024, 512] inb_S1024x512_S1024x512_0_0).toLoadRect f = a6.view.read (Elt F) f :=
    View.ld_unit_zero zero2 inb_S1024x512_S1024x512_0_0 (a6.view.read (Elt F) f)
  unfold tripL_k0_t1 trip_k0_t1 tripAcc
  dsimp only
  rw [e6]
  unfold View.readAt
  simp only [Memref.IsWhole.read_unread]
  rfl

/-- Before trip `k` the accumulator's stores leave `accAt k`. -/
theorem canon_pb (k : ℕ) (hk : k ≤ k0_t1_loop.trips) :
    View.canon (pb_k0_t1 Variants.none c none i a1 h1 a2 h2 a3 h3 a4 h4 a5 h5 a6 h6 (h1.unread x0) (h2.unread x1) (h3.unread x2)
      (a6.view.writes (Elt F) a6.view.junk [⟨Rect.unit ![0, 0] ![1024, 512] inb_S1024x512_S1024x512_0_0, k0_pay1⟩]) k
      ++ [⟨Rect.unit ![0, 0] ![1024, 512] inb_S1024x512_S1024x512_0_0, k0_pay1⟩]) = accAt x0 x1 x2 k := by
  induction k with
  | zero => exact View.canon_unit_zero (Val := Elt F) (e := EltTy.f32) (S := S1024x512) zero2 inb_S1024x512_S1024x512_0_0 k0_pay1
  | succ k ih =>
    have ih := ih (by omega)
    rw [pb_k0_t1_succ (k := ⟨k, hk⟩), trip_eq, ← View.writes_append, View.read_writes_junk_eq_canon, ih]
    refine (View.canon_cons_unit_zero zero2 inb_S1024x512_S1024x512_0_0 _ _).trans ?_
    exact (accAt_succ x0 x1 x2 k hk).symm

/-- What the body leaves in its result. -/
theorem out_eq : out0_A_4 c i a1 h1 a2 h2 a3 h3 a4 h4 a5 h5 a6 h6 x0 x1 x2 x3 = k0_pay3 (accAt x0 x1 x2 32) x3 := by
  frame_open
  frame_out
  refine congrArg (fun z => k0_pay3 z x3) ?_
  rw [View.readCov_eq_canon']
  refine (View.ld_unit_zero zero2 inb_S1024x512_S1024x512_0_0 _).trans ?_
  exact canon_pb x0 x1 x2 c i a1 h1 a2 h2 a3 h3 a4 h4 a5 h5 a6 h6 32 (le_of_eq rfl)

end Cert.Cmp
end
-- ==== Proof.CmpValue.lean ====
module

public import proofs.«01_k».proof.Proof.Gen.Kernel3Ideal.Value
public import proofs.«01_k».proof.Proof.CmpBody
public import Idealize.ShloMosaic.Lib.Pointwise

@[expose] public section
set_option maxRecDepth 16384
noncomputable section
namespace Cert.Cmp
open Idealize.ShloMosaic Idealize.ShloMosaic.TcCoe Idealize.SL.Sem Idealize.ShloMosaic.StableHlo
open Cert.Kernel3Ideal Cert.Kernel3Ideal.Gen

/-! ## The compressed tokens, as sums -/

/-- The activation between the two layers. -/
def act (x : EReal) : EReal :=
  x * (Ideal.ofBits .f32 0x3F000000#32 * (Ideal.ofBits .f32 0x3F800000#32 + Ideal.tanh (Ideal.ofBits .f32 0x3F4C422A#32 * (x + Ideal.ofBits .f32 0x3D372713#32 * (x * (x * x))))))

/-- The keys and values with 16 zero rows behind. -/
def padded (x : FVec Ideal S16384x128 .f32) : FVec Ideal S16400x128 .f32 :=
  pad S16400x128 ![0, 0] ![16, 0] ![0, 0] x (sitofp .f32 (constantI S_ 32 0#32)) pads_S16384x128_S16400x128_0160_000 h_S_

/-- Block `t`'s hidden unit `a` of half `g` (the keys or the values). -/
def pre (P : FVec Ideal S16400x128 .f32) (pos : FVec Ideal S32x64 .f32) (w1 : FVec Ideal S2048x256 .f32) (t : Fin 1024) (g : Fin 2) (a : Fin 256) : EReal :=
  ∑ l : Fin 32, ∑ d : Fin 64, (P (ix2 ⟨16 * t.val + l.val, by omega⟩ ⟨g.val * 64 + d.val, by omega⟩) + pos (ix2 l d)) * w1 (ix2 ⟨l.val * 64 + d.val, by omega⟩ a)

/-- Block `t`'s compressed token, entry `d` of half `g`. -/
def cmpOf (P : FVec Ideal S16400x128 .f32) (pos : FVec Ideal S32x64 .f32) (w1 : FVec Ideal S2048x256 .f32) (w2 : FVec Ideal S256x64 .f32) (t : Fin 1024) (g : Fin 2) (d : Fin 64) : EReal :=
  ∑ a : Fin 256, act (pre P pos w1 t g a) * w2 (ix2 a d)

/-- The array of compressed tokens. -/
def cmpArr (P : FVec Ideal S16400x128 .f32) (pos : FVec Ideal S32x64 .f32) (w1 : FVec Ideal S2048x256 .f32) (w2 : FVec Ideal S256x64 .f32) : FVec Ideal S1024x128 .f32 :=
  fun y => cmpOf P pos w1 w2 (y 0) ⟨(y 1).val / 64, by have h : (y 1).val < 128 := (y 1).isLt; omega⟩ ⟨(y 1).val % 64, Nat.mod_lt _ (by decide)⟩

/-! ## The body at an entry -/

variable (x0 : FVec Ideal S16400x128 .f32) (x1 : FVec Ideal S32x128 .f32) (x2 : FVec Ideal S32x128x512 .bf16) (x3 : FVec Ideal S512x128 .bf16)

theorem off1 : ∀ k : Fin k0_t1_loop.trips, k0_off1 k = ![k.val, 0] := by decide +kernel
theorem off2 : ∀ k : Fin k0_t1_loop.trips, k0_off2 k = ![k.val, 0] := by decide +kernel
theorem off3 : ∀ k : Fin k0_t1_loop.trips, k0_off3 k = ![k.val, 0, 0] := by decide +kernel

theorem rows_at (k : Fin k0_t1_loop.trips) (l : Fin 32) (hl : k.val = l.val) (t : Fin 1024) (p : Fin 128) :
    (⟨k0_off1 k, S1024x128.size, ![16, 1], k0_off1_inb k⟩ : LoadRect S16400x128).idx (ix2 t p : S1024x128.Idx) = ix2 ⟨16 * t.val + l.val, by omega⟩ p := by
  refine funext fun (a : Fin 2) => Fin.ext ?_
  have h := congrFun (off1 k) a
  match a with
  | 0 =>
    show k0_off1 k (0 : Fin 2) + 16 * t.val = 16 * t.val + l.val
    have h : k0_off1 k (0 : Fin 2) = k.val := h
    omega
  | 1 =>
    show k0_off1 k (1 : Fin 2) + 1 * p.val = p.val
    have h : k0_off1 k (1 : Fin 2) = 0 := h
    omega

theorem row_at (k : Fin k0_t1_loop.trips) (l : Fin 32) (hl : k.val = l.val) (p : Fin 128) :
    (Rect.unit (s := S32x128) (k0_off2 k) S1x128.size (k0_off2_inb k)).toLoadRect.idx (ix2 0 p : S1x128.Idx) = ix2 l p := by
  refine funext fun (a : Fin 2) => Fin.ext ?_
  have h := congrFun (off2 k) a
  match a with
  | 0 =>
    show k0_off2 k (0 : Fin 2) + 1 * 0 = l.val
    have h : k0_off2 k (0 : Fin 2) = k.val := h
    omega
  | 1 =>
    show k0_off2 k (1 : Fin 2) + 1 * p.val = p.val
    have h : k0_off2 k (1 : Fin 2) = 0 := h
    omega

theorem slab_at (k : Fin k0_t1_loop.trips) (l : Fin 32) (hl : k.val = l.val) (p : Fin 128) (h : Fin 512) :
    (Rect.unit (s := S32x128x512) (k0_off3 k) S1x128x512.size (k0_off3_inb k)).toLoadRect.idx (ix3 0 p h : S1x128x512.Idx) = ix3 l p h := by
  refine funext fun (a : Fin 3) => Fin.ext ?_
  have e := congrFun (off3 k) a
  match a with
  | 0 =>
    show k0_off3 k (0 : Fin 3) + 1 * 0 = l.val
    have e : k0_off3 k (0 : Fin 3) = k.val := e
    omega
  | 1 =>
    show k0_off3 k (1 : Fin 3) + 1 * p.val = p.val
    have e : k0_off3 k (1 : Fin 3) = 0 := e
    omega
  | 2 =>
    show k0_off3 k (2 : Fin 3) + 1 * h.val = h.val
    have e : k0_off3 k (2 : Fin 3) = 0 := e
    omega

/-- What trip `l` adds. -/
def term (l : Fin 32) (t : Fin 1024) (h : Fin 512) : EReal :=
  ∑ p : Fin 128, (x0 (ix2 ⟨16 * t.val + l.val, by omega⟩ p) + x1 (ix2 l p)) * x2 (ix3 l p h)

theorem pay2_at (A : FVec Ideal S1024x128 .f32) (B : FVec Ideal S1x128 .f32) (acc : FVec Ideal S1024x512 .f32) (C : FVec Ideal S1x128x512 .bf16) (t : Fin 1024) (h : Fin 512) :
    k0_pay2 (F := Ideal) A B acc C (ix2 t h) = acc (ix2 t h) + ∑ p : Fin 128, (A (ix2 t p) + B (ix2 0 p)) * C (ix3 0 p h) := by
  unfold k0_pay2
  pointwise
  try rfl

theorem trip_at (k : Fin k0_t1_loop.trips) (l : Fin 32) (hl : k.val = l.val) (acc : FVec Ideal S1024x512 .f32) (t : Fin 1024) (h : Fin 512) :
    tripAcc (F := Ideal) x0 x1 x2 k acc (ix2 t h) = acc (ix2 t h) + term x0 x1 x2 l t h := by
  unfold tripAcc term
  rw [pay2_at]
  simp only [rows_at k l hl, row_at k l hl, slab_at k l hl]

theorem acc_at (n : ℕ) (hn : n ≤ 32) (t : Fin 1024) (h : Fin 512) :
    accAt (F := Ideal) x0 x1 x2 n (ix2 t h) = ∑ l : Fin n, term x0 x1 x2 (Fin.castLE hn l) t h := by
  induction n with
  | zero =>
    unfold accAt k0_pay1
    pointwise
    try rfl
  | succ n ih =>
    have hk : n < k0_t1_loop.trips := hn
    refine (congrFun (accAt_succ (F := Ideal) x0 x1 x2 n hk) _).trans ((trip_at x0 x1 x2 ⟨n, hk⟩ ⟨n, hn⟩ rfl _ t h).trans ?_)
    rw [ih (by omega), Fin.sum_univ_castSucc]
    rfl

theorem pay3_at (h : FVec Ideal S1024x512 .f32) (t : Fin 1024) (j : Fin 128) :
    k0_pay3 (F := Ideal) h x3 (ix2 t j) = ∑ a : Fin 512, act (h (ix2 t a)) * x3 (ix2 a j) := by
  unfold k0_pay3 act
  pointwise
  try rfl

/-! ## The block-diagonal weights -/

/-- The first layer's weights, once for the keys and once for the values. -/
def w1Diag (w : FVec Ideal S2048x256 .f32) : FVec Ideal S32x128x512 .bf16 :=
  concatenate S32x128x512 1 [⟨S32x64x512, concatenate S32x64x512 2 [⟨S32x64x256, truncf .bf16 (shapeCast S32x64x256 w shapeCasts_S2048x256_S32x64x256 : FVec Ideal S32x64x256 .f32) bitsLt_bf16_f32⟩, ⟨S32x64x256, broadcastInDim S32x64x256 ![] bcast_S_S32x64x256 (constant S_ .bf16 0x0000#16)⟩] concatenates_S32x64x256_S32x64x256_S32x64x512_d2⟩,
    ⟨S32x64x512, concatenate S32x64x512 2 [⟨S32x64x256, broadcastInDim S32x64x256 ![] bcast_S_S32x64x256 (constant S_ .bf16 0x0000#16)⟩, ⟨S32x64x256, truncf .bf16 (shapeCast S32x64x256 w shapeCasts_S2048x256_S32x64x256 : FVec Ideal S32x64x256 .f32) bitsLt_bf16_f32⟩] concatenates_S32x64x256_S32x64x256_S32x64x512_d2⟩] concatenates_S32x64x512_S32x64x512_S32x128x512_d1

/-- The second layer's. -/
def w2Diag (w : FVec Ideal S256x64 .f32) : FVec Ideal S512x128 .bf16 :=
  concatenate S512x128 0 [⟨S256x128, concatenate S256x128 1 [⟨S256x64, truncf .bf16 w bitsLt_bf16_f32⟩, ⟨S256x64, broadcastInDim S256x64 ![] bcast_S_S256x64 (constant S_ .bf16 0x0000#16)⟩] concatenates_S256x64_S256x64_S256x128_d1⟩,
    ⟨S256x128, concatenate S256x128 1 [⟨S256x64, broadcastInDim S256x64 ![] bcast_S_S256x64 (constant S_ .bf16 0x0000#16)⟩, ⟨S256x64, truncf .bf16 w bitsLt_bf16_f32⟩] concatenates_S256x64_S256x64_S256x128_d1⟩] concatenates_S256x128_S256x128_S512x128_d0

theorem w1_same (w : FVec Ideal S2048x256 .f32) (l : Fin 32) (g : Fin 2) (d : Fin 64) (a : Fin 256) :
    w1Diag w (ix3 l ⟨g.val * 64 + d.val, by omega⟩ ⟨g.val * 256 + a.val, by omega⟩) = w (ix2 ⟨l.val * 64 + d.val, by omega⟩ a) := by
  unfold w1Diag
  have c : ∀ {i j : ℕ} (hi : i < 2048) (hj : j < 256), i = l.val * 64 + d.val → j = a.val → w (ix2 ⟨i, hi⟩ ⟨j, hj⟩) = w (ix2 ⟨l.val * 64 + d.val, by omega⟩ a) := by
    intro i j hi hj e e'; subst e e'; rfl
  pointwise
  split_ifs <;> first | (exfalso; omega) | exact c _ _ (by omega) (by omega)

theorem w1_other (w : FVec Ideal S2048x256 .f32) (l : Fin 32) (g g' : Fin 2) (hg : g ≠ g') (d : Fin 64) (a : Fin 256) :
    w1Diag w (ix3 l ⟨g.val * 64 + d.val, by omega⟩ ⟨g'.val * 256 + a.val, by omega⟩) = 0 := by
  have hg : g.val ≠ g'.val := fun e => hg (Fin.ext e)
  unfold w1Diag
  pointwise
  split_ifs <;> first | (exfalso; omega) | rfl

theorem w2_same (w : FVec Ideal S256x64 .f32) (g : Fin 2) (a : Fin 256) (d : Fin 64) :
    w2Diag w (ix2 ⟨g.val * 256 + a.val, by omega⟩ ⟨g.val * 64 + d.val, by omega⟩) = w (ix2 a d) := by
  unfold w2Diag
  have c : ∀ {i j : ℕ} (hi : i < 256) (hj : j < 64), i = a.val → j = d.val → w (ix2 ⟨i, hi⟩ ⟨j, hj⟩) = w (ix2 a d) := by
    intro i j hi hj e e'; subst e e'; rfl
  pointwise
  split_ifs <;> first | (exfalso; omega) | exact c _ _ (by omega) (by omega)

theorem w2_other (w : FVec Ideal S256x64 .f32) (g g' : Fin 2) (hg : g' ≠ g) (a : Fin 256) (d : Fin 64) :
    w2Diag w (ix2 ⟨g'.val * 256 + a.val, by omega⟩ ⟨g.val * 64 + d.val, by omega⟩) = 0 := by
  have hg : g'.val ≠ g.val := fun e => hg (Fin.ext e)
  unfold w2Diag
  pointwise
  split_ifs <;> first | (exfalso; omega) | rfl

theorem pos_at (q : FVec Ideal S32x64 .f32) (l : Fin 32) (g : Fin 2) (d : Fin 64) :
    concatenate S32x128 1 [⟨S32x64, q⟩, ⟨S32x64, q⟩] concatenates_S32x64_S32x64_S32x128_d1 (ix2 l ⟨g.val * 64 + d.val, by omega⟩) = q (ix2 l d) := by
  have c : ∀ {j : ℕ} (hj : j < 64), j = d.val → q (ix2 l ⟨j, hj⟩) = q (ix2 l d) := by
    intro j hj e; subst e; rfl
  pointwise
  split_ifs <;> first | (exfalso; omega) | exact c _ (by omega)

/-! ## The zero blocks add nothing -/

/-- A sum over both halves of which one vanishes. -/
theorem sum_half {N n : ℕ} (hN : 2 * n = N) (f : Fin N → EReal) (g : Fin 2)
    (h : ∀ g' : Fin 2, g' ≠ g → ∀ a : Fin n, ∀ hlt, f ⟨g'.val * n + a.val, hlt⟩ = 0) :
    ∑ k : Fin N, f k = ∑ a : Fin n, f ⟨g.val * n + a.val, by
      subst hN; have := g.isLt; have := a.isLt
      calc g.val * n + a.val < g.val * n + n := by omega
        _ = (g.val + 1) * n := by ring
        _ ≤ 2 * n := Nat.mul_le_mul_right _ (by omega)⟩ := by
  rw [Fin.sum_univ_tiles 2 n hN]
  exact Finset.sum_eq_single g (fun g' _ hg => Finset.sum_eq_zero fun a _ => h g' hg a _) (fun hg => absurd (Finset.mem_univ g) hg)

variable (pos : FVec Ideal S32x64 .f32) (w1 : FVec Ideal S2048x256 .f32) (w2 : FVec Ideal S256x64 .f32)

theorem hid_at (t : Fin 1024) (g : Fin 2) (a : Fin 256) :
    accAt (F := Ideal) x0 (concatenate S32x128 1 [⟨S32x64, pos⟩, ⟨S32x64, pos⟩] concatenates_S32x64_S32x64_S32x128_d1) (w1Diag w1) 32 (ix2 t ⟨g.val * 256 + a.val, by omega⟩) = pre x0 pos w1 t g a := by
  rw [acc_at _ _ _ 32 le_rfl]
  unfold pre term
  refine Finset.sum_congr rfl fun l _ => ?_
  rw [sum_half (n := 64) rfl _ g (fun g' hg d hlt => by
    rw [show (⟨g'.val * 64 + d.val, hlt⟩ : Fin 128) = ⟨g'.val * 64 + d.val, by omega⟩ from rfl, w1_other w1 _ g' g hg, mul_zero])]
  refine Finset.sum_congr rfl fun d _ => ?_
  rw [pos_at, w1_same]
  rfl

theorem body_at (t : Fin 1024) (g : Fin 2) (d : Fin 64) :
    k0_pay3 (F := Ideal) (accAt (F := Ideal) x0 (concatenate S32x128 1 [⟨S32x64, pos⟩, ⟨S32x64, pos⟩] concatenates_S32x64_S32x64_S32x128_d1) (w1Diag w1) 32) (w2Diag w2) (ix2 t ⟨g.val * 64 + d.val, by omega⟩)
      = cmpOf x0 pos w1 w2 t g d := by
  rw [pay3_at]
  unfold cmpOf
  rw [sum_half (n := 256) rfl _ g (fun g' hg a hlt => by rw [w2_other w2 g g' hg, mul_zero])]
  refine Finset.sum_congr rfl fun a _ => ?_
  rw [hid_at, w2_same]

end Cert.Cmp
end
-- ==== Proof.CmpFinal.lean ====
module

public import proofs.«01_k».proof.Proof.CmpValue
public import Idealize.ShloMosaic.Lib.Pipeline.Covers

@[expose] public section
set_option maxRecDepth 16384
noncomputable section
namespace Cert.Cmp
open Idealize.ShloMosaic Idealize.ShloMosaic.TcCoe Idealize.SL.Sem Idealize.ShloMosaic.StableHlo
open Cert.Kernel3Ideal Cert.Kernel3Ideal.Gen

variable (m : (ℓ : Loc nD τ sig) → Buf (Elt Ideal) ℓ) (c : Dev nD)

/-! ## The buffers the host leaves for the kernel -/

theorem V_v11 : V m c main_v11 = padded (m ((c : Thread nD τ).loc main_arg0)) := by
  simp only [V, hostOps0, hostOps0_1, hostOps0_2, List.flatten_cons, List.flatten_nil, List.append_nil, List.cons_append, List.nil_append]
  after_results_simp <;> (try dsimp only [Matrix.cons_val]) <;> (try after_results_simp) <;> rfl

theorem V_v12 : V m c main_v12 = (concatenate S32x128 1 [⟨S32x64, m ((c : Thread nD τ).loc main_arg1)⟩, ⟨S32x64, m ((c : Thread nD τ).loc main_arg1)⟩] concatenates_S32x64_S32x64_S32x128_d1 : FVec Ideal S32x128 .f32) := by
  simp only [V, hostOps0, hostOps0_1, hostOps0_2, List.flatten_cons, List.flatten_nil, List.append_nil, List.cons_append, List.nil_append]
  after_results_simp <;> (try dsimp only [Matrix.cons_val]) <;> (try after_results_simp) <;> rfl

theorem V_v5 : V m c main_v5 = w1Diag (m ((c : Thread nD τ).loc main_arg2)) := by
  simp only [V, hostOps0, hostOps0_1, hostOps0_2, List.flatten_cons, List.flatten_nil, List.append_nil, List.cons_append, List.nil_append]
  after_results_simp <;> (try dsimp only [Matrix.cons_val]) <;> (try after_results_simp) <;> rfl

theorem V_v10 : V m c main_v10 = w2Diag (m ((c : Thread nD τ).loc main_arg3)) := by
  simp only [V, hostOps0, hostOps0_1, hostOps0_2, List.flatten_cons, List.flatten_nil, List.append_nil, List.cons_append, List.nil_append]
  after_results_simp <;> (try dsimp only [Matrix.cons_val]) <;> (try after_results_simp) <;> rfl

/-! ## The kernel's one point holds every array whole -/

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0, 0] := by decide +kernel
theorem idx3 : ∀ t : Fin grid0.N, win0_3.index t = ![0, 0] := by decide +kernel
theorem idx4 : ∀ t : Fin grid0.N, win0_4.index t = ![0, 0] := by decide +kernel

theorem block0 (t : Fin grid0.N) : iblk m c 0 t = V m c main_v11 := by
  funext (y : S16400x128.Idx)
  have e : ((cfg0.win 0).blk t).view.emb y = y := by
    refine funext fun (a : Fin 2) => Fin.ext ?_
    match a with
    | 0 =>
      show win0_0.index t (0 : Fin 2) * 16400 + 1 * (y (0 : Fin 2)).val = (y (0 : Fin 2)).val
      have h : win0_0.index t (0 : Fin 2) = 0 := congrFun (idx0 t) 0
      omega
    | 1 =>
      show win0_0.index t (1 : Fin 2) * 128 + 1 * (y (1 : Fin 2)).val = (y (1 : Fin 2)).val
      have h : win0_0.index t (1 : Fin 2) = 0 := congrFun (idx0 t) 1
      omega
  exact congrArg (V m c main_v11) e

theorem block1 (t : Fin grid0.N) : iblk m c 1 t = V m c main_v12 := by
  funext (y : S32x128.Idx)
  have e : ((cfg0.win 1).blk t).view.emb y = y := by
    refine funext fun (a : Fin 2) => Fin.ext ?_
    match a with
    | 0 =>
      show win0_1.index t (0 : Fin 2) * 32 + 1 * (y (0 : Fin 2)).val = (y (0 : Fin 2)).val
      have h : win0_1.index t (0 : Fin 2) = 0 := congrFun (idx1 t) 0
      omega
    | 1 =>
      show win0_1.index t (1 : Fin 2) * 128 + 1 * (y (1 : Fin 2)).val = (y (1 : Fin 2)).val
      have h : win0_1.index t (1 : Fin 2) = 0 := congrFun (idx1 t) 1
      omega
  exact congrArg (V m c main_v12) e

theorem block2 (t : Fin grid0.N) : iblk m c 2 t = V m c main_v5 := by
  funext (y : S32x128x512.Idx)
  have e : ((cfg0.win 2).blk t).view.emb y = y := by
    refine funext fun (a : Fin 3) => Fin.ext ?_
    match a with
    | 0 =>
      show win0_2.index t (0 : Fin 3) * 32 + 1 * (y (0 : Fin 3)).val = (y (0 : Fin 3)).val
      have h : win0_2.index t (0 : Fin 3) = 0 := congrFun (idx2 t) 0
      omega
    | 1 =>
      show win0_2.index t (1 : Fin 3) * 128 + 1 * (y (1 : Fin 3)).val = (y (1 : Fin 3)).val
      have h : win0_2.index t (1 : Fin 3) = 0 := congrFun (idx2 t) 1
      omega
    | 2 =>
      show win0_2.index t (2 : Fin 3) * 512 + 1 * (y (2 : Fin 3)).val = (y (2 : Fin 3)).val
      have h : win0_2.index t (2 : Fin 3) = 0 := congrFun (idx2 t) 2
      omega
  exact congrArg (V m c main_v5) e

theorem block3 (t : Fin grid0.N) : iblk m c 3 t = V m c main_v10 := by
  funext (y : S512x128.Idx)
  have e : ((cfg0.win 3).blk t).view.emb y = y := by
    refine funext fun (a : Fin 2) => Fin.ext ?_
    match a with
    | 0 =>
      show win0_3.index t (0 : Fin 2) * 512 + 1 * (y (0 : Fin 2)).val = (y (0 : Fin 2)).val
      have h : win0_3.index t (0 : Fin 2) = 0 := congrFun (idx3 t) 0
      omega
    | 1 =>
      show win0_3.index t (1 : Fin 2) * 128 + 1 * (y (1 : Fin 2)).val = (y (1 : Fin 2)).val
      have h : win0_3.index t (1 : Fin 2) = 0 := congrFun (idx3 t) 1
      omega
  exact congrArg (V m c main_v10) e

/-- The compressed tokens of a memory's arguments. -/
def result : FVec Ideal S1024x128 .f32 :=
  cmpArr (padded (m ((c : Thread nD τ).loc main_arg0))) (m ((c : Thread nD τ).loc main_arg1)) (m ((c : Thread nD τ).loc main_arg2)) (m ((c : Thread nD τ).loc main_arg3))

theorem cmpArr_at (P : FVec Ideal S16400x128 .f32) (pos : FVec Ideal S32x64 .f32) (w1 : FVec Ideal S2048x256 .f32) (w2 : FVec Ideal S256x64 .f32) (t : Fin 1024) (g : Fin 2) (d : Fin 64) :
    cmpArr P pos w1 w2 (ix2 t ⟨g.val * 64 + d.val, by omega⟩) = cmpOf P pos w1 w2 t g d := by
  show cmpOf P pos w1 w2 t ⟨(g.val * 64 + d.val) / 64, _⟩ ⟨(g.val * 64 + d.val) % 64, _⟩ = _
  exact congrArg₂ (cmpOf P pos w1 w2 t) (Fin.ext (by show (g.val * 64 + d.val) / 64 = g.val; omega)) (Fin.ext (by show (g.val * 64 + d.val) % 64 = d.val; omega))

/-- What the point leaves in its result. -/
theorem point_at (t : Fin grid0.N) : outsAt0 m c t = (result m c : S1024x128.Idx → EReal) := by
  unfold outsAt0 result
  refine (out_eq (F := Ideal) _ _ _ _ _ _ _ _ _ _ _ _ _ _ _ _ _ _).trans ?_
  rw [block0, block1, block2, block3, V_v11, V_v12, V_v5, V_v10]
  funext (y : S1024x128.Idx)
  obtain ⟨r, j, rfl⟩ : ∃ (r : Fin 1024) (j : Fin 128), y = ix2 r j := ⟨_, _, eq_ix2 y⟩
  obtain ⟨g, d, rfl⟩ : ∃ (g : Fin 2) (d : Fin 64), j = ⟨g.val * 64 + d.val, by omega⟩ :=
    ⟨⟨j.val / 64, by omega⟩, ⟨j.val % 64, by omega⟩, Fin.ext (by show j.val = j.val / 64 * 64 + j.val % 64; omega)⟩
  rw [cmpArr_at]
  exact body_at _ _ _ _ r g d

theorem final : (dats m 0 c).arrAt 4 cfg0.N = (result m c : S1024x128.Idx → EReal) := by
  refine (dats m 0 c).arrAt_eq_of_covers 4 _ (Pipeline.Window.covers_of_index_surj _ rfl
    (fun (a : Fin 2) => by match a with | 0 => exact (Nat.succ_pos 1023 : 0 < 1024) | 1 => exact (Nat.succ_pos 127 : 0 < 128))
    fun β => ⟨⟨0, (Nat.one_pos : 0 < 1)⟩, fun (a : Fin 2) => (congrFun (idx4 _) a).trans ?_⟩) fun t hf y => ?_
  · have h0 : (β (0 : Fin 2)).val < 1 := (β (0 : Fin 2)).isLt
    have h1 : (β (1 : Fin 2)).val < 1 := (β (1 : Fin 2)).isLt
    match a with
    | 0 => show 0 = (β (0 : Fin 2)).val; omega
    | 1 => show 0 = (β (1 : Fin 2)).val; omega
  rw [after0_4]
  refine (cast_eq _ _).trans ((congrFun (point_at m c t) _).trans (congrArg (result m c) ?_))
  refine funext fun (a : Fin 2) => Fin.ext ?_
  match a with
  | 0 =>
    have h : win0_4.index t (0 : Fin 2) = 0 := congrFun (idx4 t) 0
    show _ = win0_4.index t (0 : Fin 2) * 1024 + 1 * _
    rw [h]; simp
  | 1 =>
    have h : win0_4.index t (1 : Fin 2) = 0 := congrFun (idx4 t) 1
    show _ = win0_4.index t (1 : Fin 2) * 128 + 1 * _
    rw [h]; simp

/-- The run of the kernel: its result is the compressed tokens, and the arguments are as launched. -/
theorem kernel_run (ρ : Dev nD → PrngReg) : θ_run defs (onTc (τ := τ) (main (F := Ideal))) ⟨m, fun _ => 0, ρ⟩ fun r => ∀ c : Dev nD,
    r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.Cmp
end
-- ==== Proof.CmpRef.lean ====
module

public import proofs.«01_k».proof.Proof.Gen.Reference3Ideal.Run
public import proofs.«01_k».proof.Proof.CmpFinal
public import Idealize.ShloMosaic.Lib.Pointwise
public import Idealize.ShloMosaic.Lib.DynamicIndex

@[expose] public section
set_option maxRecDepth 16384
noncomputable section
namespace Cert.Cmp
open Idealize.ShloMosaic Idealize.ShloMosaic.TcCoe Idealize.SL.Sem
open Cert.Reference3Ideal Cert.Reference3Ideal.Gen

/-! ## The reference's arrays, entry by entry -/

/-- Row `16 t + l`, as the reference counts it. -/
def rowWord : IVec S1024x32 32 :=
  addi (broadcastInDim S1024x32 ![0, 1] bcast_S1024x1_S1024x32_0_1 (muli (broadcastInDim S1024x1 ![0] bcast_S1024_S1024x1_0 (iotaInDim S1024 32 0)) (broadcastInDim S1024x1 ![] bcast_S_S1024x1 (constantI S_ 32 16#32)))) (broadcastInDim S1024x32 ![0, 1] bcast_S1x32_S1024x32_0_1 (broadcastInDim S1x32 ![1] bcast_S32_S1x32_1 (iotaInDim S32 32 0)))

theorem rowWord_at (t : Fin 1024) (l : Fin 32) : rowWord (ix2 t l) = BitVec.ofNat 32 (16 * t.val + l.val) := by
  unfold rowWord
  pointwise
  apply BitVec.eq_of_toNat_eq
  show (BitVec.ofNat 32 t.val * 16#32 + BitVec.ofNat 32 l.val).toNat = _
  simp
  omega

/-- The same with a negative row counted from the end: there is none. -/
def rowIdx : IVec S1024x32x1 32 :=
  broadcastInDim S1024x32x1 ![0, 1] bcast_S1024x32_S1024x32x1_0_1 (select (cmpi .slt rowWord (broadcastInDim S1024x32 ![] bcast_S_S1024x32 (constantI S_ 32 0#32))) (addi rowWord (broadcastInDim S1024x32 ![] bcast_S_S1024x32 (constantI S_ 32 16400#32))) rowWord)

theorem rowIdx_at (t : Fin 1024) (l : Fin 32) : (rowIdx (ix3 t l 0)).toInt = 16 * t.val + l.val := by
  have e : (rowWord (ix2 t l)).toInt = 16 * t.val + l.val := by
    rw [rowWord_at, toInt_ofNat_of_lt (by omega)]
    push_cast; rfl
  have s : rowIdx (ix3 t l 0) = select (cmpi .slt rowWord (constantI S1024x32 32 0#32)) (addi rowWord (broadcastInDim S1024x32 ![] bcast_S_S1024x32 (constantI S_ 32 16400#32))) rowWord (ix2 t l) := by
    unfold rowIdx
    pointwise
    try rfl
  rw [s, select_slt_zero_of_nonneg _ _ _ _ (by rw [e]; positivity), e]

abbrev gd : GatherDims S16400x2x64 S1024x32x1 S1024x32x2x64 := gather_S16400x2x64_S1024x32x1_S1024x32x2x64_23_0_n_n_0_2_1264

/-- The gathered rows at an entry. -/
theorem gather_at (X : FVec Ideal S16400x2x64 .f32) (t : Fin 1024) (l : Fin 32) (g : Fin 2) (d : Fin 64) :
    Host.gather gd X rowIdx (ix4 t l g d) = X (ix3 ⟨16 * t.val + l.val, by omega⟩ g d) := by
  unfold Host.gather
  congr 1
  funext (a : Fin 3)
  refine Fin.ext ?_
  show gd.start (ix4 t l g d) rowIdx a + gd.batchCoord (ix4 t l g d) a + gd.offCoord (ix4 t l g d) a = _
  rw [GatherDims.batchCoord_eq_zero _ _ _ (by show a ∉ ([] : List (Fin 3)); exact List.not_mem_nil)]
  match a with
  | 0 =>
    rw [GatherDims.offCoord_eq_zero _ _ _ (by decide)]
    unfold GatherDims.start
    rw [dif_pos (show (0 : Fin 3) ∈ gd.startIndexMap from List.mem_singleton.mpr rfl)]
    have hsi : gd.siIdx (ix4 t l g d) ⟨List.idxOf (0 : Fin 3) gd.startIndexMap, List.idxOf_lt_length_iff.2 (List.mem_singleton.mpr rfl)⟩ = ix3 t l 0 := by
      funext (b : Fin 3); refine Fin.ext ?_
      match b with
      | 0 => rfl
      | 1 => rfl
      | 2 => rfl
    rw [hsi, rowIdx_at]
    show min ((16 * (t.val : ℤ) + l.val).toNat) (16400 - 1) + 0 + 0 = 16 * t.val + l.val
    omega
  | 1 =>
    have hs : gd.start (ix4 t l g d) rowIdx (1 : Fin 3) = 0 := by
      unfold GatherDims.start
      exact dif_neg (by decide)
    rw [hs]
    unfold GatherDims.offCoord
    rw [dif_pos (by decide)]
    show 0 + 0 + g.val = g.val
    omega
  | 2 =>
    have hs : gd.start (ix4 t l g d) rowIdx (2 : Fin 3) = 0 := by
      unfold GatherDims.start
      exact dif_neg (by decide)
    rw [hs]
    unfold GatherDims.offCoord
    rw [dif_pos (by decide)]
    show 0 + 0 + d.val = d.val
    omega

variable (x : FVec Ideal S16384x128 .f32) (pos : FVec Ideal S32x64 .f32) (w1 : FVec Ideal S2048x256 .f32) (w2 : FVec Ideal S256x64 .f32)

/-- The overlapping blocks with the positions added. -/
def refBlocks : FVec Ideal S1024x2x2048 .f32 :=
  shapeCast S1024x2x2048 (transpose S1024x2x32x64 [0, 2, 1, 3] (addf (Host.gather gd (shapeCast S16400x2x64 (padded x) shapeCasts_S16400x128_S16400x2x64 : FVec Ideal S16400x2x64 .f32) rowIdx) (broadcastInDim S1024x32x2x64 ![0, 1, 2, 3] bcast_S1x32x1x64_S1024x32x2x64_0_1_2_3 (broadcastInDim S1x32x1x64 ![1, 3] bcast_S32x64_S1x32x1x64_1_3 pos))) transposes_S1024x32x2x64_S1024x2x32x64_0_2_1_3 : FVec Ideal S1024x2x32x64 .f32) shapeCasts_S1024x2x32x64_S1024x2x2048

theorem refBlocks_at (t : Fin 1024) (g : Fin 2) (l : Fin 32) (d : Fin 64) :
    refBlocks x pos (ix3 t g ⟨l.val * 64 + d.val, by omega⟩) = padded x (ix2 ⟨16 * t.val + l.val, by omega⟩ ⟨g.val * 64 + d.val, by omega⟩) + pos (ix2 l d) := by
  unfold refBlocks
  pointwise
  rw [gather_at]
  have c : ∀ {i j : ℕ} (hi : i < 16400) (hj : j < 128), i = 16 * t.val + l.val → j = g.val * 64 + d.val → padded x (ix2 ⟨i, hi⟩ ⟨j, hj⟩) = padded x (ix2 ⟨16 * t.val + l.val, by omega⟩ ⟨g.val * 64 + d.val, by omega⟩) := by
    intro i j hi hj e e'; subst e e'; rfl
  refine congrArg (· + pos (ix2 l d)) ?_
  pointwise
  try exact c _ _ (by omega) (by omega)

/-- The hidden layer before its activation. -/
def refPre : FVec Ideal S1024x2x256 .f32 :=
  Host.dotGeneral dot_S1024x2x2048_S2048x256_S1024x2x256_2_0_01_1_n_n none (refBlocks x pos) w1

theorem refPre_at (t : Fin 1024) (g : Fin 2) (a : Fin 256) : refPre x pos w1 (ix3 t g a) = pre (padded x) pos w1 t g a := by
  unfold refPre pre
  pointwise
  rw [Fin.sum_univ_tiles 32 64 rfl]
  refine Finset.sum_congr rfl fun l _ => Finset.sum_congr rfl fun d _ => ?_
  rw [refBlocks_at]

/-- The hidden layer. -/
def refAct (H : FVec Ideal S1024x2x256 .f32) : FVec Ideal S1024x2x256 .f32 :=
  mulf H (mulf (broadcastInDim S1024x2x256 ![] bcast_S_S1024x2x256 (constant S_ .f32 0x3F000000#32)) (addf (broadcastInDim S1024x2x256 ![] bcast_S_S1024x2x256 (constant S_ .f32 0x3F800000#32)) (Host.tanh (mulf (broadcastInDim S1024x2x256 ![] bcast_S_S1024x2x256 (constant S_ .f32 0x3F4C422A#32)) (addf H (mulf (broadcastInDim S1024x2x256 ![] bcast_S_S1024x2x256 (constant S_ .f32 0x3D372713#32)) (mulf (mulf H H) H)))))))

theorem refAct_at (H : FVec Ideal S1024x2x256 .f32) (t : Fin 1024) (g : Fin 2) (a : Fin 256) : refAct H (ix3 t g a) = act (H (ix3 t g a)) := by
  unfold refAct act
  pointwise
  rw [mul_comm (H (ix3 t g a)) (H (ix3 t g a) * H (ix3 t g a))]

/-- The reference's result. -/
def refOut : FVec Ideal S1024x128 .f32 :=
  shapeCast S1024x128 (Host.dotGeneral dot_S1024x2x256_S256x64_S1024x2x64_2_0_01_1_n_n none (refAct (refPre x pos w1)) w2 : FVec Ideal S1024x2x64 .f32) shapeCasts_S1024x2x64_S1024x128

theorem refOut_eq : refOut x pos w1 w2 = cmpArr (padded x) pos w1 w2 := by
  funext (y : S1024x128.Idx)
  obtain ⟨t, j, rfl⟩ : ∃ (r : Fin 1024) (j : Fin 128), y = ix2 r j := ⟨_, _, eq_ix2 y⟩
  obtain ⟨g, d, rfl⟩ : ∃ (g : Fin 2) (d : Fin 64), j = ⟨g.val * 64 + d.val, by omega⟩ :=
    ⟨⟨j.val / 64, by omega⟩, ⟨j.val % 64, by omega⟩, Fin.ext (by show j.val = j.val / 64 * 64 + j.val % 64; omega)⟩
  rw [cmpArr_at]
  unfold refOut cmpOf
  have hg : ∀ (g' : Fin 2), g' = g → ∀ d' : Fin 64, d' = d → (∑ a : Fin 256, refAct (refPre x pos w1) (ix3 t g' a) * w2 (ix2 a d')) = ∑ a : Fin 256, act (pre (padded x) pos w1 t g a) * w2 (ix2 a d) := by
    rintro g' rfl d' rfl
    exact Finset.sum_congr rfl fun a _ => by rw [refAct_at, refPre_at]
  pointwise
  exact hg _ (Fin.ext (by simp)) _ (Fin.ext (by simp))

end Cert.Cmp
end
-- ==== Proof.CmpClaim.lean ====
module

public import proofs.«01_k».proof.Proof.Gen.Kernel3.Frame
public import proofs.«01_k».proof.Proof.CmpRef
public import proofs.«01_k».proof.Defs
public import Idealize.ShloMosaic.Adequacy
public import Idealize.ShloMosaic.Init

@[expose] public section
set_option maxRecDepth 16384
noncomputable section
namespace Cert.Cmp
open Idealize.ShloMosaic Idealize.ShloMosaic.TcCoe Idealize.SL.Sem

/-! ## The claims about the compression's call -/

/-- The kernel runs, leaves its arguments as they were and every counter at zero. -/
theorem frame_kernel : Cert.quiescent_Kernel3 := fun m ρ _ => Cert.Kernel3.Gen.frame m ρ

/-- So does the kernel read over the extended reals. -/
theorem frame_ideal : Cert.quiescent_Kernel3Ideal := fun m ρ _ => Cert.Kernel3Ideal.Gen.frame m ρ

/-- So does the reference: it has no counters. -/
theorem frame_ref : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- Over the extended reals the kernel's compressed tokens are the reference's, on every device and for any arguments. -/
theorem value : Cert.algebraic_Kernel3Ideal_Reference3Ideal := by
  intro m ρ m' ρ' _ hagree
  refine ⟨fun c => result m c, kernel_run m ρ, ?_⟩
  refine (θ_run _ _ _).mono (fun _ h c => ?_) (Cert.Reference3Ideal.Value.run (F := Ideal) m' ρ')
  obtain ⟨a0, a1, a2, a3⟩ := hagree c
  refine ⟨?_, (h c).2⟩
  exact (h c).1.trans ((refOut_eq (m' (c.tc.loc Cert.Reference3Ideal.main_arg0)) (m' (c.tc.loc Cert.Reference3Ideal.main_arg1)) (m' (c.tc.loc Cert.Reference3Ideal.main_arg2)) (m' (c.tc.loc Cert.Reference3Ideal.main_arg3))).trans (by rw [a0, a1, a2, a3]; rfl))

end Cert.Cmp
end
-- ==== Proof.MergeBody.lean ====
module

public import proofs.«01_k».proof.Proof.Gen.Kernel4Ideal.Value
public import Idealize.ShloMosaic.Lib.Pipeline.ValueKit
public import Idealize.ShloMosaic.Lib.Pipeline.ReadBack
public import Idealize.ShloMosaic.Lib.Tactic
public import Idealize.ShloMosaic.Lib.Pointwise

@[expose] public section
set_option maxRecDepth 16384
noncomputable section
namespace Cert.Merge
open Idealize.ShloMosaic Idealize.ShloMosaic.TcCoe Idealize.SL.Sem
open Cert.Kernel4Ideal Cert.Kernel4Ideal.Gen
/-! ## What a tile stores -/

section Body
variable {F : FTy → Type} [FloatOps F]

variable (c : Dev nD) (i : grid0.Coords)
  (a1 : Memref sig .tc .vmem S512x1024 .f32) (h1 : a1.IsWhole) (a2 : Memref sig .tc .vmem S512x512 .bf16) (h2 : a2.IsWhole)
  (a3 : Memref sig .tc .vmem S512x1024 .bf16) (h3 : a3.IsWhole) (a4 : Memref sig .tc .vmem S512x1024 .f32) (h4 : a4.IsWhole)
  (a5 : Memref sig .tc .vmem S512x1024 .f32) (h5 : a5.IsWhole) (a6 : Memref sig .tc .vmem S512x1024 .bf16) (h6 : a6.IsWhole)
  (a7 : Memref sig .tc .vmem S1024x1024 .bf16) (h7 : a7.IsWhole) (a8 : Memref sig .tc .vmem S1024x1024 .bf16) (h8 : a8.IsWhole)
  (a9 : Memref sig .tc .vmem S1x1024 .f32) (h9 : a9.IsWhole) (a10 : Memref sig .tc .vmem S1024x128 .bf16) (h10 : a10.IsWhole)
  (a11 : Memref sig .tc .vmem S1x128 .f32) (h11 : a11.IsWhole) (a12 : Memref sig .tc .vmem S256x256 .bf16) (h12 : a12.IsWhole)
  (a13 : Memref sig .tc .vmem S512x1024 .f32) (h13 : a13.IsWhole) (a14 : Memref sig .tc .vmem S512x1024 .bf16) (h14 : a14.IsWhole)
  (a15 : Memref sig .tc .vmem S512x128 .f32) (h15 : a15.IsWhole) (a16 : Memref sig .tc .vmem S8x128 .f32) (h16 : a16.IsWhole)
  (a17 : Memref sig .tc .vmem S1x128 .f32) (h17 : a17.IsWhole)
  (x0 : Vec F S512x1024 .f32) (x1 : Vec F S512x512 .bf16) (x2 : Vec F S512x1024 .bf16) (x3 : Vec F S512x1024 .f32) (x4 : Vec F S512x1024 .f32)
  (x5 : Vec F S512x1024 .bf16) (x6 : Vec F S1024x1024 .bf16) (x7 : Vec F S1024x1024 .bf16) (x8 : Vec F S1x1024 .f32) (x9 : Vec F S1024x128 .bf16)
  (x10 : Vec F S1x128 .f32) (x11 : Vec F S256x256 .bf16) (xs0 : Vec F S1x128 .f32)

/-- The lower 256 rows of a tile, and the upper. -/
abbrev lowRows : Rect S512x1024 := Rect.unit (s := S512x1024) ![0, 0] ![256, 1024] inb_S512x1024_S256x1024_0_0
abbrev highRows : Rect S512x1024 := Rect.unit (s := S512x1024) ![256, 0] ![256, 1024] inb_S512x1024_S256x1024_256_0
abbrev lowRows' : Rect S512x512 := Rect.unit (s := S512x512) ![0, 0] ![256, 512] inb_S512x512_S256x512_0_0
abbrev highRows' : Rect S512x512 := Rect.unit (s := S512x512) ![256, 0] ![256, 512] inb_S512x512_S256x512_256_0

/-- What the body stores as the residual stream: two halves of 256 rows. -/
def outX : Vec F S512x1024 .f32 := View.canon
  [⟨highRows, k0_pay26 (View.ld x3 highRows) (View.ld x1 highRows') x5 (View.ld x4 highRows) (View.ld x2 highRows) x6 (View.ld x0 highRows) x7⟩,
   ⟨lowRows, k0_pay4 (View.ld x3 lowRows) (View.ld x1 lowRows') x5 (View.ld x4 lowRows) (View.ld x2 lowRows) x6 (View.ld x0 lowRows) x7⟩]

/-- What it stores as the normalized activations. -/
def outH : Vec F S512x1024 .bf16 := View.canon
  [⟨highRows, k0_pay28 (k0_pay27 (View.ld x3 highRows) (View.ld x1 highRows') x5 (View.ld x4 highRows) (View.ld x2 highRows) x6 (View.ld x0 highRows) x7) x8⟩,
   ⟨lowRows, k0_pay6 (k0_pay4 (View.ld x3 lowRows) (View.ld x1 lowRows') x5 (View.ld x4 lowRows) (View.ld x2 lowRows) x6 (View.ld x0 lowRows) x7)
      (k0_pay5 (View.ld x3 lowRows) (View.ld x1 lowRows') x5 (View.ld x4 lowRows) (View.ld x2 lowRows) x6 (View.ld x0 lowRows) x7) (Scalar.ofBits .f32 0x358637BD#32) x8⟩]

/-- The first point's stores are these, -/
theorem outX_A (hc0 : cond0_0 i) : out0_A_12 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 x10 x11 = outX x0 x1 x2 x3 x4 x5 x6 x7 := by
  frame_open
  frame_out

theorem outH_A (hc0 : cond0_0 i) : out0_A_13 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 x10 x11 = outH x0 x1 x2 x3 x4 x5 x6 x7 x8 := by
  frame_open
  frame_out

/-- and so are every later point's, whatever the counts carried. -/
theorem outX_B (hc0 : ¬cond0_0 i) : out0_B_12 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 x10 x11 xs0 = outX x0 x1 x2 x3 x4 x5 x6 x7 := by
  frame_open
  frame_out

theorem outH_B (hc0 : ¬cond0_0 i) : out0_B_13 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 x10 x11 xs0 = outH x0 x1 x2 x3 x4 x5 x6 x7 x8 := by
  frame_open
  frame_out

end Body

section Entries
variable (x0 : Vec Ideal S512x1024 .f32) (x1 : Vec Ideal S512x512 .bf16) (x2 : Vec Ideal S512x1024 .bf16) (x3 : Vec Ideal S512x1024 .f32) (x4 : Vec Ideal S512x1024 .f32)
  (x5 : Vec Ideal S512x1024 .bf16) (x6 : Vec Ideal S1024x1024 .bf16) (x7 : Vec Ideal S1024x1024 .bf16) (x8 : Vec Ideal S1x1024 .f32)

/-- Row `r` of the two mixers' gated sum, at feature `k`. -/
def mergedAt (r : Fin 512) (k : Fin 1024) : EReal :=
  x3 (ix2 r k) * ∑ p : Fin 512, x1 (ix2 r p) * x5 (ix2 p k) + x4 (ix2 r k) * ∑ p : Fin 1024, x2 (ix2 r p) * x6 (ix2 p k)

/-- The residual stream after the mixers. -/
def xAt (r : Fin 512) (j : Fin 1024) : EReal := x0 (ix2 r j) + ∑ k : Fin 1024, mergedAt x1 x2 x3 x4 x5 x6 r k * x7 (ix2 k j)

/-- It, normalized. -/
def hAt (r : Fin 512) (j : Fin 1024) : EReal :=
  xAt x0 x1 x2 x3 x4 x5 x6 x7 r j * Ideal.rsqrt (Ideal.div (∑ q : Fin 1024, xAt x0 x1 x2 x3 x4 x5 x6 x7 r q * xAt x0 x1 x2 x3 x4 x5 x6 x7 r q) (Ideal.ofBits .f32 0x44800000#32) + Ideal.ofBits .f32 0x358637BD#32) * x8 (ix2 0 j)

/-- The lower half's residual stream. -/
theorem low_at (s : Fin 256) (j : Fin 1024) :
    k0_pay4 (F := Ideal) (View.ld x3 lowRows) (View.ld x1 lowRows') x5 (View.ld x4 lowRows) (View.ld x2 lowRows) x6 (View.ld x0 lowRows) x7 (ix2 s j : S256x1024.Idx)
      = xAt x0 x1 x2 x3 x4 x5 x6 x7 ⟨s.val, by omega⟩ j := by
  pointwise [k0_pay4, xAt, mergedAt]

/-- The upper half's. -/
theorem high_at (s : Fin 256) (j : Fin 1024) :
    k0_pay26 (F := Ideal) (View.ld x3 highRows) (View.ld x1 highRows') x5 (View.ld x4 highRows) (View.ld x2 highRows) x6 (View.ld x0 highRows) x7 (ix2 s j : S256x1024.Idx)
      = xAt x0 x1 x2 x3 x4 x5 x6 x7 ⟨256 + s.val, by omega⟩ j := by
  pointwise [k0_pay26, xAt, mergedAt]

/-- The lower half's normalized activations. -/
theorem lowH_at (s : Fin 256) (j : Fin 1024) :
    k0_pay6 (F := Ideal) (k0_pay4 (View.ld x3 lowRows) (View.ld x1 lowRows') x5 (View.ld x4 lowRows) (View.ld x2 lowRows) x6 (View.ld x0 lowRows) x7)
      (k0_pay5 (View.ld x3 lowRows) (View.ld x1 lowRows') x5 (View.ld x4 lowRows) (View.ld x2 lowRows) x6 (View.ld x0 lowRows) x7) (Scalar.ofBits .f32 0x358637BD#32) x8 (ix2 s j : S256x1024.Idx)
      = hAt x0 x1 x2 x3 x4 x5 x6 x7 x8 ⟨s.val, by omega⟩ j := by
  pointwise [k0_pay6, k0_pay5, hAt, low_at]

/-- The upper half's. -/
theorem highH_at (s : Fin 256) (j : Fin 1024) :
    k0_pay28 (F := Ideal) (k0_pay27 (View.ld x3 highRows) (View.ld x1 highRows') x5 (View.ld x4 highRows) (View.ld x2 highRows) x6 (View.ld x0 highRows) x7) x8 (ix2 s j : S256x1024.Idx)
      = hAt x0 x1 x2 x3 x4 x5 x6 x7 x8 ⟨256 + s.val, by omega⟩ j := by
  pointwise [k0_pay28, k0_pay27, hAt, high_at]

/-- The lower rows are outside the upper half. -/
theorem not_mem_high (r : Fin 512) (j : Fin 1024) (h : r.val < 256) : (ix2 r j : S512x1024.Idx) ∉ highRows.set := by
  rw [Rect.mem_set_unit]
  intro hm
  have h1 : (256 : Nat) ≤ r.val := (hm 0).1
  omega

/-- Two stores, one for each half of the rows, read at an index: if both agree with `f`, so does what they leave. -/
theorem halves_at {e : EltTy} (hi lo : Vec Ideal S256x1024 e) (f : Fin 512 → Fin 1024 → Elt Ideal e)
    (hlo : ∀ (s : Fin 256) j, lo (ix2 s j : S256x1024.Idx) = f ⟨s.val, by omega⟩ j)
    (hhi : ∀ (s : Fin 256) j, hi (ix2 s j : S256x1024.Idx) = f ⟨256 + s.val, by omega⟩ j) (r : Fin 512) (j : Fin 1024) :
    View.canon (Val := Elt Ideal) (e := e) [⟨highRows, hi⟩, ⟨lowRows, lo⟩] (ix2 r j : S512x1024.Idx) = f r j := by
  by_cases h : r.val < 256
  · rw [View.canon_cons_of_not_mem]
    swap
    · exact not_mem_high r j h
    have hx : (ix2 r j : S512x1024.Idx) = lowRows.emb (ix2 (⟨r.val, h⟩ : Fin 256) j) := by blk_ext
    rw [hx, View.canon_cons_emb]
    exact hlo ⟨r.val, h⟩ j
  · obtain ⟨s, rfl⟩ : ∃ s : Fin 256, r = ⟨256 + s.val, Nat.add_lt_add_left s.isLt 256⟩ := ⟨⟨r.val - 256, by omega⟩, Fin.ext (by simp; omega)⟩
    have hx : (ix2 (⟨256 + s.val, by omega⟩ : Fin 512) j : S512x1024.Idx) = highRows.emb (ix2 s j) := by blk_ext
    rw [hx, View.canon_cons_emb]
    exact hhi s j

/-- A tile's residual stream, entry by entry. -/
theorem outX_at (r : Fin 512) (j : Fin 1024) : outX (F := Ideal) x0 x1 x2 x3 x4 x5 x6 x7 (ix2 r j : S512x1024.Idx) = xAt x0 x1 x2 x3 x4 x5 x6 x7 r j :=
  halves_at (e := .f32) _ _ (xAt x0 x1 x2 x3 x4 x5 x6 x7) (low_at x0 x1 x2 x3 x4 x5 x6 x7) (high_at x0 x1 x2 x3 x4 x5 x6 x7) r j

/-- A tile's normalized activations, entry by entry. -/
theorem outH_at (r : Fin 512) (j : Fin 1024) : outH (F := Ideal) x0 x1 x2 x3 x4 x5 x6 x7 x8 (ix2 r j : S512x1024.Idx) = hAt x0 x1 x2 x3 x4 x5 x6 x7 x8 r j :=
  halves_at (e := .bf16) _ _ (hAt x0 x1 x2 x3 x4 x5 x6 x7 x8) (lowH_at x0 x1 x2 x3 x4 x5 x6 x7 x8) (highH_at x0 x1 x2 x3 x4 x5 x6 x7 x8) r j

end Entries
end Cert.Merge
end
-- ==== Proof.MergeFinal.lean ====
module

public import proofs.«01_k».proof.Proof.MergeBody
public import Idealize.ShloMosaic.Lib.Pipeline.Covers

@[expose] public section
set_option maxRecDepth 16384
noncomputable section
namespace Cert.Merge
open Idealize.ShloMosaic Idealize.ShloMosaic.TcCoe Idealize.SL.Sem Idealize.ShloMosaic.StableHlo
open Cert.Kernel4Ideal Cert.Kernel4Ideal.Gen

/-! ## The call's results, token by token -/

section Closed
variable (x : FVec Ideal S16384x1024 .f32) (ya : FVec Ideal S16384x512 .bf16) (yr : FVec Ideal S16384x1024 .bf16) (ga gr : FVec Ideal S16384x1024 .f32)
  (wa : FVec Ideal S512x1024 .f32) (wr wo : FVec Ideal S1024x1024 .f32) (nw : FVec Ideal S1024 .f32)

/-- The gated sum of the two mixers, up-projected. -/
def mergedTok (R : Fin 16384) (k : Fin 1024) : EReal :=
  ga (ix2 R k) * ∑ p : Fin 512, ya (ix2 R p) * wa (ix2 p k) + gr (ix2 R k) * ∑ p : Fin 1024, yr (ix2 R p) * wr (ix2 p k)

/-- The residual stream behind the mixers. -/
def xTok (R : Fin 16384) (j : Fin 1024) : EReal := x (ix2 R j) + ∑ k : Fin 1024, mergedTok ya yr ga gr wa wr R k * wo (ix2 k j)

/-- The residual stream, normalized for the feed-forward layer. -/
def hTok (R : Fin 16384) (j : Fin 1024) : EReal :=
  xTok x ya yr ga gr wa wr wo R j * Ideal.rsqrt (Ideal.div (∑ q : Fin 1024, xTok x ya yr ga gr wa wr wo R q * xTok x ya yr ga gr wa wr wo R q) (Ideal.ofBits .f32 0x44800000#32) + Ideal.ofBits .f32 0x358637BD#32) * nw (ix1 j)

/-- An array with a row for each token. -/
def rowsOf (f : Fin 16384 → Fin 1024 → EReal) : S16384x1024.Idx → EReal := fun i => f (i (0 : Fin 2)) (i (1 : Fin 2))

theorem rowsOf_at (f : Fin 16384 → Fin 1024 → EReal) (R : Fin 16384) (j : Fin 1024) : rowsOf f (ix2 R j) = f R j := rfl
end Closed

variable (m : (ℓ : Loc nD τ sig) → Buf (Elt Ideal) ℓ) (c : Dev nD)

/-! ## The buffers the host leaves for the kernel -/

theorem V_wa : V m c main_v6 = m ((c : Thread nD τ).loc main_arg5) := by
  simp only [V, hostOps0, List.flatten_cons, List.flatten_nil, List.append_nil, List.cons_append, List.nil_append]
  after_results_simp <;> rfl

theorem V_wr : V m c main_v7 = m ((c : Thread nD τ).loc main_arg6) := by
  simp only [V, hostOps0, List.flatten_cons, List.flatten_nil, List.append_nil, List.cons_append, List.nil_append]
  after_results_simp <;> rfl

theorem V_wo : V m c main_v8 = m ((c : Thread nD τ).loc main_arg7) := by
  simp only [V, hostOps0, List.flatten_cons, List.flatten_nil, List.append_nil, List.cons_append, List.nil_append]
  after_results_simp <;> rfl

theorem V_nw : V m c main_v9 = shapeCast S1x1024 (m ((c : Thread nD τ).loc main_arg8) : FVec Ideal S1024 .f32) shapeCasts_S1024_S1x1024 := by
  simp only [V, hostOps0, List.flatten_cons, List.flatten_nil, List.append_nil, List.cons_append, List.nil_append]
  after_results_simp <;> rfl

/-! ## The blocks a point reads

Point `t` reads the rows `512 t … 512 t + 511` of the activations and the gates, and the weights whole. -/

/-- Token `r` of point `t`. -/
def tok (t : Fin grid0.N) (r : Fin 512) : Fin 16384 :=
  ⟨t.val * 512 + r.val, by have h : t.val < 32 := lt_of_lt_of_eq t.isLt (show grid0.N = 32 from rfl); omega⟩

theorem idx_in : ∀ t : Fin grid0.N, win0_0.index t = ![t.val, 0] ∧ win0_1.index t = ![t.val, 0] ∧ win0_2.index t = ![t.val, 0]
    ∧ win0_3.index t = ![t.val, 0] ∧ win0_4.index t = ![t.val, 0] := by decide +kernel
theorem idx_whole : ∀ t : Fin grid0.N, win0_5.index t = ![0, 0] ∧ win0_6.index t = ![0, 0] ∧ win0_7.index t = ![0, 0] ∧ win0_8.index t = ![0, 0] := by
  decide +kernel
theorem idx12 : ∀ t : Fin grid0.N, win0_12.index t = ![t.val, 0] := by decide +kernel
theorem idx13 : ∀ t : Fin grid0.N, win0_13.index t = ![t.val, 0] := by decide +kernel

/-- Where an entry of a block by rows lies in the array. -/
theorem row_idx {n : ℕ} {t : Fin grid0.N} {p : Fin 2 → ℕ} (hp : p = ![t.val, 0]) (r : Fin 512) (j : Fin n) (y : (⟨2, ![16384, n]⟩ : Shape).Idx)
    (h0 : (y 0).val = p 0 * 512 + 1 * r.val) (h1 : (y 1).val = p 1 * n + 1 * j.val) : y = ix2 (tok t r) j := by
  subst hp
  obtain ⟨R, J, rfl⟩ : ∃ R J, y = ix2 R J := ⟨_, _, eq_ix2 y⟩
  have e0 : R = tok t r := Fin.ext (by show R.val = t.val * 512 + r.val; simpa using h0)
  have e1 : J = j := Fin.ext (by simpa using h1)
  rw [e0, e1]

/-- An entry of a block that is the whole array lies where it did. -/
theorem whole_idx {a n : ℕ} {p : Fin 2 → ℕ} (hp : p = ![0, 0]) (y z : (⟨2, ![a, n]⟩ : Shape).Idx)
    (h0 : (y 0).val = p 0 * a + 1 * (z 0).val) (h1 : (y 1).val = p 1 * n + 1 * (z 1).val) : y = z := by
  subst hp
  refine funext fun (i : Fin 2) => Fin.ext ?_
  match i with
  | 0 => simpa using h0
  | 1 => simpa using h1

def x0 (t : Fin grid0.N) : FVec Ideal S512x1024 .f32 := iblk m c 0 t
def x1 (t : Fin grid0.N) : FVec Ideal S512x512 .bf16 := iblk m c 1 t
def x2 (t : Fin grid0.N) : FVec Ideal S512x1024 .bf16 := iblk m c 2 t
def x3 (t : Fin grid0.N) : FVec Ideal S512x1024 .f32 := iblk m c 3 t
def x4 (t : Fin grid0.N) : FVec Ideal S512x1024 .f32 := iblk m c 4 t
def x5 (t : Fin grid0.N) : FVec Ideal S512x1024 .bf16 := iblk m c 5 t
def x6 (t : Fin grid0.N) : FVec Ideal S1024x1024 .bf16 := iblk m c 6 t
def x7 (t : Fin grid0.N) : FVec Ideal S1024x1024 .bf16 := iblk m c 7 t
def x8 (t : Fin grid0.N) : FVec Ideal S1x1024 .f32 := iblk m c 8 t

/-- The arguments, as arrays. -/
def A0 : FVec Ideal S16384x1024 .f32 := m ((c : Thread nD τ).loc main_arg0)
def A1 : FVec Ideal S16384x512 .bf16 := m ((c : Thread nD τ).loc main_arg1)
def A2 : FVec Ideal S16384x1024 .bf16 := m ((c : Thread nD τ).loc main_arg2)
def A3 : FVec Ideal S16384x1024 .f32 := m ((c : Thread nD τ).loc main_arg3)
def A4 : FVec Ideal S16384x1024 .f32 := m ((c : Thread nD τ).loc main_arg4)
def A5 : FVec Ideal S512x1024 .f32 := m ((c : Thread nD τ).loc main_arg5)
def A6 : FVec Ideal S1024x1024 .f32 := m ((c : Thread nD τ).loc main_arg6)
def A7 : FVec Ideal S1024x1024 .f32 := m ((c : Thread nD τ).loc main_arg7)
def A8 : FVec Ideal S1024 .f32 := m ((c : Thread nD τ).loc main_arg8)

theorem x0_at (t : Fin grid0.N) (r : Fin 512) (k : Fin 1024) : x0 m c t (ix2 r k) = A0 m c (ix2 (tok t r) k) := by
  show V m c main_arg0 (((cfg0.win 0).blk t).view.emb (ix2 r k : S512x1024.Idx)) = _
  rw [V_main_arg0 m c]
  exact congrArg (A0 m c) (row_idx (idx_in t).1 r k _ rfl rfl)
theorem x1_at (t : Fin grid0.N) (r : Fin 512) (k : Fin 512) : x1 m c t (ix2 r k) = A1 m c (ix2 (tok t r) k) := by
  show V m c main_arg1 (((cfg0.win 1).blk t).view.emb (ix2 r k : S512x512.Idx)) = _
  rw [V_main_arg1 m c]
  exact congrArg (A1 m c) (row_idx (idx_in t).2.1 r k _ rfl rfl)
theorem x2_at (t : Fin grid0.N) (r : Fin 512) (k : Fin 1024) : x2 m c t (ix2 r k) = A2 m c (ix2 (tok t r) k) := by
  show V m c main_arg2 (((cfg0.win 2).blk t).view.emb (ix2 r k : S512x1024.Idx)) = _
  rw [V_main_arg2 m c]
  exact congrArg (A2 m c) (row_idx (idx_in t).2.2.1 r k _ rfl rfl)
theorem x3_at (t : Fin grid0.N) (r : Fin 512) (k : Fin 1024) : x3 m c t (ix2 r k) = A3 m c (ix2 (tok t r) k) := by
  show V m c main_arg3 (((cfg0.win 3).blk t).view.emb (ix2 r k : S512x1024.Idx)) = _
  rw [V_main_arg3 m c]
  exact congrArg (A3 m c) (row_idx (idx_in t).2.2.2.1 r k _ rfl rfl)
theorem x4_at (t : Fin grid0.N) (r : Fin 512) (k : Fin 1024) : x4 m c t (ix2 r k) = A4 m c (ix2 (tok t r) k) := by
  show V m c main_arg4 (((cfg0.win 4).blk t).view.emb (ix2 r k : S512x1024.Idx)) = _
  rw [V_main_arg4 m c]
  exact congrArg (A4 m c) (row_idx (idx_in t).2.2.2.2 r k _ rfl rfl)

theorem x5_at (t : Fin grid0.N) (z : S512x1024.Idx) : x5 m c t z = A5 m c z := by
  show V m c main_v6 (((cfg0.win 5).blk t).view.emb z) = _
  rw [V_wa m c]
  exact congrArg (A5 m c) (whole_idx (idx_whole t).1 _ z rfl rfl)
theorem x6_at (t : Fin grid0.N) (z : S1024x1024.Idx) : x6 m c t z = A6 m c z := by
  show V m c main_v7 (((cfg0.win 6).blk t).view.emb z) = _
  rw [V_wr m c]
  exact congrArg (A6 m c) (whole_idx (idx_whole t).2.1 _ z rfl rfl)
theorem x7_at (t : Fin grid0.N) (z : S1024x1024.Idx) : x7 m c t z = A7 m c z := by
  show V m c main_v8 (((cfg0.win 7).blk t).view.emb z) = _
  rw [V_wo m c]
  exact congrArg (A7 m c) (whole_idx (idx_whole t).2.2.1 _ z rfl rfl)
theorem x8_at (t : Fin grid0.N) (j : Fin 1024) : x8 m c t (ix2 0 j) = A8 m c (ix1 j) := by
  have h : x8 m c t (ix2 0 j) = shapeCast S1x1024 (A8 m c) shapeCasts_S1024_S1x1024 (ix2 0 j : S1x1024.Idx) := by
    show V m c main_v9 (((cfg0.win 8).blk t).view.emb (ix2 0 j : S1x1024.Idx)) = _
    rw [V_nw m c]
    exact congrArg (shapeCast S1x1024 (A8 m c) shapeCasts_S1024_S1x1024) (whole_idx (idx_whole t).2.2.2 _ (ix2 0 j : S1x1024.Idx) rfl rfl)
  rw [h]
  pointwise

/-! ## What a point writes -/

/-- The results of a memory's arguments, token by token. -/
def xRes : Fin 16384 → Fin 1024 → EReal := xTok (A0 m c) (A1 m c) (A2 m c) (A3 m c) (A4 m c) (A5 m c) (A6 m c) (A7 m c)
def hRes : Fin 16384 → Fin 1024 → EReal := hTok (A0 m c) (A1 m c) (A2 m c) (A3 m c) (A4 m c) (A5 m c) (A6 m c) (A7 m c) (A8 m c)

theorem xAt_tok (t : Fin grid0.N) (r : Fin 512) (j : Fin 1024) :
    xAt (x0 m c t) (x1 m c t) (x2 m c t) (x3 m c t) (x4 m c t) (x5 m c t) (x6 m c t) (x7 m c t) r j = xRes m c (tok t r) j := by
  unfold xRes xTok mergedTok xAt mergedAt
  simp only [x0_at, x1_at, x2_at, x3_at, x4_at, x5_at, x6_at, x7_at]

theorem hAt_tok (t : Fin grid0.N) (r : Fin 512) (j : Fin 1024) :
    hAt (x0 m c t) (x1 m c t) (x2 m c t) (x3 m c t) (x4 m c t) (x5 m c t) (x6 m c t) (x7 m c t) (x8 m c t) r j = hRes m c (tok t r) j := by
  unfold hAt
  simp only [xAt_tok, x8_at]
  rfl

/-- Every point stores the two halves' residual stream, -/
theorem point_x (t : Fin cfg0.N) : (outsAt0 m c t.val t.isLt).1 = outX (x0 m c t) (x1 m c t) (x2 m c t) (x3 m c t) (x4 m c t) (x5 m c t) (x6 m c t) (x7 m c t) := by
  by_cases h0 : t.val % 32 = 0
  · rw [outsAt0_A m c t h0]
    dsimp only
    rw [outX_A]
    rfl
  · rw [outsAt0_B m c t h0]
    dsimp only
    rw [outX_B]
    rfl

/-- and the normalized activations. -/
theorem point_h (t : Fin cfg0.N) : (outsAt0 m c t.val t.isLt).2.1 = outH (x0 m c t) (x1 m c t) (x2 m c t) (x3 m c t) (x4 m c t) (x5 m c t) (x6 m c t) (x7 m c t) (x8 m c t) := by
  by_cases h0 : t.val % 32 = 0
  · rw [outsAt0_A m c t h0]
    dsimp only
    rw [outH_A]
    rfl
  · rw [outsAt0_B m c t h0]
    dsimp only
    rw [outH_B]
    rfl

/-! ## The arrays after the run -/

/-- The point whose block holds a block index. -/
theorem point_of {p : Fin grid0.N → Fin 2 → ℕ} {b : Fin 2 → ℕ} {k N : ℕ}
    (h0 : b 0 < k) (h1 : b 1 < N) (hk : k = 32) (hN : N = 1) (hp : ∀ t, p t = ![t.val, 0]) : ∃ t, ∀ a, p t a = b a := by
  subst hk hN
  refine ⟨⟨b 0, lt_of_lt_of_eq h0 (show 32 = grid0.N from rfl)⟩, fun a => (congrFun (hp _) a).trans ?_⟩
  match a with
  | 0 => rfl
  | 1 => show 0 = b 1; omega

/-- A block, at an entry of the array. -/
theorem row_entry (o : S512x1024.Idx → EReal) (f : Fin 16384 → Fin 1024 → EReal) (t : Fin grid0.N)
    (h : ∀ (r : Fin 512) (j : Fin 1024), o (ix2 r j : S512x1024.Idx) = f (tok t r) j) {p : Fin 2 → ℕ} (hp : p = ![t.val, 0])
    (z : S512x1024.Idx) (y : S16384x1024.Idx)
    (h0 : (y (0 : Fin 2)).val = p 0 * 512 + 1 * (z (0 : Fin 2)).val) (h1 : (y (1 : Fin 2)).val = p 1 * 1024 + 1 * (z (1 : Fin 2)).val) : o z = rowsOf f y := by
  obtain ⟨r, j, rfl⟩ : ∃ (r : Fin 512) (j : Fin 1024), z = (ix2 r j : S512x1024.Idx) := ⟨_, _, eq_ix2 z⟩
  rw [h, row_idx hp r j y h0 h1, rowsOf_at]

theorem final_x : (dats m 0 c).arrAt 12 cfg0.N = rowsOf (xRes m c) := by
  refine (dats m 0 c).arrAt_eq_of_covers 12 _ (Pipeline.Window.covers_of_index_surj _ rfl
    (fun (a : Fin 2) => by match a with | 0 => exact (Nat.succ_pos 511 : 0 < 512) | 1 => exact (Nat.succ_pos 1023 : 0 < 1024))
    fun β => point_of (b := fun a => (β a).val) (β (0 : Fin 2)).isLt (β (1 : Fin 2)).isLt rfl rfl idx12) fun t hf y => ?_
  rw [after0_12, point_x]
  exact (cast_eq _ _).trans (row_entry _ _ t (fun r j => (outX_at _ _ _ _ _ _ _ _ r j).trans (xAt_tok m c t r j)) (idx12 t) _ _ rfl rfl)

theorem final_h : (dats m 0 c).arrAt 13 cfg0.N = rowsOf (hRes m c) := by
  refine (dats m 0 c).arrAt_eq_of_covers 13 _ (Pipeline.Window.covers_of_index_surj _ rfl
    (fun (a : Fin 2) => by match a with | 0 => exact (Nat.succ_pos 511 : 0 < 512) | 1 => exact (Nat.succ_pos 1023 : 0 < 1024))
    fun β => point_of (b := fun a => (β a).val) (β (0 : Fin 2)).isLt (β (1 : Fin 2)).isLt rfl rfl idx13) fun t hf y => ?_
  rw [after0_13, point_h]
  exact (cast_eq _ _).trans (row_entry _ _ t (fun r j => (outH_at _ _ _ _ _ _ _ _ _ r j).trans (hAt_tok m c t r j)) (idx13 t) _ _ rfl rfl)

/-- The run of the kernel: both results are the ones above, and the arguments are as launched. -/
theorem kernel_run (ρ : Dev nD → PrngReg) : θ_run defs (onTc (τ := τ) (main (F := Ideal))) ⟨m, fun _ => 0, ρ⟩ fun r => ∀ c : Dev nD,
    r.2.mem ((c : Thread nD τ).loc main_v10_0) = rowsOf (xRes m c)
      ∧ r.2.mem ((c : Thread nD τ).loc main_v10_1) = rowsOf (hRes m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final_x m c), (h c).2.1.trans (final_h m c), (h c).2.2.2.2⟩)
    (Value.run_blocks m ρ)

end Cert.Merge
end
-- ==== Proof.MergeRef.lean ====
module

public import proofs.«01_k».proof.Proof.Gen.Reference4Ideal.Run
public import proofs.«01_k».proof.Proof.MergeFinal
public import Idealize.ShloMosaic.Lib.Pointwise

@[expose] public section
set_option maxRecDepth 16384
noncomputable section
namespace Cert.Merge
open Idealize.ShloMosaic Idealize.ShloMosaic.TcCoe Idealize.SL.Sem
open Cert.Reference4Ideal Cert.Reference4Ideal.Gen

/-! ## The reference's two arrays, entry by entry -/

variable (x : FVec Ideal S16384x1024 .f32) (ya : FVec Ideal S16384x512 .bf16) (yr : FVec Ideal S16384x1024 .bf16) (ga gr : FVec Ideal S16384x1024 .f32)
  (wa : FVec Ideal S512x1024 .f32) (wr wo : FVec Ideal S1024x1024 .f32) (nw : FVec Ideal S1024 .f32)

/-- The reference's residual stream. -/
def refX : FVec Ideal S16384x1024 .f32 :=
  addf x (Host.dotGeneral dot_S16384x1024_S1024x1024_S16384x1024_1_0_0_1_n_n none
    (addf (mulf ga (Host.dotGeneral dot_S16384x512_S512x1024_S16384x1024_1_0_0_1_n_n none (extf .f32 ya bitsLt_bf16_f32) wa))
      (mulf gr (Host.dotGeneral dot_S16384x1024_S1024x1024_S16384x1024_1_0_0_1_n_n none (extf .f32 yr bitsLt_bf16_f32) wr))) wo)

/-- The reference's normalized activations. -/
def refH (X : FVec Ideal S16384x1024 .f32) : FVec Ideal S16384x1024 .bf16 :=
  truncf .bf16 (mulf (mulf X (broadcastInDim S16384x1024 ![0, 1] bcast_S16384x1_S16384x1024_0_1 (Host.rsqrt (addf (Host.divf (broadcastInDim S16384x1 ![0] bcast_S16384_S16384x1_0
    (Host.reduceAdd (mulf X X) (constant S_ .f32 0x00000000#32) reducesTo_S16384x1024_S16384_d1 h_S_)) (broadcastInDim S16384x1 ![] bcast_S_S16384x1 (constant S_ .f32 0x44800000#32)))
    (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 nw))) bitsLt_bf16_f32

theorem refX_at (R : Fin 16384) (j : Fin 1024) : refX x ya yr ga gr wa wr wo (ix2 R j) = xTok x ya yr ga gr wa wr wo R j := by
  unfold refX xTok mergedTok
  pointwise

theorem refH_at (R : Fin 16384) (j : Fin 1024) :
    refH nw (refX x ya yr ga gr wa wr wo) (ix2 R j) = hTok x ya yr ga gr wa wr wo nw R j := by
  unfold refH hTok
  pointwise
  simp only [refX_at]

theorem ref_x : refX x ya yr ga gr wa wr wo = rowsOf (xTok x ya yr ga gr wa wr wo) := by
  refine funext fun i => ?_
  obtain ⟨R, j, rfl⟩ : ∃ (R : Fin 16384) (j : Fin 1024), i = (ix2 R j : S16384x1024.Idx) := ⟨_, _, eq_ix2 i⟩
  exact refX_at x ya yr ga gr wa wr wo R j

theorem ref_h : refH nw (refX x ya yr ga gr wa wr wo) = rowsOf (hTok x ya yr ga gr wa wr wo nw) := by
  refine funext fun i => ?_
  obtain ⟨R, j, rfl⟩ : ∃ (R : Fin 16384) (j : Fin 1024), i = (ix2 R j : S16384x1024.Idx) := ⟨_, _, eq_ix2 i⟩
  exact refH_at x ya yr ga gr wa wr wo nw R j

end Cert.Merge
end
-- ==== Proof.MergeClaim.lean ====
module

public import proofs.«01_k».proof.Proof.Gen.Kernel4.Frame
public import proofs.«01_k».proof.Proof.MergeFinal
public import proofs.«01_k».proof.Proof.MergeRef
public import proofs.«01_k».proof.Defs
public import Idealize.ShloMosaic.Adequacy
public import Idealize.ShloMosaic.Init

@[expose] public section
set_option maxRecDepth 16384
noncomputable section
namespace Cert.Merge
open Idealize.ShloMosaic Idealize.ShloMosaic.TcCoe Idealize.SL.Sem

/-! ## The claims about the merge's call -/

/-- The kernel runs, leaves its arguments as they were and every counter at zero. -/
theorem frame_kernel : Cert.quiescent_Kernel4 := fun m ρ _ => Cert.Kernel4.Gen.frame m ρ

/-- So does the kernel read over the extended reals. -/
theorem frame_ideal : Cert.quiescent_Kernel4Ideal := fun m ρ _ => Cert.Kernel4Ideal.Gen.frame m ρ

/-- So does the reference: it has no counters. -/
theorem frame_ref : Cert.quiescent_Reference4Ideal := fun m ρ _ =>
  (θ_run Cert.Reference4Ideal.defs _ _).mono (fun r h => ⟨fun c => (h c).2.2, Idealize.ShloMosaic.sem_eq_zero_of_no_sems (by decide) r.2⟩)
    (Cert.Reference4Ideal.Value.run (F := Ideal) m ρ)

/-- Over the extended reals the kernel's residual stream and normalized activations are the reference's, on every device and for any arguments. -/
theorem value : Cert.algebraic_Kernel4Ideal_Reference4Ideal := by
  intro m ρ m' ρ' _ hagree
  refine ⟨fun c => rowsOf (xRes m c), fun c => rowsOf (hRes m c), kernel_run m ρ, ?_⟩
  refine (θ_run _ _ _).mono (fun _ h c => ?_) (Cert.Reference4Ideal.Value.run (F := Ideal) m' ρ')
  obtain ⟨a0, a1, a2, a3, a4, a5, a6, a7, a8, -⟩ := hagree c
  refine ⟨(h c).1.trans ?_, (h c).2.1.trans ?_, (h c).2.2⟩
  · rw [a0, a1, a2, a3, a4, a5, a6, a7]
    exact ref_x (A0 m c) (A1 m c) (A2 m c) (A3 m c) (A4 m c) (A5 m c) (A6 m c) (A7 m c)
  · rw [a0, a1, a2, a3, a4, a5, a6, a7, a8]
    exact ref_h (A0 m c) (A1 m c) (A2 m c) (A3 m c) (A4 m c) (A5 m c) (A6 m c) (A7 m c) (A8 m c)

end Cert.Merge
end
-- ==== Proof.RetSpec.lean ====
module

public import proofs.«01_k».proof.Proof.Gen.Reference5Ideal.Step
public import Idealize.ShloMosaic.Lib.Pointwise

@[expose] public section
set_option maxRecDepth 16384
noncomputable section
namespace Cert.Ret
open Idealize.ShloMosaic
open Cert.Reference5Ideal
open Cert.Reference5Ideal.Step (K_main_v24 K_main_v33 K_main_v42 K_main_v46)

/-! ## The retention of a head, chunk by chunk

A chunk is 128 tokens. Within it every token attends to those before it under the decay mask; from the chunks before it
reads a state of 128 × 256 numbers, which decays from chunk to chunk. -/

/-- Token `i` of chunk `n`. -/
def row (n : ℕ) (i : Fin 128) : Fin 16384 := ⟨(n * 128 + i.val) % 16384, Nat.mod_lt _ (by omega)⟩
/-- Feature `d` of head `h` in the queries and the keys, -/
def kcol (h : Fin 4) (d : Fin 128) : Fin 512 := ⟨h.val * 128 + d.val, by omega⟩
/-- and feature `v` in the values. -/
def vcol (h : Fin 4) (v : Fin 256) : Fin 1024 := ⟨h.val * 256 + v.val, by omega⟩

/-- The decays of a head: between two tokens of a chunk, up to a token from the chunk's start, from a token to the chunk's end, over a chunk. -/
def maskOf (h : Fin 4) (i j : Fin 128) : EReal := K_main_v24 (F := Ideal) (ix3 h i j : S4x128x128.Idx)
def qDecayOf (h : Fin 4) (i : Fin 128) : EReal := K_main_v33 (F := Ideal) (ix3 h i 0 : S4x128x1.Idx)
def kDecayOf (h : Fin 4) (i : Fin 128) : EReal := K_main_v42 (F := Ideal) (ix3 h i 0 : S4x128x1.Idx)
def cDecayOf (h : Fin 4) : EReal := K_main_v46 (F := Ideal) (ix3 h 0 0 : S4x1x1.Idx)

/-- A row of 256 numbers, shifted to mean 0 and scaled to variance 1. -/
def normed (y : Fin 256 → EReal) (v : Fin 256) : EReal :=
  (y v - Ideal.div (∑ u : Fin 256, y u) (Ideal.ofBits .f32 0x43800000#32))
    * Ideal.rsqrt (Ideal.div (∑ z : Fin 256, (y z - Ideal.div (∑ u : Fin 256, y u) (Ideal.ofBits .f32 0x43800000#32))
          * (y z - Ideal.div (∑ u : Fin 256, y u) (Ideal.ofBits .f32 0x43800000#32))) (Ideal.ofBits .f32 0x43800000#32)
        + Ideal.ofBits .f32 0x358637BD#32)

variable (q : FVec Ideal S16384x512 .bf16) (k : FVec Ideal S16384x512 .f32) (v : FVec Ideal S16384x1024 .bf16)
  (g : FVec Ideal S16384x1024 .f32) (w : FVec Ideal S1024 .f32)

/-- The state a head holds before chunk `n`. -/
def stateOf : ℕ → Fin 4 → Fin 128 → Fin 256 → EReal
  | 0 => fun _ _ _ => 0
  | n + 1 => fun h d u => stateOf n h d u * cDecayOf h
      + ∑ j : Fin 128, (k (ix2 (row n j) (kcol h d)) * kDecayOf h j) * v (ix2 (row n j) (vcol h u))

/-- What a head makes of a token. -/
def chunkOut (n : ℕ) (h : Fin 4) (i : Fin 128) (u : Fin 256) : EReal :=
  (∑ j : Fin 128, ((∑ d : Fin 128, q (ix2 (row n i) (kcol h d)) * k (ix2 (row n j) (kcol h d))) * maskOf h i j) * v (ix2 (row n j) (vcol h u)))
    + (∑ d : Fin 128, q (ix2 (row n i) (kcol h d)) * stateOf k v n h d u) * qDecayOf h i

/-- The call's result at a token and a feature: normalized head by head, weighted and gated. -/
def retTok (R : Fin 16384) (j : Fin 1024) : EReal :=
  g (ix2 R j) * Ideal.logistic (g (ix2 R j))
    * (normed (chunkOut q k v (R.val / 128) ⟨j.val / 256, by omega⟩ ⟨R.val % 128, Nat.mod_lt _ (by omega)⟩) ⟨j.val % 256, Nat.mod_lt _ (by omega)⟩ * w (ix1 j))

end Cert.Ret
end
-- ==== Proof.RetBody.lean ====
module

public import proofs.«01_k».proof.Proof.Gen.Kernel5Ideal.Value
public import proofs.«01_k».proof.Proof.RetSpec
public import Idealize.ShloMosaic.Lib.Pipeline.ValueKit
public import Idealize.ShloMosaic.Lib.Pipeline.ReadBack
public import Idealize.ShloMosaic.Lib.Tactic
public import Idealize.ShloMosaic.Lib.Pointwise

@[expose] public section
set_option maxRecDepth 16384
noncomputable section
namespace Cert.Ret
open Idealize.ShloMosaic Idealize.ShloMosaic.TcCoe Idealize.SL.Sem
open Cert.Kernel5Ideal Cert.Kernel5Ideal.Gen

/-! ## What a point computes: eight chunks of four heads -/

/-- The parts of the blocks that chunk `n` of head `h` reads. -/
abbrev kRect (n : Fin 8) (h : Fin 4) : Rect S1024x512 := Rect.unit (s := S1024x512) ![n.val * 128, h.val * 128] ![128, 128]
  (by intro a; match a with | 0 => show n.val * 128 + 128 ≤ 1024; omega | 1 => show h.val * 128 + 128 ≤ 512; omega)
abbrev vRect (n : Fin 8) (h : Fin 4) : Rect S1024x1024 := Rect.unit (s := S1024x1024) ![n.val * 128, h.val * 256] ![128, 256]
  (by intro a; match a with | 0 => show n.val * 128 + 128 ≤ 1024; omega | 1 => show h.val * 256 + 256 ≤ 1024; omega)
abbrev wRect (h : Fin 4) : Rect S1x1024 := Rect.unit (s := S1x1024) ![0, h.val * 256] ![1, 256]
  (by intro a; match a with | 0 => show 0 + 1 ≤ 1; omega | 1 => show h.val * 256 + 256 ≤ 1024; omega)
abbrev tRect (h : Fin 4) : Rect S4x128x128 := Rect.unit (s := S4x128x128) ![h.val, 0, 0] ![1, 128, 128]
  (by intro a; match a with | 0 => show h.val + 1 ≤ 4; omega | 1 => show 0 + 128 ≤ 128; omega | 2 => show 0 + 128 ≤ 128; omega)
abbrev sRect (h : Fin 4) : Rect S4x128x256 := Rect.unit (s := S4x128x256) ![h.val, 0, 0] ![1, 128, 256]
  (by intro a; match a with | 0 => show h.val + 1 ≤ 4; omega | 1 => show 0 + 128 ≤ 128; omega | 2 => show 0 + 256 ≤ 256; omega)
abbrev cRect (h : Fin 4) : Rect S4x1x256 := Rect.unit (s := S4x1x256) ![h.val, 0, 0] ![1, 1, 256]
  (by intro a; match a with | 0 => show h.val + 1 ≤ 4; omega | 1 => show 0 + 1 ≤ 1; omega | 2 => show 0 + 256 ≤ 256; omega)

section Body
variable {F : FTy → Type} [FloatOps F]

variable (x0 : Vec F S1024x512 .bf16) (x1 : Vec F S1024x512 .f32) (x2 : Vec F S1024x1024 .bf16) (x3 : Vec F S1024x1024 .f32) (x4 : Vec F S1x1024 .f32)
  (x5 : Vec F S4x128x128 .f32) (x6 : Vec F S4x128x256 .f32) (x7 : Vec F S4x128x128 .f32) (x8 : Vec F S4x1x256 .f32)

/-- Chunk `n` of a point. -/
abbrev ch (n : ℕ) : Fin 8 := ⟨n % 8, Nat.mod_lt _ (by omega)⟩
abbrev hd (n : ℕ) : Fin 4 := ⟨n % 4, Nat.mod_lt _ (by omega)⟩

/-- A head's state before chunk `n`, from the states `S` the point starts with. -/
def stV (S : Vec F S4x128x256 .f32) (h : Fin 4) : ℕ → FVec F S128x256 .f32
  | 0 => k0_pay3 (View.ld S (sRect h))
  | n + 1 => k0_pay8 (stV S h n) (View.ld x1 (kRect (ch n) h)) (View.ld x2 (vRect (ch n) h)) (View.ld x7 (tRect h)) (View.ld x8 (cRect h))

/-- What chunk `n` stores for a head. -/
def outV (S : Vec F S4x128x256 .f32) (h : Fin 4) (n : ℕ) : FVec F S128x256 .bf16 :=
  k0_pay141 (k0_pay138 (stV x1 x2 x7 x8 S h n) (View.ld x0 (kRect (ch n) h)) (View.ld x1 (kRect (ch n) h)) (View.ld x2 (vRect (ch n) h)) (View.ld x5 (tRect h)) (View.ld x6 (sRect h)))
    (View.ld x4 (wRect h)) (View.ld x3 (vRect (ch n) h))

/-- The first `n` stores, the last one first: chunk by chunk, and head by head in a chunk. -/
def pieces (S : Vec F S4x128x256 .f32) : ℕ → List (View.Piece (Elt F) S1024x1024 .bf16)
  | 0 => []
  | n + 1 => ⟨vRect (ch (n / 4)) (hd n), outV x0 x1 x2 x3 x4 x5 x6 x7 x8 S (hd n) (n / 4)⟩ :: pieces S n

/-- What a point stores as the states. -/
def statesV (S : Vec F S4x128x256 .f32) : List (View.Piece (Elt F) S4x128x256 .f32) :=
  [⟨sRect 3, k0_pay1 (stV x1 x2 x7 x8 S 3 8)⟩, ⟨sRect 2, k0_pay1 (stV x1 x2 x7 x8 S 2 8)⟩, ⟨sRect 1, k0_pay1 (stV x1 x2 x7 x8 S 1 8)⟩, ⟨sRect 0, k0_pay1 (stV x1 x2 x7 x8 S 0 8)⟩]

variable (c : Dev nD) (i : grid0.Coords)
  (a1 : Memref sig .tc .vmem S1024x512 .bf16) (h1 : a1.IsWhole) (a2 : Memref sig .tc .vmem S1024x512 .f32) (h2 : a2.IsWhole)
  (a3 : Memref sig .tc .vmem S1024x1024 .bf16) (h3 : a3.IsWhole) (a4 : Memref sig .tc .vmem S1024x1024 .f32) (h4 : a4.IsWhole)
  (a5 : Memref sig .tc .vmem S1x1024 .f32) (h5 : a5.IsWhole) (a6 : Memref sig .tc .vmem S4x128x128 .f32) (h6 : a6.IsWhole)
  (a7 : Memref sig .tc .vmem S4x128x256 .f32) (h7 : a7.IsWhole) (a8 : Memref sig .tc .vmem S4x128x128 .f32) (h8 : a8.IsWhole)
  (a9 : Memref sig .tc .vmem S4x1x256 .f32) (h9 : a9.IsWhole) (a10 : Memref sig .tc .vmem S1024x1024 .bf16) (h10 : a10.IsWhole)
  (a11 : Memref sig .tc .vmem S4x128x256 .f32) (h11 : a11.IsWhole) (xs0 : Vec F S4x128x256 .f32)

theorem out_B (hc0 : ¬cond0_0 i) : out0_B_9 c i a1 h1 a2 h2 a3 h3 a4 h4 a5 h5 a6 h6 a7 h7 a8 h8 a9 h9 a10 h10 a11 h11 hc0 x0 x1 x2 x3 x4 x5 x6 x7 x8 xs0 = View.canon (pieces x0 x1 x2 x3 x4 x5 x6 x7 x8 xs0 32) := by
  frame_open
  frame_out
  rfl

theorem state_B (hc0 : ¬cond0_0 i) : sout0_B_0 c i a1 h1 a2 h2 a3 h3 a4 h4 a5 h5 a6 h6 a7 h7 a8 h8 a9 h9 a10 h10 a11 h11 hc0 x0 x1 x2 x3 x4 x5 x6 x7 x8 xs0 = View.canon (statesV x1 x2 x7 x8 xs0) := by
  frame_open
  frame_out
  rfl

theorem out_A (hc0 : cond0_0 i) : out0_A_9 c i a1 h1 a2 h2 a3 h3 a4 h4 a5 h5 a6 h6 a7 h7 a8 h8 a9 h9 a10 h10 a11 h11 hc0 x0 x1 x2 x3 x4 x5 x6 x7 x8 = View.canon (pieces x0 x1 x2 x3 x4 x5 x6 x7 x8 k0_pay2 32) := by
  frame_open
  frame_out
  simp (disch := decide) only [↓ View.readCov_fill]
  rfl

theorem state_A (hc0 : cond0_0 i) : sout0_A_0 c i a1 h1 a2 h2 a3 h3 a4 h4 a5 h5 a6 h6 a7 h7 a8 h8 a9 h9 a10 h10 a11 h11 hc0 x0 x1 x2 x3 x4 x5 x6 x7 x8 =
    View.canon (statesV x1 x2 x7 x8 (k0_pay2 (F := F)) ++ [⟨Rect.unit (s := S4x128x256) ![0, 0, 0] S4x128x256.size inb_S4x128x256_S4x128x256_0_0_0, k0_pay2⟩]) := by
  frame_open
  frame_out
  simp (disch := decide) only [↓ View.readCov_fill]
  rfl

end Body

section Entries
variable (x0 : Vec Ideal S1024x512 .bf16) (x1 : Vec Ideal S1024x512 .f32) (x2 : Vec Ideal S1024x1024 .bf16) (x3 : Vec Ideal S1024x1024 .f32) (x4 : Vec Ideal S1x1024 .f32)
  (x5 : Vec Ideal S4x128x128 .f32) (x6 : Vec Ideal S4x128x256 .f32) (x7 : Vec Ideal S4x128x128 .f32) (x8 : Vec Ideal S4x1x256 .f32) (S : Vec Ideal S4x128x256 .f32)

/-- Row `i` of chunk `n` in a block. -/
abbrev brow (n : Fin 8) (i : Fin 128) : Fin 1024 := ⟨n.val * 128 + i.val, by omega⟩

/-- A state before the first chunk, -/
theorem stV_zero_at (h : Fin 4) (d : Fin 128) (u : Fin 256) : stV x1 x2 x7 x8 S h 0 (ix2 d u : S128x256.Idx) = S (ix3 h d u) := by
  pointwise [stV, k0_pay3]

/-- and after a further one. -/
theorem stV_succ_at (h : Fin 4) (n : ℕ) (d : Fin 128) (u : Fin 256) : stV x1 x2 x7 x8 S h (n + 1) (ix2 d u : S128x256.Idx)
    = stV x1 x2 x7 x8 S h n (ix2 d u : S128x256.Idx) * x8 (ix3 h 0 u)
      + ∑ j : Fin 128, (x1 (ix2 (brow (ch n) j) (kcol h d)) * x7 (ix3 h j d)) * x2 (ix2 (brow (ch n) j) (vcol h u)) := by
  pointwise [stV, k0_pay8, kcol, vcol]

/-- What a chunk makes of a token, before the normalization. -/
def rawAt (h : Fin 4) (n : ℕ) (i : Fin 128) (u : Fin 256) : EReal :=
  (∑ j : Fin 128, ((∑ d : Fin 128, x0 (ix2 (brow (ch n) i) (kcol h d)) * x1 (ix2 (brow (ch n) j) (kcol h d))) * x5 (ix3 h i j)) * x2 (ix2 (brow (ch n) j) (vcol h u)))
    + (∑ d : Fin 128, x0 (ix2 (brow (ch n) i) (kcol h d)) * stV x1 x2 x7 x8 S h n (ix2 d u : S128x256.Idx)) * x6 (ix3 h i u)

theorem raw_at (h : Fin 4) (n : ℕ) (i : Fin 128) (u : Fin 256) :
    k0_pay138 (F := Ideal) (stV x1 x2 x7 x8 S h n) (View.ld x0 (kRect (ch n) h)) (View.ld x1 (kRect (ch n) h)) (View.ld x2 (vRect (ch n) h)) (View.ld x5 (tRect h)) (View.ld x6 (sRect h)) (ix2 i u : S128x256.Idx)
      = rawAt x0 x1 x2 x5 x6 x7 x8 S h n i u := by
  pointwise [k0_pay138, rawAt, kcol, vcol]

theorem outV_at (h : Fin 4) (n : ℕ) (i : Fin 128) (u : Fin 256) :
    outV x0 x1 x2 x3 x4 x5 x6 x7 x8 S h n (ix2 i u : S128x256.Idx)
      = x3 (ix2 (brow (ch n) i) (vcol h u)) * Ideal.logistic (x3 (ix2 (brow (ch n) i) (vcol h u)))
        * (normed (rawAt x0 x1 x2 x5 x6 x7 x8 S h n i) u * x4 (ix2 0 (vcol h u))) := by
  unfold outV
  pointwise [k0_pay141, normed, raw_at, vcol]

/-- The stores of a point, read at an entry of chunk `a` and head `h`. -/
theorem pieces_at (a : Fin 8) (h : Fin 4) (i : Fin 128) (u : Fin 256) : ∀ n : ℕ, n ≤ 32 → a.val * 4 + h.val < n →
    View.canon (pieces x0 x1 x2 x3 x4 x5 x6 x7 x8 S n) (ix2 (brow a i) (vcol h u) : S1024x1024.Idx) = outV x0 x1 x2 x3 x4 x5 x6 x7 x8 S h a.val (ix2 i u : S128x256.Idx)
  | 0, _, hlt => absurd hlt (Nat.not_lt_zero _)
  | n + 1, hn, hlt => by
    show View.canon ((⟨vRect (ch (n / 4)) (hd n), outV x0 x1 x2 x3 x4 x5 x6 x7 x8 S (hd n) (n / 4)⟩ : View.Piece (Elt Ideal) S1024x1024 .bf16) :: pieces x0 x1 x2 x3 x4 x5 x6 x7 x8 S n) _ = _
    by_cases he : a.val * 4 + h.val = n
    · have e1 : ch (n / 4) = a := Fin.ext (by show n / 4 % 8 = a.val; omega)
      have e2 : hd n = h := Fin.ext (by show n % 4 = h.val; omega)
      have e3 : n / 4 = a.val := by omega
      rw [e1, e2, e3]
      have hx : (ix2 (brow a i) (vcol h u) : S1024x1024.Idx) = (vRect a h).emb (ix2 i u : S128x256.Idx) := by unfold vcol; blk_ext
      rw [hx, View.canon_cons_emb]
    · rw [View.canon_cons_of_not_mem]
      · exact pieces_at a h i u n (by omega) (by omega)
      · rw [Rect.mem_set_unit]
        intro hm
        have h0 : n / 4 % 8 * 128 ≤ a.val * 128 + i.val ∧ a.val * 128 + i.val < n / 4 % 8 * 128 + 128 := hm 0
        have h1 : n % 4 * 256 ≤ h.val * 256 + u.val ∧ h.val * 256 + u.val < n % 4 * 256 + 256 := hm 1
        omega

/-- A state that was stored last, -/
theorem state_hit (y : FVec Ideal S128x256 .f32) (L : List (View.Piece (Elt Ideal) S4x128x256 .f32)) (h : Fin 4) (d : Fin 128) (u : Fin 256) :
    View.canon ((⟨sRect h, k0_pay1 y⟩ : View.Piece (Elt Ideal) S4x128x256 .f32) :: L) (ix3 h d u : S4x128x256.Idx) = y (ix2 d u : S128x256.Idx) := by
  have hx : (ix3 h d u : S4x128x256.Idx) = (sRect h).emb (ix3 (0 : Fin 1) d u : S1x128x256.Idx) := by blk_ext
  rw [hx, View.canon_cons_emb]
  pointwise [k0_pay1]

/-- and one below another head's. -/
theorem state_skip (y : FVec Ideal S128x256 .f32) (L : List (View.Piece (Elt Ideal) S4x128x256 .f32)) {h h' : Fin 4} (hne : h ≠ h') (d : Fin 128) (u : Fin 256) :
    View.canon ((⟨sRect h', k0_pay1 y⟩ : View.Piece (Elt Ideal) S4x128x256 .f32) :: L) (ix3 h d u : S4x128x256.Idx) = View.canon L (ix3 h d u : S4x128x256.Idx) := by
  refine View.canon_cons_of_not_mem _ _ ?_
  rw [Rect.mem_set_unit]
  intro hm
  have h0 : h'.val ≤ h.val ∧ h.val < h'.val + 1 := hm 0
  exact hne (Fin.ext (by omega))

/-- The states a point leaves, read at an entry. -/
theorem states_at (L : List (View.Piece (Elt Ideal) S4x128x256 .f32)) (h : Fin 4) (d : Fin 128) (u : Fin 256) :
    View.canon (statesV x1 x2 x7 x8 S ++ L) (ix3 h d u : S4x128x256.Idx) = stV x1 x2 x7 x8 S h 8 (ix2 d u : S128x256.Idx) := by
  unfold statesV
  simp only [List.cons_append, List.nil_append]
  match h with
  | 3 => exact state_hit _ _ 3 d u
  | 2 => exact (state_skip _ _ (by decide) d u).trans (state_hit _ _ 2 d u)
  | 1 => exact (state_skip _ _ (by decide) d u).trans ((state_skip _ _ (by decide) d u).trans (state_hit _ _ 1 d u))
  | 0 => exact (state_skip _ _ (by decide) d u).trans ((state_skip _ _ (by decide) d u).trans ((state_skip _ _ (by decide) d u).trans (state_hit _ _ 0 d u)))

/-- The states the first point starts with are zero. -/
theorem zero_at (h : Fin 4) (d : Fin 128) (u : Fin 256) : k0_pay2 (F := Ideal) (ix3 h d u : S4x128x256.Idx) = 0 := by
  pointwise [k0_pay2]

end Entries
end Cert.Ret
end
-- ==== Proof.RetFinal.lean ====
module

public import proofs.«01_k».proof.Proof.RetBody
public import Idealize.ShloMosaic.Lib.Pipeline.Covers

@[expose] public section
set_option maxRecDepth 16384
noncomputable section
namespace Cert.Ret
open Idealize.ShloMosaic Idealize.ShloMosaic.TcCoe Idealize.SL.Sem Idealize.ShloMosaic.StableHlo
open Cert.Kernel5Ideal Cert.Kernel5Ideal.Gen
open Cert.Reference5Ideal.Step (K_main_v24 K_main_v33 K_main_v42 K_main_v46)

variable (m : (ℓ : Loc nD τ sig) → Buf (Elt Ideal) ℓ) (c : Dev nD)

/-! ## The buffers the host leaves for the kernel -/

theorem V_nw : V m c main_v50 = shapeCast S1x1024 (m ((c : Thread nD τ).loc main_arg4) : FVec Ideal S1024 .f32) shapeCasts_S1024_S1x1024 := by
  simp only [V, hostOps0, hostOps0_1, hostOps0_2, List.flatten_cons, List.flatten_nil, List.append_nil, List.cons_append, List.nil_append]
  after_results_simp <;> (try dsimp only [Matrix.cons_val]) <;> (try after_results_simp) <;> rfl

theorem V_mask : V m c main_v24 = K_main_v24 (F := Ideal) := by
  simp only [V, hostOps0, hostOps0_1, hostOps0_2, List.flatten_cons, List.flatten_nil, List.append_nil, List.cons_append, List.nil_append]
  after_results_simp <;> (try dsimp only [Matrix.cons_val]) <;> (try after_results_simp) <;> rfl

theorem V_qd : V m c main_v45 = broadcastInDim S4x128x256 ![0, 1, 2] bcast_S4x128x1_S4x128x256_0_1_2 (K_main_v33 (F := Ideal)) := by
  simp only [V, hostOps0, hostOps0_1, hostOps0_2, List.flatten_cons, List.flatten_nil, List.append_nil, List.cons_append, List.nil_append]
  after_results_simp <;> (try dsimp only [Matrix.cons_val]) <;> (try after_results_simp) <;> rfl

theorem V_kd : V m c main_v47 = broadcastInDim S4x128x128 ![0, 1, 2] bcast_S4x128x1_S4x128x128_0_1_2 (K_main_v42 (F := Ideal)) := by
  simp only [V, hostOps0, hostOps0_1, hostOps0_2, List.flatten_cons, List.flatten_nil, List.append_nil, List.cons_append, List.nil_append]
  after_results_simp <;> (try dsimp only [Matrix.cons_val]) <;> (try after_results_simp) <;> rfl

theorem V_cd : V m c main_v49 = broadcastInDim S4x1x256 ![0, 1, 2] bcast_S4x1x1_S4x1x256_0_1_2 (K_main_v46 (F := Ideal)) := by
  simp only [V, hostOps0, hostOps0_1, hostOps0_2, List.flatten_cons, List.flatten_nil, List.append_nil, List.cons_append, List.nil_append]
  after_results_simp <;> (try dsimp only [Matrix.cons_val]) <;> (try after_results_simp) <;> rfl

/-! ## The blocks a point reads

Point `t` reads the rows `1024 t … 1024 t + 1023` of the activations, and the tables whole. -/

/-- Token `r` of point `t`. -/
def tok (t : Fin grid0.N) (r : Fin 1024) : Fin 16384 :=
  ⟨t.val * 1024 + r.val, by have h : t.val < 16 := lt_of_lt_of_eq t.isLt (show grid0.N = 16 from rfl); omega⟩

theorem idx_in : ∀ t : Fin grid0.N, win0_0.index t = ![t.val, 0] ∧ win0_1.index t = ![t.val, 0] ∧ win0_2.index t = ![t.val, 0]
    ∧ win0_3.index t = ![t.val, 0] ∧ win0_9.index t = ![t.val, 0] := by decide +kernel
theorem idx_whole : ∀ t : Fin grid0.N, win0_4.index t = ![0, 0] ∧ win0_5.index t = ![0, 0, 0] ∧ win0_6.index t = ![0, 0, 0] ∧ win0_7.index t = ![0, 0, 0]
    ∧ win0_8.index t = ![0, 0, 0] := by decide +kernel

/-- Where an entry of a block by rows lies in the array. -/
theorem row_idx {n : ℕ} {t : Fin grid0.N} {p : Fin 2 → ℕ} (hp : p = ![t.val, 0]) (r : Fin 1024) (j : Fin n) (y : (⟨2, ![16384, n]⟩ : Shape).Idx)
    (h0 : (y 0).val = p 0 * 1024 + 1 * r.val) (h1 : (y 1).val = p 1 * n + 1 * j.val) : y = ix2 (tok t r) j := by
  subst hp
  obtain ⟨R, J, rfl⟩ : ∃ R J, y = ix2 R J := ⟨_, _, eq_ix2 y⟩
  have e0 : R = tok t r := Fin.ext (by show R.val = t.val * 1024 + r.val; simpa using h0)
  have e1 : J = j := Fin.ext (by simpa using h1)
  rw [e0, e1]

/-- An entry of a block that is the whole array lies where it did: two axes, -/
theorem whole_idx {a n : ℕ} {p : Fin 2 → ℕ} (hp : p = ![0, 0]) (y z : (⟨2, ![a, n]⟩ : Shape).Idx)
    (h0 : (y 0).val = p 0 * a + 1 * (z 0).val) (h1 : (y 1).val = p 1 * n + 1 * (z 1).val) : y = z := by
  subst hp
  refine funext fun (i : Fin 2) => Fin.ext ?_
  match i with
  | 0 => simpa using h0
  | 1 => simpa using h1

/-- and three. -/
theorem whole_idx3 {a b n : ℕ} {p : Fin 3 → ℕ} (hp : p = ![0, 0, 0]) (y z : (⟨3, ![a, b, n]⟩ : Shape).Idx)
    (h0 : (y 0).val = p 0 * a + 1 * (z 0).val) (h1 : (y 1).val = p 1 * b + 1 * (z 1).val) (h2 : (y 2).val = p 2 * n + 1 * (z 2).val) : y = z := by
  subst hp
  refine funext fun (i : Fin 3) => Fin.ext ?_
  match i with
  | 0 => simpa using h0
  | 1 => simpa using h1
  | 2 => simpa using h2

def x0 (t : Fin grid0.N) : FVec Ideal S1024x512 .bf16 := iblk m c 0 t
def x1 (t : Fin grid0.N) : FVec Ideal S1024x512 .f32 := iblk m c 1 t
def x2 (t : Fin grid0.N) : FVec Ideal S1024x1024 .bf16 := iblk m c 2 t
def x3 (t : Fin grid0.N) : FVec Ideal S1024x1024 .f32 := iblk m c 3 t
def x4 (t : Fin grid0.N) : FVec Ideal S1x1024 .f32 := iblk m c 4 t
def x5 (t : Fin grid0.N) : FVec Ideal S4x128x128 .f32 := iblk m c 5 t
def x6 (t : Fin grid0.N) : FVec Ideal S4x128x256 .f32 := iblk m c 6 t
def x7 (t : Fin grid0.N) : FVec Ideal S4x128x128 .f32 := iblk m c 7 t
def x8 (t : Fin grid0.N) : FVec Ideal S4x1x256 .f32 := iblk m c 8 t

/-- The arguments, as arrays. -/
def A0 : FVec Ideal S16384x512 .bf16 := m ((c : Thread nD τ).loc main_arg0)
def A1 : FVec Ideal S16384x512 .f32 := m ((c : Thread nD τ).loc main_arg1)
def A2 : FVec Ideal S16384x1024 .bf16 := m ((c : Thread nD τ).loc main_arg2)
def A3 : FVec Ideal S16384x1024 .f32 := m ((c : Thread nD τ).loc main_arg3)
def A4 : FVec Ideal S1024 .f32 := m ((c : Thread nD τ).loc main_arg4)

theorem x0_at (t : Fin grid0.N) (r : Fin 1024) (j : Fin 512) : x0 m c t (ix2 r j) = A0 m c (ix2 (tok t r) j) := by
  show V m c main_arg0 (((cfg0.win 0).blk t).view.emb (ix2 r j : S1024x512.Idx)) = _
  rw [V_main_arg0 m c]
  exact congrArg (A0 m c) (row_idx (idx_in t).1 r j _ rfl rfl)
theorem x1_at (t : Fin grid0.N) (r : Fin 1024) (j : Fin 512) : x1 m c t (ix2 r j) = A1 m c (ix2 (tok t r) j) := by
  show V m c main_arg1 (((cfg0.win 1).blk t).view.emb (ix2 r j : S1024x512.Idx)) = _
  rw [V_main_arg1 m c]
  exact congrArg (A1 m c) (row_idx (idx_in t).2.1 r j _ rfl rfl)
theorem x2_at (t : Fin grid0.N) (r : Fin 1024) (j : Fin 1024) : x2 m c t (ix2 r j) = A2 m c (ix2 (tok t r) j) := by
  show V m c main_arg2 (((cfg0.win 2).blk t).view.emb (ix2 r j : S1024x1024.Idx)) = _
  rw [V_main_arg2 m c]
  exact congrArg (A2 m c) (row_idx (idx_in t).2.2.1 r j _ rfl rfl)
theorem x3_at (t : Fin grid0.N) (r : Fin 1024) (j : Fin 1024) : x3 m c t (ix2 r j) = A3 m c (ix2 (tok t r) j) := by
  show V m c main_arg3 (((cfg0.win 3).blk t).view.emb (ix2 r j : S1024x1024.Idx)) = _
  rw [V_main_arg3 m c]
  exact congrArg (A3 m c) (row_idx (idx_in t).2.2.2.1 r j _ rfl rfl)

theorem x4_at (t : Fin grid0.N) (j : Fin 1024) : x4 m c t (ix2 0 j) = A4 m c (ix1 j) := by
  have h : x4 m c t (ix2 0 j) = shapeCast S1x1024 (A4 m c) shapeCasts_S1024_S1x1024 (ix2 0 j : S1x1024.Idx) := by
    show V m c main_v50 (((cfg0.win 4).blk t).view.emb (ix2 0 j : S1x1024.Idx)) = _
    rw [V_nw m c]
    exact congrArg (shapeCast S1x1024 (A4 m c) shapeCasts_S1024_S1x1024) (whole_idx (idx_whole t).1 _ (ix2 0 j : S1x1024.Idx) rfl rfl)
  rw [h]
  pointwise

theorem x5_at (t : Fin grid0.N) (h : Fin 4) (i j : Fin 128) : x5 m c t (ix3 h i j) = maskOf h i j := by
  show V m c main_v24 (((cfg0.win 5).blk t).view.emb (ix3 h i j : S4x128x128.Idx)) = _
  rw [V_mask m c]
  exact congrArg (K_main_v24 (F := Ideal)) (whole_idx3 (idx_whole t).2.1 _ (ix3 h i j : S4x128x128.Idx) rfl rfl rfl)

theorem x6_at (t : Fin grid0.N) (h : Fin 4) (i : Fin 128) (u : Fin 256) : x6 m c t (ix3 h i u) = qDecayOf h i := by
  show V m c main_v45 (((cfg0.win 6).blk t).view.emb (ix3 h i u : S4x128x256.Idx)) = _
  rw [V_qd m c, qDecayOf]
  generalize K_main_v33 (F := Ideal) = T
  have hx : (((cfg0.win 6).blk t).view.emb (ix3 h i u : S4x128x256.Idx) : S4x128x256.Idx) = (ix3 h i u : S4x128x256.Idx) := whole_idx3 (idx_whole t).2.2.1 _ _ rfl rfl rfl
  refine (congrArg (broadcastInDim S4x128x256 ![0, 1, 2] bcast_S4x128x1_S4x128x256_0_1_2 T) hx).trans ?_
  pointwise

theorem x7_at (t : Fin grid0.N) (h : Fin 4) (i d : Fin 128) : x7 m c t (ix3 h i d) = kDecayOf h i := by
  show V m c main_v47 (((cfg0.win 7).blk t).view.emb (ix3 h i d : S4x128x128.Idx)) = _
  rw [V_kd m c, kDecayOf]
  generalize K_main_v42 (F := Ideal) = T
  have hx : (((cfg0.win 7).blk t).view.emb (ix3 h i d : S4x128x128.Idx) : S4x128x128.Idx) = (ix3 h i d : S4x128x128.Idx) := whole_idx3 (idx_whole t).2.2.2.1 _ _ rfl rfl rfl
  refine (congrArg (broadcastInDim S4x128x128 ![0, 1, 2] bcast_S4x128x1_S4x128x128_0_1_2 T) hx).trans ?_
  pointwise

theorem x8_at (t : Fin grid0.N) (h : Fin 4) (u : Fin 256) : x8 m c t (ix3 h 0 u) = cDecayOf h := by
  show V m c main_v49 (((cfg0.win 8).blk t).view.emb (ix3 h 0 u : S4x1x256.Idx)) = _
  rw [V_cd m c, cDecayOf]
  generalize K_main_v46 (F := Ideal) = T
  have hx : (((cfg0.win 8).blk t).view.emb (ix3 h 0 u : S4x1x256.Idx) : S4x1x256.Idx) = (ix3 h 0 u : S4x1x256.Idx) := whole_idx3 (idx_whole t).2.2.2.2 _ _ rfl rfl rfl
  refine (congrArg (broadcastInDim S4x1x256 ![0, 1, 2] bcast_S4x1x1_S4x1x256_0_1_2 T) hx).trans ?_
  pointwise

/-! ## What a point computes -/

/-- A row of a point's chunk is a token. -/
theorem tok_row (t : Fin grid0.N) (a : Fin 8) (i : Fin 128) : tok t (brow a i) = row (t.val * 8 + a.val) i := by
  have h : t.val < 16 := lt_of_lt_of_eq t.isLt (show grid0.N = 16 from rfl)
  refine Fin.ext ?_
  show t.val * 1024 + (a.val * 128 + i.val) = ((t.val * 8 + a.val) * 128 + i.val) % 16384
  omega

/-- The call's result for a memory's arguments. -/
def res : Fin 16384 → Fin 1024 → EReal := retTok (A0 m c) (A1 m c) (A2 m c) (A3 m c) (A4 m c)

section Point
variable (t : Fin grid0.N) (S : Vec Ideal S4x128x256 .f32)
  (hS : ∀ (h : Fin 4) (d : Fin 128) (u : Fin 256), S (ix3 h d u) = stateOf (A1 m c) (A2 m c) (t.val * 8) h d u)
include hS

/-- If a point starts with the states of its first chunk, it holds each chunk's before that chunk, -/
theorem st_tok (h : Fin 4) (d : Fin 128) (u : Fin 256) : ∀ n : ℕ, n ≤ 8 →
    stV (x1 m c t) (x2 m c t) (x7 m c t) (x8 m c t) S h n (ix2 d u : S128x256.Idx) = stateOf (A1 m c) (A2 m c) (t.val * 8 + n) h d u
  | 0, _ => (stV_zero_at _ _ _ _ S h d u).trans (hS h d u)
  | n + 1, hn => by
    have e : ch n = ⟨n, hn⟩ := Fin.ext (Nat.mod_eq_of_lt hn)
    rw [stV_succ_at, st_tok h d u n (by omega), e]
    simp only [x1_at, x2_at, x7_at, x8_at, tok_row]
    rfl

/-- makes of it what the retention does, -/
theorem raw_tok (a : Fin 8) (h : Fin 4) (i : Fin 128) (u : Fin 256) :
    rawAt (x0 m c t) (x1 m c t) (x2 m c t) (x5 m c t) (x6 m c t) (x7 m c t) (x8 m c t) S h a.val i u = chunkOut (A0 m c) (A1 m c) (A2 m c) (t.val * 8 + a.val) h i u := by
  have e : ch a.val = a := Fin.ext (Nat.mod_eq_of_lt a.isLt)
  unfold rawAt chunkOut
  rw [e]
  simp only [x0_at, x1_at, x2_at, x5_at, x6_at, tok_row, st_tok m c t S hS h _ _ a.val (le_of_lt a.isLt)]

/-- and stores its result. -/
theorem out_tok (r j : Fin 1024) :
    View.canon (pieces (x0 m c t) (x1 m c t) (x2 m c t) (x3 m c t) (x4 m c t) (x5 m c t) (x6 m c t) (x7 m c t) (x8 m c t) S 32) (ix2 r j : S1024x1024.Idx) = res m c (tok t r) j := by
  obtain ⟨a, i, rfl⟩ : ∃ (a : Fin 8) (i : Fin 128), r = brow a i :=
    ⟨⟨r.val / 128, by omega⟩, ⟨r.val % 128, by omega⟩, Fin.ext (by show r.val = r.val / 128 * 128 + r.val % 128; omega)⟩
  obtain ⟨h, u, rfl⟩ : ∃ (h : Fin 4) (u : Fin 256), j = vcol h u :=
    ⟨⟨j.val / 256, by omega⟩, ⟨j.val % 256, by omega⟩, Fin.ext (by show j.val = j.val / 256 * 256 + j.val % 256; omega)⟩
  have e : ch a.val = a := Fin.ext (Nat.mod_eq_of_lt a.isLt)
  rw [pieces_at _ _ _ _ _ _ _ _ _ _ a h i u 32 le_rfl (by omega), outV_at, e]
  have hraw : rawAt (x0 m c t) (x1 m c t) (x2 m c t) (x5 m c t) (x6 m c t) (x7 m c t) (x8 m c t) S h a.val i = chunkOut (A0 m c) (A1 m c) (A2 m c) (t.val * 8 + a.val) h i :=
    funext fun u => raw_tok m c t S hS a h i u
  rw [hraw, x3_at, x4_at]
  have ht : t.val < 16 := lt_of_lt_of_eq t.isLt (show grid0.N = 16 from rfl)
  have f0 : (tok t (brow a i)).val / 128 = t.val * 8 + a.val := by show (t.val * 1024 + (a.val * 128 + i.val)) / 128 = _; omega
  have f1 : (⟨(tok t (brow a i)).val % 128, Nat.mod_lt _ (by omega)⟩ : Fin 128) = i := Fin.ext (by show (t.val * 1024 + (a.val * 128 + i.val)) % 128 = _; omega)
  have f2 : (⟨(vcol h u).val / 256, by omega⟩ : Fin 4) = h := Fin.ext (by show (h.val * 256 + u.val) / 256 = _; omega)
  have f3 : (⟨(vcol h u).val % 256, Nat.mod_lt _ (by omega)⟩ : Fin 256) = u := Fin.ext (by show (h.val * 256 + u.val) % 256 = _; omega)
  unfold res retTok
  rw [f0, f1, f2, f3]

end Point

/-! ## The points, one after another -/

/-- What a point finds as states and leaves as states and result, if the point before left the states of its end. -/
theorem points (n : ℕ) (hn : n < cfg0.N) :
    (∀ (h : Fin 4) (d : Fin 128) (u : Fin 256), (outsAt0 m c n hn).2 (ix3 h d u : S4x128x256.Idx) = stateOf (A1 m c) (A2 m c) (n * 8 + 8) h d u)
      ∧ ∀ r j : Fin 1024, (outsAt0 m c n hn).1 (ix2 r j : S1024x1024.Idx) = res m c (tok ⟨n, hn⟩ r) j := by
  induction n with
  | zero =>
    have hS : ∀ (h : Fin 4) (d : Fin 128) (u : Fin 256), k0_pay2 (F := Ideal) (ix3 h d u : S4x128x256.Idx) = stateOf (A1 m c) (A2 m c) ((⟨0, hn⟩ : Fin grid0.N).val * 8) h d u := zero_at
    rw [outsAt0_A m c ⟨0, hn⟩ rfl]
    dsimp only
    rw [out_A, state_A]
    exact ⟨fun h d u => (states_at _ _ _ _ _ _ h d u).trans (st_tok m c ⟨0, hn⟩ _ hS h d u 8 le_rfl), out_tok m c ⟨0, hn⟩ _ hS⟩
  | succ n ih =>
    have ih := ih (Nat.lt_of_succ_lt hn)
    have h16 : n + 1 < 16 := lt_of_lt_of_eq hn (show cfg0.N = 16 from rfl)
    have hS : ∀ (h : Fin 4) (d : Fin 128) (u : Fin 256), (outsAt0 m c n (Nat.lt_of_succ_lt hn)).2 (ix3 h d u : S4x128x256.Idx) = stateOf (A1 m c) (A2 m c) ((⟨n + 1, hn⟩ : Fin grid0.N).val * 8) h d u :=
      fun h d u => (ih.1 h d u).trans (congrArg (fun k => stateOf (A1 m c) (A2 m c) k h d u) (by show n * 8 + 8 = (n + 1) * 8; omega))
    rw [outsAt0_B m c ⟨n + 1, hn⟩ (by show ¬(n + 1) % 16 = 0; omega)]
    dsimp only
    rw [out_B, state_B]
    refine ⟨fun h d u => ?_, out_tok m c ⟨n + 1, hn⟩ _ hS⟩
    have e := states_at (x1 m c ⟨n + 1, hn⟩) (x2 m c ⟨n + 1, hn⟩) (x7 m c ⟨n + 1, hn⟩) (x8 m c ⟨n + 1, hn⟩) (outsAt0 m c n (Nat.lt_of_succ_lt hn)).2 [] h d u
    rw [List.append_nil] at e
    exact e.trans (st_tok m c ⟨n + 1, hn⟩ _ hS h d u 8 le_rfl)

/-! ## The array after the run -/

/-- An array with a row for each token. -/
def rowsOf (f : Fin 16384 → Fin 1024 → EReal) : S16384x1024.Idx → EReal := fun i => f (i (0 : Fin 2)) (i (1 : Fin 2))

theorem rowsOf_at (f : Fin 16384 → Fin 1024 → EReal) (R : Fin 16384) (j : Fin 1024) : rowsOf f (ix2 R j) = f R j := rfl

/-- The point whose block holds a block index. -/
theorem point_of {p : Fin grid0.N → Fin 2 → ℕ} {b : Fin 2 → ℕ} {k N : ℕ}
    (h0 : b 0 < k) (h1 : b 1 < N) (hk : k = 16) (hN : N = 1) (hp : ∀ t, p t = ![t.val, 0]) : ∃ t, ∀ a, p t a = b a := by
  subst hk hN
  refine ⟨⟨b 0, lt_of_lt_of_eq h0 (show 16 = grid0.N from rfl)⟩, fun a => (congrFun (hp _) a).trans ?_⟩
  match a with
  | 0 => rfl
  | 1 => show 0 = b 1; omega

/-- A block, at an entry of the array. -/
theorem row_entry (o : S1024x1024.Idx → EReal) (f : Fin 16384 → Fin 1024 → EReal) (t : Fin grid0.N)
    (h : ∀ (r : Fin 1024) (j : Fin 1024), o (ix2 r j : S1024x1024.Idx) = f (tok t r) j) {p : Fin 2 → ℕ} (hp : p = ![t.val, 0])
    (z : S1024x1024.Idx) (y : S16384x1024.Idx)
    (h0 : (y (0 : Fin 2)).val = p 0 * 1024 + 1 * (z (0 : Fin 2)).val) (h1 : (y (1 : Fin 2)).val = p 1 * 1024 + 1 * (z (1 : Fin 2)).val) : o z = rowsOf f y := by
  obtain ⟨r, j, rfl⟩ : ∃ (r : Fin 1024) (j : Fin 1024), z = (ix2 r j : S1024x1024.Idx) := ⟨_, _, eq_ix2 z⟩
  rw [h, row_idx hp r j y h0 h1, rowsOf_at]

theorem final : (dats m 0 c).arrAt 9 cfg0.N = rowsOf (res m c) := by
  refine (dats m 0 c).arrAt_eq_of_covers 9 _ (Pipeline.Window.covers_of_index_surj _ rfl
    (fun (a : Fin 2) => by match a with | 0 => exact (Nat.succ_pos 1023 : 0 < 1024) | 1 => exact (Nat.succ_pos 1023 : 0 < 1024))
    fun β => point_of (b := fun a => (β a).val) (β (0 : Fin 2)).isLt (β (1 : Fin 2)).isLt rfl rfl fun t => (idx_in t).2.2.2.2) fun t hf y => ?_
  rw [after0_9]
  exact (cast_eq _ _).trans (row_entry _ _ t (points m c t.val t.isLt).2 (idx_in t).2.2.2.2 _ _ rfl rfl)

/-- The run of the kernel: its result is the one above, and the arguments are as launched. -/
theorem kernel_run (ρ : Dev nD → PrngReg) : θ_run defs (onTc (τ := τ) (main (F := Ideal))) ⟨m, fun _ => 0, ρ⟩ fun r => ∀ c : Dev nD,
    r.2.mem ((c : Thread nD τ).loc main_v51) = rowsOf (res m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.Ret
end
-- ==== Proof.RetRun.lean ====
module

public import proofs.«01_k».proof.Proof.Gen.Reference5Ideal.Run
public import proofs.«01_k».proof.Proof.Gen.Reference5Ideal.Step
public import Idealize.ShloMosaic.Lib.Pointwise

@[expose] public section
set_option maxRecDepth 16384
noncomputable section
namespace Cert.Ret
open Idealize.ShloMosaic Idealize.ShloMosaic.TcCoe Idealize.SL.Sem Idealize.ShloMosaic.StableHlo
open Cert.Reference5Ideal Cert.Reference5Ideal.Gen Cert.Reference5Ideal.Value
open Cert.Reference5Ideal.Step (State step init b4 b9 b14 b27 b32 K_main_v24 K_main_v33 K_main_v42 K_main_v46 R_main_v84)

/-! ## The reference's loop over the chunks, as a sequence of states -/

/-- The loop's buffers before trip `j`: the state, the chunk's number and the decay tables. -/
structure Before (V0 : Valuation τ sig (Elt Ideal)) (s : State Ideal) (j : ℕ) : Prop where
  state : V0 (Proc.devRef .tc main_v57_8) = s.main_v57_8
  outs : V0 (Proc.devRef .tc main_v57_9) = s.main_v57_9
  qs : V0 (Proc.devRef .tc main_v57_0) = s.main_v57_0
  ks : V0 (Proc.devRef .tc main_v57_1) = s.main_v57_1
  vs : V0 (Proc.devRef .tc main_v57_2) = s.main_v57_2
  num : V0 (Proc.devRef .tc main_v57_7) = constantI S_ 32 (BitVec.ofNat 32 j)
  mask : V0 (Proc.devRef .tc main_v57_3) = K_main_v24 (F := Ideal)
  qDecay : V0 (Proc.devRef .tc main_v57_4) = K_main_v33 (F := Ideal)
  cDecay : V0 (Proc.devRef .tc main_v57_5) = K_main_v46 (F := Ideal)
  kDecay : V0 (Proc.devRef .tc main_v57_6) = K_main_v42 (F := Ideal)

section
variable {V0 : Valuation τ sig (Elt Ideal)} {s : State Ideal} {j : ℕ} (h : Before V0 s j)
include h

theorem chunk_q : res_main_while0b_v85 V0 = b4 j s := by
  unfold res_main_while0b_v85
  rw [h.qs, h.num]
  rfl

theorem chunk_k : res_main_while0b_v86 V0 = b9 j s := by
  unfold res_main_while0b_v86
  rw [h.ks, h.num]
  rfl

theorem chunk_v : res_main_while0b_v87 V0 = b14 j s := by
  unfold res_main_while0b_v87
  rw [h.vs, h.num]
  rfl

theorem next_state : step_main_v57_8 V0 = b27 j s := by
  unfold step_main_v57_8
  rw [chunk_k h, chunk_v h, h.state, h.cDecay, h.kDecay]
  rfl

theorem next_outs : step_main_v57_9 V0 = b32 j s := by
  unfold step_main_v57_9
  rw [chunk_q h, chunk_k h, chunk_v h, h.outs, h.mask, h.state, h.qDecay, h.num]
  rfl

theorem next_num : step_main_v57_7 V0 = constantI S_ 32 (BitVec.ofNat 32 (j + 1)) := by
  unfold step_main_v57_7
  rw [h.num]
  funext i
  show BitVec.ofNat 32 j + 1#32 = BitVec.ofNat 32 (j + 1)
  simp only [BitVec.ofNat_add]

theorem Before.next : Before (STEP V0) (step j s) (j + 1) where
  state := (STEP_main_v57_8 V0).trans (next_state h)
  outs := (STEP_main_v57_9 V0).trans (next_outs h)
  num := (STEP_main_v57_7 V0).trans (next_num h)
  mask := (STEP_main_v57_3 V0).trans h.mask
  qDecay := (STEP_main_v57_4 V0).trans h.qDecay
  cDecay := (STEP_main_v57_5 V0).trans h.cDecay
  kDecay := (STEP_main_v57_6 V0).trans h.kDecay
  qs := (STEP_main_v57_0 V0).trans h.qs
  ks := (STEP_main_v57_1 V0).trans h.ks
  vs := (STEP_main_v57_2 V0).trans h.vs

/-- What is made of the last state. -/
theorem last_out {g : (⟨S16384x1024, .f32⟩ : BufTy).Contents (Elt Ideal)} {w : (⟨S1024, .f32⟩ : BufTy).Contents (Elt Ideal)}
    (hg : V0 (Proc.devRef .tc main_arg3) = g) (hw : V0 (Proc.devRef .tc main_arg4) = w) : out_main_v84 V0 = R_main_v84 s g w := by
  unfold out_main_v84
  rw [h.outs, hg, hw]
  rfl
end

variable (m : (ℓ : Loc nD τ sig) → Buf (Elt Ideal) ℓ) (c : Dev nD)

/-- The state before the first trip. -/
def first : State Ideal := init (m ((c.tc : Thread nD τ).loc main_arg0)) (m ((c.tc : Thread nD τ).loc main_arg1)) (m ((c.tc : Thread nD τ).loc main_arg2))

/-- The state before trip `n`. -/
def loop : ℕ → State Ideal
  | 0 => first m c
  | n + 1 => step n (loop n)

set_option maxRecDepth 65536 in
set_option maxHeartbeats 500000 in
theorem first_before : Before (entryContents preI m c) (first m c) 0 := by
  constructor <;> (simp only [entryContents, afterL_cons, afterL_nil]; after_reads_simp) <;> rfl

theorem loop_before : ∀ k, Before (STEP^[k] (entryContents preI m c)) (loop m c k) k
  | 0 => first_before m c
  | k + 1 => by
    rw [Function.iterate_succ_apply']
    exact (loop_before k).next

/-- The reference's run: its result is made of the state after the 128 chunks, and the arguments are as launched. -/
theorem ref_run (ρ : Dev nD → PrngReg) : θ_run (defs (F := Ideal)) (onTc (τ := τ) (main (F := Ideal))) ⟨m, fun _ => 0, ρ⟩ fun r => ∀ c : Dev nD,
    r.2.mem ((c.tc : Thread nD τ).loc main_v84) = R_main_v84 (loop m c 128) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (last_out (loop_before m c 128) (iter_main_arg3 m c 128) (iter_main_arg4 m c 128)), (h c).2⟩)
    (Value.run m ρ)

end Cert.Ret
end
-- ==== Proof.RetRef.lean ====
module

public import proofs.«01_k».proof.Proof.RetRun
public import proofs.«01_k».proof.Proof.RetSpec

@[expose] public section
set_option maxRecDepth 16384
noncomputable section
namespace Cert.Ret
open Idealize.ShloMosaic Idealize.ShloMosaic.TcCoe
open Cert.Reference5Ideal Cert.Reference5Ideal.Gen Cert.Reference5Ideal.Step

/-! ## The reference computes the retention -/

theorem at4 {n0 n1 n2 n3 : ℕ} {α : Type} (f : (⟨4, ![n0, n1, n2, n3]⟩ : Shape).Idx → α) {a a' : Fin n0} {b b' : Fin n1} {c c' : Fin n2} {d d' : Fin n3}
    (ha : a.val = a'.val) (hb : b.val = b'.val) (hc : c.val = c'.val) (hd : d.val = d'.val) : f (ix4 a b c d) = f (ix4 a' b' c' d') := by
  rw [Fin.ext ha, Fin.ext hb, Fin.ext hc, Fin.ext hd]

theorem at3 {n0 n1 n2 : ℕ} {α : Type} (f : (⟨3, ![n0, n1, n2]⟩ : Shape).Idx → α) {a a' : Fin n0} {b b' : Fin n1} {c c' : Fin n2}
    (ha : a.val = a'.val) (hb : b.val = b'.val) (hc : c.val = c'.val) : f (ix3 a b c) = f (ix3 a' b' c') := by
  rw [Fin.ext ha, Fin.ext hb, Fin.ext hc]

theorem trip_start (x : Fin 128) : (BitVec.ofNat 32 x.val).toInt = x.val := by
  revert x; decide

section Trip
variable (s : State Ideal) (x : Fin 128)

/-- Where the slice of chunk `x` starts: at `x` on the first axis, at 0 on the others. -/
theorem start0 (n : ℕ) (h : (⟨4, ![1, 4, 128, n]⟩ : Shape).rank = (⟨4, ![128, 4, 128, n]⟩ : Shape).rank) (i : S_.Idx) :
    Host.clampedStart (⟨4, ![128, 4, 128, n]⟩ : Shape) (⟨4, ![1, 4, 128, n]⟩ : Shape) h
      (fun a => BitVec.toInt (![constantI S_ 32 (BitVec.ofNat 32 x.val), constantI S_ 32 0#32, constantI S_ 32 0#32, constantI S_ 32 0#32] a i)) 0 = x.val :=
  Host.clampedStart_of_le h _ 0 x.val (trip_start x) (by show x.val + 1 ≤ 128; omega)
theorem start1 (n : ℕ) (h : (⟨4, ![1, 4, 128, n]⟩ : Shape).rank = (⟨4, ![128, 4, 128, n]⟩ : Shape).rank) (i : S_.Idx) :
    Host.clampedStart (⟨4, ![128, 4, 128, n]⟩ : Shape) (⟨4, ![1, 4, 128, n]⟩ : Shape) h
      (fun a => BitVec.toInt (![constantI S_ 32 (BitVec.ofNat 32 x.val), constantI S_ 32 0#32, constantI S_ 32 0#32, constantI S_ 32 0#32] a i)) 1 = 0 :=
  Host.clampedStart_of_le h _ 1 0 rfl (by show 0 + 4 ≤ 4; omega)
theorem start2 (n : ℕ) (h : (⟨4, ![1, 4, 128, n]⟩ : Shape).rank = (⟨4, ![128, 4, 128, n]⟩ : Shape).rank) (i : S_.Idx) :
    Host.clampedStart (⟨4, ![128, 4, 128, n]⟩ : Shape) (⟨4, ![1, 4, 128, n]⟩ : Shape) h
      (fun a => BitVec.toInt (![constantI S_ 32 (BitVec.ofNat 32 x.val), constantI S_ 32 0#32, constantI S_ 32 0#32, constantI S_ 32 0#32] a i)) 2 = 0 :=
  Host.clampedStart_of_le h _ 2 0 rfl (by show 0 + 128 ≤ 128; omega)
theorem start3 (n : ℕ) (h : (⟨4, ![1, 4, 128, n]⟩ : Shape).rank = (⟨4, ![128, 4, 128, n]⟩ : Shape).rank) (i : S_.Idx) :
    Host.clampedStart (⟨4, ![128, 4, 128, n]⟩ : Shape) (⟨4, ![1, 4, 128, n]⟩ : Shape) h
      (fun a => BitVec.toInt (![constantI S_ 32 (BitVec.ofNat 32 x.val), constantI S_ 32 0#32, constantI S_ 32 0#32, constantI S_ 32 0#32] a i)) 3 = 0 :=
  Host.clampedStart_of_le h _ 3 0 rfl (by show 0 + n ≤ n; omega)

theorem trip_q (h : Fin 4) (i d : Fin 128) : b4 x.val s (ix3 h i d : S4x128x128.Idx) = s.main_v57_0 (ix4 x h i d : S128x4x128x128.Idx) := by
  pointwise [b4, b3, b2, b1, b0]
  refine at4 (n0 := 128) (n1 := 4) (n2 := 128) (n3 := 128) (α := Ideal .f32) (fun i => s.main_v57_0 i) ?_ ?_ ?_ ?_
  · exact start0 x 128 rfl _
  · exact (congrArg (· + _) (start1 x 128 rfl _)).trans (Nat.zero_add _)
  · exact (congrArg (· + _) (start2 x 128 rfl _)).trans (Nat.zero_add _)
  · exact (congrArg (· + _) (start3 x 128 rfl _)).trans (Nat.zero_add _)

theorem trip_k (h : Fin 4) (i d : Fin 128) : b9 x.val s (ix3 h i d : S4x128x128.Idx) = s.main_v57_1 (ix4 x h i d : S128x4x128x128.Idx) := by
  pointwise [b9, b8, b7, b6, b5]
  refine at4 (n0 := 128) (n1 := 4) (n2 := 128) (n3 := 128) (α := Ideal .f32) (fun i => s.main_v57_1 i) ?_ ?_ ?_ ?_
  · exact start0 x 128 rfl _
  · exact (congrArg (· + _) (start1 x 128 rfl _)).trans (Nat.zero_add _)
  · exact (congrArg (· + _) (start2 x 128 rfl _)).trans (Nat.zero_add _)
  · exact (congrArg (· + _) (start3 x 128 rfl _)).trans (Nat.zero_add _)

theorem trip_v (h : Fin 4) (i : Fin 128) (u : Fin 256) : b14 x.val s (ix3 h i u : S4x128x256.Idx) = s.main_v57_2 (ix4 x h i u : S128x4x128x256.Idx) := by
  pointwise [b14, b13, b12, b11, b10]
  refine at4 (n0 := 128) (n1 := 4) (n2 := 128) (n3 := 256) (α := Ideal .f32) (fun i => s.main_v57_2 i) ?_ ?_ ?_ ?_
  · exact start0 x 256 rfl _
  · exact (congrArg (· + _) (start1 x 256 rfl _)).trans (Nat.zero_add _)
  · exact (congrArg (· + _) (start2 x 256 rfl _)).trans (Nat.zero_add _)
  · exact (congrArg (· + _) (start3 x 256 rfl _)).trans (Nat.zero_add _)

/-- The state a trip leaves. -/
theorem trip_state (h : Fin 4) (d : Fin 128) (u : Fin 256) : b27 x.val s (ix3 h d u : S4x128x256.Idx) =
    s.main_v57_8 (ix3 h d u : S4x128x256.Idx) * cDecayOf h
      + ∑ j : Fin 128, (s.main_v57_1 (ix4 x h j d : S128x4x128x128.Idx) * kDecayOf h j) * s.main_v57_2 (ix4 x h j u : S128x4x128x256.Idx) := by
  pointwise [b27, b26, b25, b24, b23, b22]
  simp only [trip_k, trip_v]
  rfl

/-- What a trip makes of its chunk. -/
theorem trip_out (h : Fin 4) (i : Fin 128) (u : Fin 256) : b21 x.val s (ix3 h i u : S4x128x256.Idx) =
    (∑ j : Fin 128, ((∑ d : Fin 128, s.main_v57_0 (ix4 x h i d : S128x4x128x128.Idx) * s.main_v57_1 (ix4 x h j d : S128x4x128x128.Idx)) * maskOf h i j)
        * s.main_v57_2 (ix4 x h j u : S128x4x128x256.Idx))
      + (∑ d : Fin 128, s.main_v57_0 (ix4 x h i d : S128x4x128x128.Idx) * s.main_v57_8 (ix3 h d u : S4x128x256.Idx)) * qDecayOf h i := by
  pointwise [b21, b20, b19, b18, b17, b16, b15]
  simp only [trip_q, trip_k, trip_v]
  rfl

/-- A trip writes its chunk's result and leaves the others'. -/
theorem trip_outs (n : Fin 128) (h : Fin 4) (i : Fin 128) (u : Fin 256) : b32 x.val s (ix4 n h i u : S128x4x128x256.Idx) =
    if n = x then b21 x.val s (ix3 h i u : S4x128x256.Idx) else s.main_v57_9 (ix4 n h i u : S128x4x128x256.Idx) := by
  pointwise [b32, b31, b30, b29, b28]
  have e0 := start0 x 256 rfl (Shape.Idx.first h_S_)
  have e1 := start1 x 256 rfl (Shape.Idx.first h_S_)
  have e2 := start2 x 256 rfl (Shape.Idx.first h_S_)
  have e3 := start3 x 256 rfl (Shape.Idx.first h_S_)
  by_cases hn : n = x
  · rw [if_pos hn]
    refine (dif_pos ⟨⟨e0.le.trans (congrArg Fin.val hn).ge, ?_⟩, e1.le.trans (Nat.zero_le _), e2.le.trans (Nat.zero_le _), e3.le.trans (Nat.zero_le _)⟩).trans ?_
    · refine at3 (n0 := 4) (n1 := 128) (n2 := 256) (α := Ideal .f32) (fun i => b21 x.val s i) ?_ ?_ ?_
      · exact (congrArg (h.val - ·) e1).trans (Nat.sub_zero _)
      · exact (congrArg (i.val - ·) e2).trans (Nat.sub_zero _)
      · exact (congrArg (u.val - ·) e3).trans (Nat.sub_zero _)
    · exact Nat.lt_succ_of_le ((congrArg Fin.val hn).le.trans e0.ge)
  · rw [if_neg hn]
    refine dif_neg fun hc => hn (Fin.ext (Nat.le_antisymm ?_ ?_))
    · exact (Nat.lt_succ_iff.mp hc.1.2).trans e0.le
    · exact e0.ge.trans hc.1.1

end Trip

section Loop
variable (q : FVec Ideal S16384x512 .bf16) (k : FVec Ideal S16384x512 .f32) (v : FVec Ideal S16384x1024 .bf16)
  (g : FVec Ideal S16384x1024 .f32) (w : FVec Ideal S1024 .f32)

theorem row_lt (n i : Fin 128) : (row n.val i).val = n.val * 128 + i.val := Nat.mod_eq_of_lt (by omega)

/-- The queries, the keys and the values, chunk by chunk and head by head. -/
theorem chunk_q_at (n : Fin 128) (h : Fin 4) (i d : Fin 128) : A_main_v50 (F := Ideal) q k v (ix4 n h i d : S128x4x128x128.Idx) = q (ix2 (row n.val i) (kcol h d)) := by
  pointwise [A_main_v50, A_main_v49, A_main_v48]
  rw [show row n.val i = (⟨n.val * 128 + i.val, by omega⟩ : Fin 16384) from Fin.ext (row_lt n i)]
  rfl
theorem chunk_k_at (n : Fin 128) (h : Fin 4) (i d : Fin 128) : A_main_v52 (F := Ideal) q k v (ix4 n h i d : S128x4x128x128.Idx) = k (ix2 (row n.val i) (kcol h d)) := by
  pointwise [A_main_v52, A_main_v51]
  rw [show row n.val i = (⟨n.val * 128 + i.val, by omega⟩ : Fin 16384) from Fin.ext (row_lt n i)]
  rfl
theorem chunk_v_at (n : Fin 128) (h : Fin 4) (i : Fin 128) (u : Fin 256) : A_main_v55 (F := Ideal) q k v (ix4 n h i u : S128x4x128x256.Idx) = v (ix2 (row n.val i) (vcol h u)) := by
  pointwise [A_main_v55, A_main_v54, A_main_v53]
  rw [show row n.val i = (⟨n.val * 128 + i.val, by omega⟩ : Fin 16384) from Fin.ext (row_lt n i)]
  rfl

/-- What is made of the last state, at a token and a feature. -/
theorem result_at (s : State Ideal) (R : Fin 16384) (j : Fin 1024) : R_main_v84 s g w (ix2 R j : S16384x1024.Idx) =
    g (ix2 R j) * Ideal.logistic (g (ix2 R j))
      * (normed (fun u => s.main_v57_9 (ix4 (⟨R.val / 128, by omega⟩ : Fin 128) (⟨j.val / 256, by omega⟩ : Fin 4) (⟨R.val % 128, Nat.mod_lt _ (by omega)⟩ : Fin 128) u : S128x4x128x256.Idx))
          ⟨j.val % 256, Nat.mod_lt _ (by omega)⟩ * w (ix1 j)) := by
  pointwise [R_main_v84, normed]
  rfl

variable (m : (ℓ : Loc nD τ sig) → Buf (Elt Ideal) ℓ) (c : Dev nD)

/-- After `n` chunks the loop holds the state before chunk `n`, and the results of the chunks before it. -/
theorem trips (hq : m ((c.tc : Thread nD τ).loc main_arg0) = q) (hk : m ((c.tc : Thread nD τ).loc main_arg1) = k) (hv : m ((c.tc : Thread nD τ).loc main_arg2) = v)
    (n : ℕ) (hn : n ≤ 128) :
    (loop m c n).main_v57_0 = A_main_v50 (F := Ideal) q k v ∧ (loop m c n).main_v57_1 = A_main_v52 (F := Ideal) q k v ∧ (loop m c n).main_v57_2 = A_main_v55 (F := Ideal) q k v
      ∧ (∀ (h : Fin 4) (d : Fin 128) (u : Fin 256), (loop m c n).main_v57_8 (ix3 h d u : S4x128x256.Idx) = stateOf k v n h d u)
      ∧ ∀ (x : Fin 128) (h : Fin 4) (i : Fin 128) (u : Fin 256), x.val < n → (loop m c n).main_v57_9 (ix4 x h i u : S128x4x128x256.Idx) = chunkOut q k v x.val h i u := by
  induction n with
  | zero =>
    subst hq hk hv
    refine ⟨rfl, rfl, rfl, fun h d u => ?_, fun x _ _ _ hx => absurd hx (Nat.not_lt_zero _)⟩
    show K_main_v47 (F := Ideal) (ix3 h d u : S4x128x256.Idx) = 0
    pointwise [K_main_v47, K_main_cst_8]
  | succ n ih =>
    obtain ⟨e0, e1, e2, e8, e9⟩ := ih (by omega)
    refine ⟨e0, e1, e2, fun h d u => ?_, fun x h i u hx => ?_⟩
    · refine Eq.trans (show _ = b27 n (loop m c n) (ix3 h d u : S4x128x256.Idx) from rfl) ((trip_state (loop m c n) ⟨n, by omega⟩ h d u).trans ?_)
      simp only [e1, e2, e8, chunk_k_at, chunk_v_at]
      rfl
    · refine Eq.trans (show _ = b32 n (loop m c n) (ix4 x h i u : S128x4x128x256.Idx) from rfl) ((trip_outs (loop m c n) ⟨n, by omega⟩ x h i u).trans ?_)
      split
      · rename_i hx'
        rw [trip_out, show x.val = n from congrArg Fin.val hx']
        simp only [e0, e1, e2, e8, chunk_q_at, chunk_k_at, chunk_v_at]
        rfl
      · rename_i hx'
        exact e9 x h i u (lt_of_le_of_ne (Nat.lt_succ_iff.mp hx) fun e => hx' (Fin.ext e))

/-- The reference's result. -/
theorem ref_at (hq : m ((c.tc : Thread nD τ).loc main_arg0) = q) (hk : m ((c.tc : Thread nD τ).loc main_arg1) = k) (hv : m ((c.tc : Thread nD τ).loc main_arg2) = v)
    (R : Fin 16384) (j : Fin 1024) : R_main_v84 (loop m c 128) g w (ix2 R j : S16384x1024.Idx) = retTok q k v g w R j := by
  rw [result_at, retTok]
  have e := (trips q k v m c hq hk hv 128 le_rfl).2.2.2.2
  simp only [e _ _ _ _ (Fin.isLt _)]

end Loop

end Cert.Ret
end
-- ==== Proof.RetClaim.lean ====
module

public import proofs.«01_k».proof.Proof.Gen.Kernel5.Frame
public import proofs.«01_k».proof.Proof.RetFinal
public import proofs.«01_k».proof.Proof.RetRef
public import proofs.«01_k».proof.Defs
public import Idealize.ShloMosaic.Adequacy
public import Idealize.ShloMosaic.Init

@[expose] public section
set_option maxRecDepth 16384
noncomputable section
namespace Cert.Ret
open Idealize.ShloMosaic Idealize.ShloMosaic.TcCoe Idealize.SL.Sem

/-! ## The claims about the retention's call -/

/-- The kernel runs, leaves its arguments as they were and every counter at zero. -/
theorem frame_kernel : Cert.quiescent_Kernel5 := fun m ρ _ => Cert.Kernel5.Gen.frame m ρ

/-- So does the kernel read over the extended reals. -/
theorem frame_ideal : Cert.quiescent_Kernel5Ideal := fun m ρ _ => Cert.Kernel5Ideal.Gen.frame m ρ

/-- So does the reference: it has no counters. -/
theorem frame_ref : Cert.quiescent_Reference5Ideal := fun m ρ _ =>
  (θ_run Cert.Reference5Ideal.defs _ _).mono (fun r h => ⟨fun c => (h c).2, Idealize.ShloMosaic.sem_eq_zero_of_no_sems (by decide) r.2⟩)
    (ref_run m ρ)

/-- Over the extended reals the kernel's result is the reference's, on every device and for any arguments. -/
theorem value : Cert.algebraic_Kernel5Ideal_Reference5Ideal := by
  intro m ρ m' ρ' _ hagree
  refine ⟨fun c => rowsOf (res m c), kernel_run m ρ, ?_⟩
  refine (θ_run _ _ _).mono (fun _ h c => ?_) (ref_run m' ρ')
  obtain ⟨a0, a1, a2, a3, a4⟩ := hagree c
  refine ⟨(h c).1.trans ?_, (h c).2⟩
  rw [a3, a4]
  funext (y : Cert.Reference5Ideal.S16384x1024.Idx)
  obtain ⟨R, j, rfl⟩ : ∃ (R : Fin 16384) (j : Fin 1024), y = ix2 R j := ⟨_, _, eq_ix2 y⟩
  exact ref_at (A0 m c) (A1 m c) (A2 m c) (A3 m c) (A4 m c) m' c a0 a1 a2 R j

end Cert.Ret
end
-- ==== Proof.lean ====
module

public import proofs.«01_k».proof.Defs
public import proofs.«01_k».proof.Proof.MoeClaim
public import proofs.«01_k».proof.Proof.ProjClaim
public import proofs.«01_k».proof.Proof.CmpClaim
public import proofs.«01_k».proof.Proof.MergeClaim
public import proofs.«01_k».proof.Proof.RetClaim

@[expose] public section

noncomputable section

namespace Cert.Proof

/-- Everything claimed: the programs' side conditions, the frames, the idealizations, and the values. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_groups_in_range.Gen.facts,
  Cert.Moe.frame_kernel, Cert.Moe.frame_ideal, Cert.Moe.frame_ref, Cert.Proj.frame_kernel, Cert.Proj.frame_ideal, Cert.Proj.frame_ref,
  Cert.Cmp.frame_kernel, Cert.Cmp.frame_ideal, Cert.Cmp.frame_ref, Cert.Merge.frame_kernel, Cert.Merge.frame_ideal, Cert.Merge.frame_ref,
  Cert.Ret.frame_kernel, Cert.Ret.frame_ideal, Cert.Ret.frame_ref,
  trivial, Cert.Moe.value, trivial, Cert.Proj.value, trivial, Cert.Cmp.value, trivial, Cert.Merge.value,
  trivial, Cert.Ret.value⟩

end Cert.Proof

end
